-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)) (v5 : (c : Dev Cert.KernelIdeal.nD) → Buf (Elt Ideal) ((c.tc : Thread Cert.KernelIdeal.nD Cert.KernelIdeal.τ).loc Cert.KernelIdeal.main_v29_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_v29_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_v70) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v65) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)) (v3 : (c : Dev Cert.Kernel12Ideal.nD) → Buf (Elt Ideal) ((c.tc : Thread Cert.Kernel12Ideal.nD Cert.Kernel12Ideal.τ).loc Cert.Kernel12Ideal.main_v6_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_v6_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_v12) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v42_0)) (v1 : (c : Dev Cert.Kernel14Ideal.nD) → Buf (Elt Ideal) ((c.tc : Thread Cert.Kernel14Ideal.nD Cert.Kernel14Ideal.τ).loc Cert.Kernel14Ideal.main_v42_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v42_0) = v0 c
          ∧ r.2.mem ((c.tc : Thread Cert.Kernel14Ideal.nD Cert.Kernel14Ideal.τ).loc Cert.Kernel14Ideal.main_v42_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v81) = v0 c
          ∧ r.2.mem ((c.tc : Thread Cert.Reference14Ideal.nD Cert.Reference14Ideal.τ).loc Cert.Reference14Ideal.main_v84) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v40_0)) (v1 : (c : Dev Cert.Kernel15Ideal.nD) → Buf (Elt Ideal) ((c.tc : Thread Cert.Kernel15Ideal.nD Cert.Kernel15Ideal.τ).loc Cert.Kernel15Ideal.main_v40_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v40_0) = v0 c
          ∧ r.2.mem ((c.tc : Thread Cert.Kernel15Ideal.nD Cert.Kernel15Ideal.τ).loc Cert.Kernel15Ideal.main_v40_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v75) = v0 c
          ∧ r.2.mem ((c.tc : Thread Cert.Reference15Ideal.nD Cert.Reference15Ideal.τ).loc Cert.Reference15Ideal.main_v77) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)) (v3 : (c : Dev Cert.Kernel16Ideal.nD) → Buf (Elt Ideal) ((c.tc : Thread Cert.Kernel16Ideal.nD Cert.Kernel16Ideal.τ).loc Cert.Kernel16Ideal.main_v6_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_v6_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v34) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x1024 : Shape := ⟨2, ![4096, 1024]⟩
abbrev S1x1024 : Shape := ⟨2, ![1, 1024]⟩
abbrev S4096x256 : Shape := ⟨2, ![4096, 256]⟩
abbrev S256x1024 : Shape := ⟨2, ![256, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg6 : FVec F S4096x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096x1024 .f32 := Host.absf main_arg6
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024 .f32) (main_arg3 : FVec F S4096x256 .f32) (main_arg4 : FVec F S256x1024 .f32) (main_arg5 : FVec F S1024x1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg5 main_arg6 main_v13 main_v16
-- ==== Pre_finite3.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg5 : FVec F S4096x1024 .f32) (main_arg6 : FVec F S4096x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024x4096 .f32) (main_arg5 : FVec F S4096x1024 .f32) (main_arg6 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_v13 main_v16
-- ==== Pre_finite6.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1x1024 .f32) (main_arg3 : FVec F S1024x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x1024 : Shape := ⟨2, ![4096, 1024]⟩
abbrev S1x1024 : Shape := ⟨2, ![1, 1024]⟩
abbrev S4096x256 : Shape := ⟨2, ![4096, 256]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1x256x1024 : Shape := ⟨3, ![1, 256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 47
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x256, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S4096x1024, .bf16⟩
  | .hbm, ⟨39, _⟩ => ⟨S1024x1024, .bf16⟩
  | .hbm, ⟨40, _⟩ => ⟨S1x1024x1024, .bf16⟩
  | .hbm, ⟨41, _⟩ => ⟨S4096x1024, .f32⟩
  | .hbm, ⟨42, _⟩ => ⟨S4096x1024, .bf16⟩
  | .hbm, ⟨43, _⟩ => ⟨S1x1024, .f32⟩
  | .hbm, ⟨44, _⟩ => ⟨S1x1024, .f32⟩
  | .hbm, ⟨45, _⟩ => ⟨S1x1024x1024, .bf16⟩
  | .hbm, ⟨46, _⟩ => ⟨S1x256x1024, .bf16⟩
  | .local _ .vmem, ⟨0, _⟩ => ⟨S1x1024x1024, .bf16⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x1024, .bf16⟩
  | .local _ .vmem, ⟨21, _⟩ => ⟨S1x256x1024, .bf16⟩
  | .local _ .vmem, ⟨22, _⟩ => ⟨S1024x1024, .f32⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev main_v29_5 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_39 : BitVec 32 := 0#32
  let v89 : BitVec 1 := Scalar.cmpi .ne v88 c0_i32_39
  v89

def k0_cond2 (i : grid0.Coords) : BitVec 1 :=
  let arg0 : BitVec 32 := BitVec.ofNat 32 (i 0).val
  let c0_i32_40 : BitVec 32 := 0#32
  let v90 : BitVec 1 := Scalar.cmpi .sgt arg0 c0_i32_40
  let v91 : BitVec 32 := Scalar.extui v90
  let c0_i32_41 : BitVec 32 := 0#32
  let v92 : BitVec 1 := Scalar.cmpi .ne v91 c0_i32_41
  v92

def k0_cond3 (i : grid0.Coords) : BitVec 1 :=
  let arg0 : BitVec 32 := BitVec.ofNat 32 (i 0).val
  let c0_i32_42 : BitVec 32 := 0#32
  let v93 : BitVec 1 := Scalar.cmpi .eq arg0 c0_i32_42
  let v94 : BitVec 32 := Scalar.extui v93
  let c0_i32_43 : BitVec 32 := 0#32
  let v95 : BitVec 1 := Scalar.cmpi .ne v94 c0_i32_43
  v95

def k0_cond4 (i : grid0.Coords) : BitVec 1 :=
  let arg0 : BitVec 32 := BitVec.ofNat 32 (i 0).val
  let c0_i32_44 : BitVec 32 := 0#32
  let v96 : BitVec 1 := Scalar.cmpi .sgt arg0 c0_i32_44
  let v97 : BitVec 32 := Scalar.extui v96
  let c0_i32_45 : BitVec 32 := 0#32
  let v98 : BitVec 1 := Scalar.cmpi .ne v97 c0_i32_45
  v98

def k0_cond7 (i : grid0.Coords) : BitVec 1 :=
  let arg0 : BitVec 32 := BitVec.ofNat 32 (i 0).val
  let c7_i32 : BitVec 32 := 7#32
  let v108 : BitVec 1 := Scalar.cmpi .eq arg0 c7_i32
  let v109 : BitVec 32 := Scalar.extui v108
  let c0_i32_53 : BitVec 32 := 0#32
  let v110 : BitVec 1 := Scalar.cmpi .ne v109 c0_i32_53
  v110

def k0_cond10 (i : grid0.Coords) : BitVec 1 :=
  let arg0 : BitVec 32 := BitVec.ofNat 32 (i 0).val
  let c7_i32_61 : BitVec 32 := 7#32
  let v120 : BitVec 1 := Scalar.cmpi .eq arg0 c7_i32_61
  let v121 : BitVec 32 := Scalar.extui v120
  let c0_i32_62 : BitVec 32 := 0#32
  let v122 : BitVec 1 := Scalar.cmpi .ne v121 c0_i32_62
  v122

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== ReferenceIdeal.lean ====
abbrev S4096x1024 : Shape := ⟨2, ![4096, 1024]⟩
abbrev S1x1024 : Shape := ⟨2, ![1, 1024]⟩
abbrev S4096x256 : Shape := ⟨2, ![4096, 256]⟩
abbrev S256x1024 : Shape := ⟨2, ![256, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩
abbrev S1x1024x1024 : Shape := ⟨3, ![1, 1024, 1024]⟩
abbrev S1x256x1024 : Shape := ⟨3, ![1, 256, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x256, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S4096x1024, .f32⟩
  | .hbm, ⟨65, _⟩ => ⟨S4096x1024, .f32⟩
  | .hbm, ⟨66, _⟩ => ⟨S1024x256, .f32⟩
  | .hbm, ⟨67, _⟩ => ⟨S256x1024, .f32⟩
  | .hbm, ⟨68, _⟩ => ⟨S4096x256, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x1024, .bf16⟩
  | .hbm, ⟨110, _⟩ => ⟨S1024x1024, .bf16⟩
  | .hbm, ⟨111, _⟩ => ⟨S1x1024x1024, .bf16⟩
  | .hbm, ⟨112, _⟩ => ⟨S256x1024, .bf16⟩
  | .hbm, ⟨113, _⟩ => ⟨S1x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S1x4096x1024 : Shape := ⟨3, ![1, 4096, 1024]⟩
abbrev S8x1024x512 : Shape := ⟨3, ![8, 1024, 512]⟩
abbrev S1024x1024 : Shape := ⟨2, ![1024, 1024]⟩
abbrev S1x1024x1024 : Shape := ⟨3, ![1, 1024, 1024]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .bf16⟩
  | .hbm, ⟨9, _⟩ => ⟨S1x4096x1024, .bf16⟩
  | .hbm, ⟨10, _⟩ => ⟨S4096x4096, .bf16⟩
  | .hbm, ⟨11, _⟩ => ⟨S8x1024x512, .bf16⟩
  | .hbm, ⟨12, _⟩ => ⟨S1x4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2x1024x512, .bf16⟩
  | .local _ .vmem, ⟨11, _⟩ => ⟨S2x1024x512, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond5 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩
abbrev S1x4096x1024 : Shape := ⟨3, ![1, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S1024x8x512, .f32⟩
  | .hbm, ⟨28, _⟩ => ⟨S8x1024x512, .f32⟩
  | .hbm, ⟨29, _⟩ => ⟨S4096x4096, .bf16⟩
  | .hbm, ⟨30, _⟩ => ⟨S8x1024x512, .bf16⟩
  | .hbm, ⟨31, _⟩ => ⟨S4096x1024, .bf16⟩
  | .hbm, ⟨32, _⟩ => ⟨S1x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S4096x1024, .f32⟩
  | .hbm, ⟨11, _⟩ => ⟨S4096x1024, .f32⟩
  | .hbm, ⟨12, _⟩ => ⟨S4096x4096, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v110 : BitVec 1 := Scalar.cmpi .eq arg0 c0_i32
  let v111 : BitVec 32 := Scalar.extui v110
  let c0_i32_59 : BitVec 32 := 0#32
  let v112 : BitVec 1 := Scalar.cmpi .ne v111 c0_i32_59
  v112

def k0_cond2 (i : grid0.Coords) : BitVec 1 :=
  let arg0 : BitVec 32 := BitVec.ofNat 32 (i 0).val
  let c0_i32_60 : BitVec 32 := 0#32
  let v113 : BitVec 1 := Scalar.cmpi .sgt arg0 c0_i32_60
  let v114 : BitVec 32 := Scalar.extui v113
  let c0_i32_61 : BitVec 32 := 0#32
  let v115 : BitVec 1 := Scalar.cmpi .ne v114 c0_i32_61
  v115

def k0_cond3 (i : grid0.Coords) : BitVec 1 :=
  let arg0 : BitVec 32 := BitVec.ofNat 32 (i 0).val
  let c0_i32_62 : BitVec 32 := 0#32
  let v116 : BitVec 1 := Scalar.cmpi .eq arg0 c0_i32_62
  let v117 : BitVec 32 := Scalar.extui v116
  let c0_i32_63 : BitVec 32 := 0#32
  let v118 : BitVec 1 := Scalar.cmpi .ne v117 c0_i32_63
  v118

def k0_cond4 (i : grid0.Coords) : BitVec 1 :=
  let arg0 : BitVec 32 := BitVec.ofNat 32 (i 0).val
  let c0_i32_64 : BitVec 32 := 0#32
  let v119 : BitVec 1 := Scalar.cmpi .sgt arg0 c0_i32_64
  let v120 : BitVec 32 := Scalar.extui v119
  let c0_i32_65 : BitVec 32 := 0#32
  let v121 : BitVec 1 := Scalar.cmpi .ne v120 c0_i32_65
  v121

def k0_cond5 (i : grid0.Coords) : BitVec 1 :=
  let arg0 : BitVec 32 := BitVec.ofNat 32 (i 0).val
  let c0_i32_67 : BitVec 32 := 0#32
  let v124 : BitVec 1 := Scalar.cmpi .eq arg0 c0_i32_67
  let v125 : BitVec 32 := Scalar.extui v124
  let c0_i32_68 : BitVec 32 := 0#32
  let v126 : BitVec 1 := Scalar.cmpi .ne v125 c0_i32_68
  v126

def k0_cond6 (i : grid0.Coords) : BitVec 1 :=
  let arg0 : BitVec 32 := BitVec.ofNat 32 (i 0).val
  let c0_i32_69 : BitVec 32 := 0#32
  let v127 : BitVec 1 := Scalar.cmpi .sgt arg0 c0_i32_69
  let v128 : BitVec 32 := Scalar.extui v127
  let c0_i32_70 : BitVec 32 := 0#32
  let v129 : BitVec 1 := Scalar.cmpi .ne v128 c0_i32_70
  v129

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference3Ideal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x4096, .f32⟩
  | .hbm, ⟨47, _⟩ => ⟨S4096x1024, .f32⟩
  | .hbm, ⟨48, _⟩ => ⟨S1024x4096, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S1x1024 : Shape := ⟨2, ![1, 1024]⟩
abbrev S4096x4096 : Shape := ⟨2, ![4096, 4096]⟩
abbrev S1x4096x1024 : Shape := ⟨3, ![1, 4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S1x4096x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference5Ideal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 49
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S1x1024x1024, .bf16⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S4096x1024, .f32⟩
  | .hbm, ⟨46, _⟩ => ⟨S1x1024, .f32⟩
  | .hbm, ⟨47, _⟩ => ⟨S1x1024, .f32⟩
  | .hbm, ⟨48, _⟩ => ⟨S1x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024x1024, .bf16⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v98 : BitVec 1 := Scalar.cmpi .eq arg0 c0_i32
  let v99 : BitVec 32 := Scalar.extui v98
  let c0_i32_42 : BitVec 32 := 0#32
  let v100 : BitVec 1 := Scalar.cmpi .ne v99 c0_i32_42
  v100

def k0_cond2 (i : grid0.Coords) : BitVec 1 :=
  let arg0 : BitVec 32 := BitVec.ofNat 32 (i 0).val
  let c0_i32_43 : BitVec 32 := 0#32
  let v101 : BitVec 1 := Scalar.cmpi .sgt arg0 c0_i32_43
  let v102 : BitVec 32 := Scalar.extui v101
  let c0_i32_44 : BitVec 32 := 0#32
  let v103 : BitVec 1 := Scalar.cmpi .ne v102 c0_i32_44
  v103

def k0_cond3 (i : grid0.Coords) : BitVec 1 :=
  let arg0 : BitVec 32 := BitVec.ofNat 32 (i 0).val
  let c0_i32_45 : BitVec 32 := 0#32
  let v104 : BitVec 1 := Scalar.cmpi .eq arg0 c0_i32_45
  let v105 : BitVec 32 := Scalar.extui v104
  let c0_i32_46 : BitVec 32 := 0#32
  let v106 : BitVec 1 := Scalar.cmpi .ne v105 c0_i32_46
  v106

def k0_cond4 (i : grid0.Coords) : BitVec 1 :=
  let arg0 : BitVec 32 := BitVec.ofNat 32 (i 0).val
  let c0_i32_47 : BitVec 32 := 0#32
  let v107 : BitVec 1 := Scalar.cmpi .sgt arg0 c0_i32_47
  let v108 : BitVec 32 := Scalar.extui v107
  let c0_i32_48 : BitVec 32 := 0#32
  let v109 : BitVec 1 := Scalar.cmpi .ne v108 c0_i32_48
  v109

def k0_cond7 (i : grid0.Coords) : BitVec 1 :=
  let arg0 : BitVec 32 := BitVec.ofNat 32 (i 0).val
  let c7_i32 : BitVec 32 := 7#32
  let v121 : BitVec 1 := Scalar.cmpi .eq arg0 c7_i32
  let v122 : BitVec 32 := Scalar.extui v121
  let c0_i32_58 : BitVec 32 := 0#32
  let v123 : BitVec 1 := Scalar.cmpi .ne v122 c0_i32_58
  v123

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference6Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1024x1024 : Shape := ⟨3, ![1, 1024, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S1024x1024, .bf16⟩
  | .hbm, ⟨101, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S1x1024x1024, .bf16⟩
  | .hbm, ⟨6, _⟩ => ⟨S4096x1024, .bf16⟩
  | .hbm, ⟨7, _⟩ => ⟨S4096x1024, .bf16⟩
  | .hbm, ⟨8, _⟩ => ⟨S1x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== Reference7Ideal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x2048 : Shape := ⟨2, ![1024, 2048]⟩
abbrev S4096x2048 : Shape := ⟨2, ![4096, 2048]⟩
abbrev S8x1024x256 : Shape := ⟨3, ![8, 1024, 256]⟩
abbrev S4096x512 : Shape := ⟨2, ![4096, 512]⟩
abbrev S2x512x256 : Shape := ⟨3, ![2, 512, 256]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S8x1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S2x512x256, .bf16⟩
  | .local _ .vmem, ⟨5, _⟩ => ⟨S2x512x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S512x1024 : Shape := ⟨2, ![512, 1024]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S4096x1024, .f32⟩
  | .hbm, ⟨4, _⟩ => ⟨S4096x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S4096x2048, .bf16⟩
  | .hbm, ⟨9, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v31 : BitVec 1 := Scalar.cmpi .eq arg2 c1_i32
  let v32 : BitVec 32 := Scalar.extui v31
  let c0_i32_21 : BitVec 32 := 0#32
  let v33 : BitVec 1 := Scalar.cmpi .ne v32 c0_i32_21
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S4096x1024, .f32⟩
  | .hbm, ⟨4, _⟩ => ⟨S4096x2048, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S1024x1024, .bf16⟩
  | .hbm, ⟨8, _⟩ => ⟨S1x1024x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S1x1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel12.lean ====
abbrev S4096x256 : Shape := ⟨2, ![4096, 256]⟩
abbrev S256x1024 : Shape := ⟨2, ![256, 1024]⟩
abbrev S4096x1024 : Shape := ⟨2, ![4096, 1024]⟩
abbrev S1024x1024 : Shape := ⟨2, ![1024, 1024]⟩
abbrev S1x256x1024 : Shape := ⟨3, ![1, 256, 1024]⟩
abbrev S1x1024x1024 : Shape := ⟨3, ![1, 1024, 1024]⟩
abbrev S512x256 : Shape := ⟨2, ![512, 256]⟩
abbrev S512x1024 : Shape := ⟨2, ![512, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S1024x1024, .f32⟩
  | .hbm, ⟨4, _⟩ => ⟨S4096x256, .bf16⟩
  | .hbm, ⟨5, _⟩ => ⟨S256x1024, .bf16⟩
  | .hbm, ⟨6, _⟩ => ⟨S1x256x1024, .bf16⟩
  | .hbm, ⟨7, _⟩ => ⟨S4096x1024, .bf16⟩
  | .hbm, ⟨8, _⟩ => ⟨S1024x1024, .bf16⟩
  | .hbm, ⟨9, _⟩ => ⟨S1x1024x1024, .bf16⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference12Ideal.lean ====
abbrev S4096x256 : Shape := ⟨2, ![4096, 256]⟩
abbrev S256x1024 : Shape := ⟨2, ![256, 1024]⟩
abbrev S4096x1024 : Shape := ⟨2, ![4096, 1024]⟩
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel13.lean ====
abbrev S4096x1024 : Shape := ⟨2, ![4096, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S512x1024 : Shape := ⟨2, ![512, 1024]⟩
abbrev S2x1024x256 : Shape := ⟨3, ![2, 1024, 256]⟩
abbrev S1x512 : Shape := ⟨2, ![1, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S2x1024x256, .bf16⟩
  | .local _ .vmem, ⟨3, _⟩ => ⟨S2x1024x256, .bf16⟩
  | .local _ .vmem, ⟨4, _⟩ => ⟨S2x1024x256, .bf16⟩
  | .local _ .vmem, ⟨5, _⟩ => ⟨S2x1024x256, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1024x256 : Shape := ⟨2, ![1024, 256]⟩
abbrev S4096x256 : Shape := ⟨2, ![4096, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1536 : Shape := ⟨2, ![1024, 1536]⟩
abbrev S1x1024x1536 : Shape := ⟨3, ![1, 1024, 1536]⟩
abbrev S4096x512 : Shape := ⟨2, ![4096, 512]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512x1536 : Shape := ⟨2, ![512, 1536]⟩

abbrev nBuf : Space → Nat
  | .hbm => 59
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4096x1024, .f32⟩
  | .hbm, ⟨5, _⟩ => ⟨S4096x1024, .f32⟩
  | .hbm, ⟨6, _⟩ => ⟨S4096x256, .f32⟩
  | .hbm, ⟨7, _⟩ => ⟨S4096x256, .f32⟩
  | .hbm, ⟨8, _⟩ => ⟨S4096, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S4096x1, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S_, .f32⟩
  | .hbm, ⟨33, _⟩ => ⟨S4096x48, .f32⟩
  | .hbm, ⟨34, _⟩ => ⟨S_, .f32⟩
  | .hbm, ⟨35, _⟩ => ⟨S4096x8, .f32⟩
  | .hbm, ⟨36, _⟩ => ⟨S4096x64, .f32⟩
  | .hbm, ⟨37, _⟩ => ⟨S4096x8, .f32⟩
  | .hbm, ⟨38, _⟩ => ⟨S4096x64, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S1x4096x1x64, .f32⟩
  | .hbm, ⟨44, _⟩ => ⟨S1x4096x2x64, .f32⟩
  | .hbm, ⟨45, _⟩ => ⟨S4096x128, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S1024x1024, .bf16⟩
  | .hbm, ⟨50, _⟩ => ⟨S1024x256, .bf16⟩
  | .hbm, ⟨51, _⟩ => ⟨S1024x256, .bf16⟩
  | .hbm, ⟨52, _⟩ => ⟨S1024x1536, .bf16⟩
  | .hbm, ⟨53, _⟩ => ⟨S1x1024x1536, .bf16⟩
  | .hbm, ⟨54, _⟩ => ⟨S4096x1024, .bf16⟩
  | .hbm, ⟨55, _⟩ => ⟨S4096x1024, .bf16⟩
  | .hbm, ⟨56, _⟩ => ⟨S4096x512, .f32⟩
  | .hbm, ⟨57, _⟩ => ⟨S4096x1024, .f32⟩
  | .hbm, ⟨58, _⟩ => ⟨S1x1024x1536, .bf16⟩
  | .local _ .vmem, ⟨0, _⟩ => ⟨S1x1024x1536, .bf16⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024x1536, .bf16⟩
  | .local _ .vmem, ⟨18, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_26 : BitVec 32 := 0#32
  let v51 : BitVec 1 := Scalar.cmpi .ne v50 c0_i32_26
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== Reference14Ideal.lean ====
abbrev S4096x1024 : Shape := ⟨2, ![4096, 1024]⟩
abbrev S1024x1024 : Shape := ⟨2, ![1024, 1024]⟩
abbrev S1024x256 : Shape := ⟨2, ![1024, 256]⟩
abbrev S4096x256 : Shape := ⟨2, ![4096, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S1x4096x4x64 : Shape := ⟨4, ![1, 4096, 4, 64]⟩
abbrev S1x4096x4x8 : Shape := ⟨4, ![1, 4096, 4, 8]⟩
abbrev S1x4096x1x8 : Shape := ⟨4, ![1, 4096, 1, 8]⟩
abbrev S1x4096x4x16 : Shape := ⟨4, ![1, 4096, 4, 16]⟩
abbrev S1x4096x4x48 : Shape := ⟨4, ![1, 4096, 4, 48]⟩
abbrev S256x1024 : Shape := ⟨2, ![256, 1024]⟩
abbrev S1024x1536 : Shape := ⟨2, ![1024, 1536]⟩
abbrev S1x1024x1536 : Shape := ⟨3, ![1, 1024, 1536]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4096x1024, .f32⟩
  | .hbm, ⟨5, _⟩ => ⟨S4096x1024, .f32⟩
  | .hbm, ⟨6, _⟩ => ⟨S4096x256, .f32⟩
  | .hbm, ⟨7, _⟩ => ⟨S4096x256, .f32⟩
  | .hbm, ⟨8, _⟩ => ⟨S4096, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S4096x1, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x1x8, .f32⟩
  | .hbm, ⟨30, _⟩ => ⟨S4096x8, .f32⟩
  | .hbm, ⟨31, _⟩ => ⟨S4096x1x8, .f32⟩
  | .hbm, ⟨32, _⟩ => ⟨S4096x256, .f32⟩
  | .hbm, ⟨33, _⟩ => ⟨S1x4096x4x64, .f32⟩
  | .hbm, ⟨34, _⟩ => ⟨S1x4096x4x8, .f32⟩
  | .hbm, ⟨35, _⟩ => ⟨S1x4096x4x8, .f32⟩
  | .hbm, ⟨36, _⟩ => ⟨S1x4096x1x8, .f32⟩
  | .hbm, ⟨37, _⟩ => ⟨S1x4096x4x8, .f32⟩
  | .hbm, ⟨38, _⟩ => ⟨S1x4096x4x8, .f32⟩
  | .hbm, ⟨39, _⟩ => ⟨S1x4096x1x8, .f32⟩
  | .hbm, ⟨40, _⟩ => ⟨S1x4096x4x8, .f32⟩
  | .hbm, ⟨41, _⟩ => ⟨S1x4096x4x8, .f32⟩
  | .hbm, ⟨42, _⟩ => ⟨S1x4096x4x8, .f32⟩
  | .hbm, ⟨43, _⟩ => ⟨S1x4096x1x8, .f32⟩
  | .hbm, ⟨44, _⟩ => ⟨S1x4096x4x8, .f32⟩
  | .hbm, ⟨45, _⟩ => ⟨S1x4096x4x8, .f32⟩
  | .hbm, ⟨46, _⟩ => ⟨S1x4096x1x8, .f32⟩
  | .hbm, ⟨47, _⟩ => ⟨S1x4096x4x8, .f32⟩
  | .hbm, ⟨48, _⟩ => ⟨S1x4096x4x8, .f32⟩
  | .hbm, ⟨49, _⟩ => ⟨S1x4096x4x8, .f32⟩
  | .hbm, ⟨50, _⟩ => ⟨S1x4096x4x16, .f32⟩
  | .hbm, ⟨51, _⟩ => ⟨S1x4096x4x48, .f32⟩
  | .hbm, ⟨52, _⟩ => ⟨S1x4096x4x64, .f32⟩
  | .hbm, ⟨53, _⟩ => ⟨S4096x256, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x256, .f32⟩
  | .hbm, ⟨59, _⟩ => ⟨S256x1024, .f32⟩
  | .hbm, ⟨60, _⟩ => ⟨S1024x256, .f32⟩
  | .hbm, ⟨61, _⟩ => ⟨S4096x1024, .f32⟩
  | .hbm, ⟨62, _⟩ => ⟨S1024x1024, .f32⟩
  | .hbm, ⟨63, _⟩ => ⟨S1024x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x4096x4x64, .f32⟩
  | .hbm, ⟨71, _⟩ => ⟨S1x4096x4x16, .f32⟩
  | .hbm, ⟨72, _⟩ => ⟨S1x4096x4x48, .f32⟩
  | .hbm, ⟨73, _⟩ => ⟨S_, .f32⟩
  | .hbm, ⟨74, _⟩ => ⟨S1x4096x4x64, .f32⟩
  | .hbm, ⟨75, _⟩ => ⟨S1x4096x4x8, .f32⟩
  | .hbm, ⟨76, _⟩ => ⟨S1x4096x4x8, .f32⟩
  | .hbm, ⟨77, _⟩ => ⟨S1x4096x4x8, .f32⟩
  | .hbm, ⟨78, _⟩ => ⟨S1x4096x4x8, .f32⟩
  | .hbm, ⟨79, _⟩ => ⟨S1x4096x4x8, .f32⟩
  | .hbm, ⟨80, _⟩ => ⟨S1x4096x4x8, .f32⟩
  | .hbm, ⟨81, _⟩ => ⟨S1x4096x4x8, .f32⟩
  | .hbm, ⟨82, _⟩ => ⟨S1x4096x4x8, .f32⟩
  | .hbm, ⟨83, _⟩ => ⟨S1x4096x4x8, .f32⟩
  | .hbm, ⟨84, _⟩ => ⟨S1x4096x4x8, .f32⟩
  | .hbm, ⟨85, _⟩ => ⟨S1x4096x4x8, .f32⟩
  | .hbm, ⟨86, _⟩ => ⟨S1x4096x4x8, .f32⟩
  | .hbm, ⟨87, _⟩ => ⟨S1x4096x4x8, .f32⟩
  | .hbm, ⟨88, _⟩ => ⟨S_, .f32⟩
  | .hbm, ⟨89, _⟩ => ⟨S1x4096x4x64, .f32⟩
  | .hbm, ⟨90, _⟩ => ⟨S1x4096x4x64, .f32⟩
  | .hbm, ⟨91, _⟩ => ⟨S_, .f32⟩
  | .hbm, ⟨92, _⟩ => ⟨S1x4096x4x64, .f32⟩
  | .hbm, ⟨93, _⟩ => ⟨S1x4096x4x64, .f32⟩
  | .hbm, ⟨94, _⟩ => ⟨S4096x256, .f32⟩
  | .hbm, ⟨95, _⟩ => ⟨S256x1024, .f32⟩
  | .hbm, ⟨96, _⟩ => ⟨S1024x256, .f32⟩
  | .hbm, ⟨97, _⟩ => ⟨S4096x1024, .f32⟩
  | .hbm, ⟨98, _⟩ => ⟨S4096x1024, .f32⟩
  | .hbm, ⟨99, _⟩ => ⟨S1024x1536, .f32⟩
  | .hbm, ⟨100, _⟩ => ⟨S1024x1536, .bf16⟩
  | .hbm, ⟨101, _⟩ => ⟨S1x1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_v73 : Ref sig .tc := ⟨.hbm, 89, rfl⟩
abbrev main_v74 : Ref sig .tc := ⟨.hbm, 90, rfl⟩
abbrev main_cst_7 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024x256 : Shape := ⟨2, ![1024, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1536 : Shape := ⟨2, ![1024, 1536]⟩
abbrev S1x1024x1536 : Shape := ⟨3, ![1, 1024, 1536]⟩
abbrev S4096x2048 : Shape := ⟨2, ![4096, 2048]⟩
abbrev S512x1024 : Shape := ⟨2, ![512, 1024]⟩
abbrev S512x128 : Shape := ⟨2, ![512, 128]⟩
abbrev S512x2048 : Shape := ⟨2, ![512, 2048]⟩
abbrev S512x1536 : Shape := ⟨2, ![512, 1536]⟩
abbrev S512x256 : Shape := ⟨2, ![512, 256]⟩
abbrev S1x128 : Shape := ⟨2, ![1, 128]⟩

abbrev nBuf : Space → Nat
  | .hbm => 53
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4096, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x48, .f32⟩
  | .hbm, ⟨30, _⟩ => ⟨S_, .f32⟩
  | .hbm, ⟨31, _⟩ => ⟨S4096x8, .f32⟩
  | .hbm, ⟨32, _⟩ => ⟨S4096x64, .f32⟩
  | .hbm, ⟨33, _⟩ => ⟨S4096x8, .f32⟩
  | .hbm, ⟨34, _⟩ => ⟨S4096x64, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S1024x1024, .bf16⟩
  | .hbm, ⟨46, _⟩ => ⟨S1024x256, .bf16⟩
  | .hbm, ⟨47, _⟩ => ⟨S1024x256, .bf16⟩
  | .hbm, ⟨48, _⟩ => ⟨S1024x1536, .bf16⟩
  | .hbm, ⟨49, _⟩ => ⟨S1x1024x1536, .bf16⟩
  | .hbm, ⟨50, _⟩ => ⟨S4096x1024, .bf16⟩
  | .hbm, ⟨51, _⟩ => ⟨S4096x1024, .bf16⟩
  | .hbm, ⟨52, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference15Ideal.lean ====
abbrev S4096x1024 : Shape := ⟨2, ![4096, 1024]⟩
abbrev S1024x1024 : Shape := ⟨2, ![1024, 1024]⟩
abbrev S1024x256 : Shape := ⟨2, ![1024, 256]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S1x4096x16x64 : Shape := ⟨4, ![1, 4096, 16, 64]⟩
abbrev S1x4096x16x8 : Shape := ⟨4, ![1, 4096, 16, 8]⟩
abbrev S1x4096x1x8 : Shape := ⟨4, ![1, 4096, 1, 8]⟩
abbrev S1x4096x16x16 : Shape := ⟨4, ![1, 4096, 16, 16]⟩
abbrev S1x4096x16x48 : Shape := ⟨4, ![1, 4096, 16, 48]⟩
abbrev S4096x256 : Shape := ⟨2, ![4096, 256]⟩
abbrev S1x4096x4x64 : Shape := ⟨4, ![1, 4096, 4, 64]⟩
abbrev S1x4096x4x8 : Shape := ⟨4, ![1, 4096, 4, 8]⟩
abbrev S1x4096x4x16 : Shape := ⟨4, ![1, 4096, 4, 16]⟩
abbrev S1x4096x4x48 : Shape := ⟨4, ![1, 4096, 4, 48]⟩
abbrev S4096x4x64 : Shape := ⟨3, ![4096, 4, 64]⟩
abbrev S4096x4x128 : Shape := ⟨3, ![4096, 4, 128]⟩
abbrev S4096x512 : Shape := ⟨2, ![4096, 512]⟩
abbrev S4096x2048 : Shape := ⟨2, ![4096, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4096, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x1x8, .f32⟩
  | .hbm, ⟨26, _⟩ => ⟨S4096x8, .f32⟩
  | .hbm, ⟨27, _⟩ => ⟨S4096x1x8, .f32⟩
  | .hbm, ⟨28, _⟩ => ⟨S4096x1024, .f32⟩
  | .hbm, ⟨29, _⟩ => ⟨S1x4096x16x64, .f32⟩
  | .hbm, ⟨30, _⟩ => ⟨S1x4096x16x8, .f32⟩
  | .hbm, ⟨31, _⟩ => ⟨S1x4096x16x8, .f32⟩
  | .hbm, ⟨32, _⟩ => ⟨S1x4096x1x8, .f32⟩
  | .hbm, ⟨33, _⟩ => ⟨S1x4096x16x8, .f32⟩
  | .hbm, ⟨34, _⟩ => ⟨S1x4096x16x8, .f32⟩
  | .hbm, ⟨35, _⟩ => ⟨S1x4096x1x8, .f32⟩
  | .hbm, ⟨36, _⟩ => ⟨S1x4096x16x8, .f32⟩
  | .hbm, ⟨37, _⟩ => ⟨S1x4096x16x8, .f32⟩
  | .hbm, ⟨38, _⟩ => ⟨S1x4096x16x8, .f32⟩
  | .hbm, ⟨39, _⟩ => ⟨S1x4096x1x8, .f32⟩
  | .hbm, ⟨40, _⟩ => ⟨S1x4096x16x8, .f32⟩
  | .hbm, ⟨41, _⟩ => ⟨S1x4096x16x8, .f32⟩
  | .hbm, ⟨42, _⟩ => ⟨S1x4096x1x8, .f32⟩
  | .hbm, ⟨43, _⟩ => ⟨S1x4096x16x8, .f32⟩
  | .hbm, ⟨44, _⟩ => ⟨S1x4096x16x8, .f32⟩
  | .hbm, ⟨45, _⟩ => ⟨S1x4096x16x8, .f32⟩
  | .hbm, ⟨46, _⟩ => ⟨S1x4096x16x16, .f32⟩
  | .hbm, ⟨47, _⟩ => ⟨S1x4096x16x48, .f32⟩
  | .hbm, ⟨48, _⟩ => ⟨S1x4096x16x64, .f32⟩
  | .hbm, ⟨49, _⟩ => ⟨S4096x1024, .f32⟩
  | .hbm, ⟨50, _⟩ => ⟨S4096x256, .f32⟩
  | .hbm, ⟨51, _⟩ => ⟨S1x4096x4x64, .f32⟩
  | .hbm, ⟨52, _⟩ => ⟨S1x4096x4x8, .f32⟩
  | .hbm, ⟨53, _⟩ => ⟨S1x4096x4x8, .f32⟩
  | .hbm, ⟨54, _⟩ => ⟨S1x4096x1x8, .f32⟩
  | .hbm, ⟨55, _⟩ => ⟨S1x4096x4x8, .f32⟩
  | .hbm, ⟨56, _⟩ => ⟨S1x4096x4x8, .f32⟩
  | .hbm, ⟨57, _⟩ => ⟨S1x4096x1x8, .f32⟩
  | .hbm, ⟨58, _⟩ => ⟨S1x4096x4x8, .f32⟩
  | .hbm, ⟨59, _⟩ => ⟨S1x4096x4x8, .f32⟩
  | .hbm, ⟨60, _⟩ => ⟨S1x4096x4x8, .f32⟩
  | .hbm, ⟨61, _⟩ => ⟨S1x4096x1x8, .f32⟩
  | .hbm, ⟨62, _⟩ => ⟨S1x4096x4x8, .f32⟩
  | .hbm, ⟨63, _⟩ => ⟨S1x4096x4x8, .f32⟩
  | .hbm, ⟨64, _⟩ => ⟨S1x4096x1x8, .f32⟩
  | .hbm, ⟨65, _⟩ => ⟨S1x4096x4x8, .f32⟩
  | .hbm, ⟨66, _⟩ => ⟨S1x4096x4x8, .f32⟩
  | .hbm, ⟨67, _⟩ => ⟨S1x4096x4x8, .f32⟩
  | .hbm, ⟨68, _⟩ => ⟨S1x4096x4x16, .f32⟩
  | .hbm, ⟨69, _⟩ => ⟨S1x4096x4x48, .f32⟩
  | .hbm, ⟨70, _⟩ => ⟨S1x4096x4x64, .f32⟩
  | .hbm, ⟨71, _⟩ => ⟨S4096x4x64, .f32⟩
  | .hbm, ⟨72, _⟩ => ⟨S4096x256, .f32⟩
  | .hbm, ⟨73, _⟩ => ⟨S4096x4x64, .f32⟩
  | .hbm, ⟨74, _⟩ => ⟨S_, .f32⟩
  | .hbm, ⟨75, _⟩ => ⟨S4096x4x64, .f32⟩
  | .hbm, ⟨76, _⟩ => ⟨S4096x4x128, .f32⟩
  | .hbm, ⟨77, _⟩ => ⟨S4096x512, .f32⟩
  | .hbm, ⟨78, _⟩ => ⟨S4096x4x128, .f32⟩
  | .hbm, ⟨79, _⟩ => ⟨S4096x512, .f32⟩
  | .hbm, ⟨80, _⟩ => ⟨S4096x4x128, .f32⟩
  | .hbm, ⟨81, _⟩ => ⟨S4096x512, .f32⟩
  | .hbm, ⟨82, _⟩ => ⟨S4096x4x128, .f32⟩
  | .hbm, ⟨83, _⟩ => ⟨S4096x512, .f32⟩
  | .hbm, ⟨84, _⟩ => ⟨S4096x1024, .bf16⟩
  | .hbm, ⟨85, _⟩ => ⟨S4096x2048, .f32⟩
  | .hbm, ⟨86, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_3 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩

abbrev nD : Nat := 1
abbrev τ : Topo := Topo.v7x

variable {F : FTy → Type} [FloatOps F]
-- ==== Kernel16.lean ====
abbrev S4096x256 : Shape := ⟨2, ![4096, 256]⟩
abbrev S256x1024 : Shape := ⟨2, ![256, 1024]⟩
abbrev S4096x1024 : Shape := ⟨2, ![4096, 1024]⟩
abbrev S1024x1024 : Shape := ⟨2, ![1024, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S512x256 : Shape := ⟨2, ![512, 256]⟩
abbrev S512x1024 : Shape := ⟨2, ![512, 1024]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x256, .bf16⟩
  | .hbm, ⟨6, _⟩ => ⟨S256x1024, .bf16⟩
  | .hbm, ⟨7, _⟩ => ⟨S1x256x1024, .bf16⟩
  | .hbm, ⟨8, _⟩ => ⟨S4096x1024, .bf16⟩
  | .hbm, ⟨9, _⟩ => ⟨S1024x1024, .bf16⟩
  | .hbm, ⟨10, _⟩ => ⟨S1x1024x1024, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S1x256x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_26 : BitVec 32 := 0#32
  let v36 : BitVec 1 := Scalar.cmpi .ne v35 c0_i32_26
  v36

def k0_cond2 (i : grid0.Coords) : BitVec 1 :=
  let arg0 : BitVec 32 := BitVec.ofNat 32 (i 0).val
  let c0_i32_27 : BitVec 32 := 0#32
  let v37 : BitVec 1 := Scalar.cmpi .sgt arg0 c0_i32_27
  let v38 : BitVec 32 := Scalar.extui v37
  let c0_i32_28 : BitVec 32 := 0#32
  let v39 : BitVec 1 := Scalar.cmpi .ne v38 c0_i32_28
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== Reference16Ideal.lean ====
abbrev S4096x256 : Shape := ⟨2, ![4096, 256]⟩
abbrev S256x1024 : Shape := ⟨2, ![256, 1024]⟩
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.LayerNorm.lean ====
/- The backward pass of a layer normalisation of one row: two ways of writing it agree on finite rows. -/
module

public import Idealize.ShloMosaic.Lib.Pointwise
public import Idealize.ShloMosaic.Lib.ReduceAll

@[expose] public section

noncomputable section

namespace Cert.LayerNorm

open Idealize.ShloMosaic

/-- A value is a real number. -/
def IsReal (x : EReal) : Prop := ∃ r : ℝ, x = r

theorem real_coe (r : ℝ) : IsReal (r : EReal) := ⟨r, rfl⟩

/-- A value whose absolute value is below infinity is a real number. -/
theorem real_of_abs_lt {x : EReal} (h : max x (-x) < ⊤) : IsReal x := by
  induction x with
  | bot => simp at h
  | top => simp at h
  | coe r => exact ⟨r, rfl⟩

theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- The logistic function's value is always a real number, at the infinities too. -/
theorem real_sigmoid (x : EReal) : IsReal (Ideal.div 1 (1 + Ideal.exp (-x))) := by
  have h1 : (1 : EReal) = ((1 : ℝ) : EReal) := rfl
  induction x with
  | bot =>
    have ht : (1 : EReal) + ⊤ = ⊤ := EReal.coe_add_top 1
    exact ⟨0, by simp [Ideal.div, ht]⟩
  | top => exact ⟨1, by simp [Ideal.div]⟩
  | coe r =>
    have hp : (1 : ℝ) + Real.exp (-r) ≠ 0 := by positivity
    refine ⟨1 * (1 / (1 + Real.exp (-r))), ?_⟩
    rw [← EReal.coe_neg, Ideal.exp_coe, h1, ← EReal.coe_add, Ideal.div_coe hp, ← EReal.coe_mul]

theorem ofBits_inf : Ideal.ofBits FTy.f32 2139095040#32 = ⊤ := by simp [Ideal.ofBits, Ideal.ieee]

/-- A conjunction over a finite set that came out true was true at each of its members. -/
theorem fold_and_one {ι : Type} [DecidableEq ι] (f : ι → BitVec 1) (s : Finset ι) :
    Finset.fold IntOp.andi 1#1 f s = 1#1 → ∀ k ∈ s, f k = 1#1 := by
  induction s using Finset.induction_on with
  | empty => intro _ k hk; simp at hk
  | insert a s ha ih =>
    intro h k hk
    rw [Finset.fold_insert ha] at h
    obtain ⟨h1, h2⟩ := IntOp.andi_eq_one.mp h
    rcases Finset.mem_insert.mp hk with rfl | hk
    · exact h1
    · exact ih h2 k hk

/-- A comparison of absolute values with infinity that holds over a whole array says that its entries are real numbers. -/
theorem real_of_all {ι : Type} [Fintype ι] [DecidableEq ι] (f : ι → EReal)
    (h : Finset.fold IntOp.andi (1#1) (fun k => BitVec.ofBool (decide (FloatOps.absf (F := Ideal) (φ := .f32) (f k) < Ideal.ofBits FTy.f32 2139095040#32))) Finset.univ = 1#1)
    (k : ι) : IsReal (f k) := by
  have h1 := fold_and_one _ _ h k (Finset.mem_univ k)
  rw [ofBits_inf] at h1
  refine real_of_abs_lt ?_
  by_contra hn
  have : decide (FloatOps.absf (F := Ideal) (φ := .f32) (f k) < (⊤ : EReal)) = false := decide_eq_false hn
  rw [this] at h1
  exact absurd h1 (by decide)

variable {n : ℕ} (N e : EReal)

/-- The mean of a row. -/
def mean (z : Fin n → EReal) : EReal := Ideal.div (∑ i, z i) N
/-- An entry of the row less the mean. -/
def cen (z : Fin n → EReal) (i : Fin n) : EReal := z i - mean N z
/-- The row's variance plus the small constant. -/
def var (z : Fin n → EReal) : EReal := Ideal.div (∑ i, cen N z i * cen N z i) N + e
/-- The reciprocal standard deviation. -/
def rstd (z : Fin n → EReal) : EReal := Ideal.rsqrt (var N e z)
/-- The normalised entry. -/
def nrm (z : Fin n → EReal) (i : Fin n) : EReal := cen N z i * rstd N e z

/-- The gradient with respect to the row, from the two means of the scaled gradient. -/
def back (z d g : Fin n → EReal) (i : Fin n) : EReal :=
  rstd N e z * (d i * g i - mean N (fun x => d x * g x) - nrm N e z i * mean N (fun x => d x * g x * nrm N e z x))

/-- The gradient of the scaled gradient through the centred factor. -/
def thru (z d g : Fin n → EReal) (i : Fin n) : EReal := d i * g i * rstd N e z
/-- The gradient through the variance, with `h` minus one half and `w` two. -/
def vari (h w : EReal) (z d g : Fin n → EReal) (i : Fin n) : EReal :=
  Ideal.div ((∑ x, cen N z x * (d x * g x)) * (h * Ideal.div (rstd N e z) (var N e z))) N * (w * cen N z i)
/-- The gradient with respect to the row, by the chain rule through centred entry, variance and mean. -/
def chain (h w : EReal) (z d g : Fin n → EReal) (i : Fin n) : EReal :=
  thru N e z d g i + vari N e h w z d g i + Ideal.div ((∑ x, -thru N e z d g x) + ∑ x, -vari N e h w z d g x) N

/-- The identity between the two over the reals. -/
theorem back_real (n : ℕ) (hn : n ≠ 0) (s r : ℝ) (hr : r * r = 1 / s) (hs : s ≠ 0) (c y : Fin n → ℝ) (hc : ∑ i, c i = 0) (i : Fin n) :
    r * (y i - (∑ x, y x) * (1 / n) - c i * r * ((∑ x, y x * (c x * r)) * (1 / n)))
      = y i * r + (∑ x, c x * y x) * (-(1 / 2) * (r * (1 / s))) * (1 / n) * (2 * c i)
        + ((∑ x, -(y x * r)) + ∑ x, -((∑ x, c x * y x) * (-(1 / 2) * (r * (1 / s))) * (1 / n) * (2 * c x))) * (1 / n) := by
  have h1 : ∑ x, y x * (c x * r) = (∑ x, c x * y x) * r := by
    rw [Finset.sum_mul]; exact Finset.sum_congr rfl fun x _ => by ring
  have h2 : ∑ x, -(y x * r) = -((∑ x, y x) * r) := by rw [Finset.sum_neg_distrib, Finset.sum_mul]
  have h3 : ∑ x, -((∑ x, c x * y x) * (-(1 / 2) * (r * (1 / s))) * (1 / n) * (2 * c x)) = 0 := by
    rw [Finset.sum_neg_distrib, ← Finset.mul_sum, ← Finset.mul_sum, hc]; ring
  rw [h1, h2, h3, ← hr]
  ring

/-- On finite rows the two ways agree. -/
theorem chain_eq_back (hn : n ≠ 0) (hN : N = ((n : ℝ) : EReal)) (ε : ℝ) (hε : 0 < ε) (he : e = (ε : EReal)) (h w : EReal)
    (hh : h = ((-(1 / 2) : ℝ) : EReal)) (hw : w = ((2 : ℝ) : EReal)) (z d g : Fin n → EReal)
    (hz : ∀ i, IsReal (z i)) (hd : ∀ i, IsReal (d i)) (hg : ∀ i, IsReal (g i)) (i : Fin n) :
    chain N e h w z d g i = back N e z d g i := by
  choose z' hz' using hz
  choose d' hd' using hd
  choose g' hg' using hg
  obtain rfl : z = fun i => (z' i : EReal) := funext hz'
  obtain rfl : d = fun i => (d' i : EReal) := funext hd'
  obtain rfl : g = fun i => (g' i : EReal) := funext hg'
  subst hN he hh hw
  have hn' : (n : ℝ) ≠ 0 := by exact_mod_cast hn
  have hm : mean ((n : ℝ) : EReal) (fun i => (z' i : EReal)) = (((∑ i, z' i) * (1 / n) : ℝ) : EReal) := by
    unfold mean; rw [Ideal.div_coe hn', ← coe_sum, ← EReal.coe_mul]
  generalize hμ : (∑ i, z' i) * (1 / (n : ℝ)) = μ at hm
  have hc : ∀ i, cen ((n : ℝ) : EReal) (fun i => (z' i : EReal)) i = ((z' i - μ : ℝ) : EReal) := fun i => by
    unfold cen; rw [hm, EReal.coe_sub]
  have hc0 : ∑ i, (z' i - μ) = 0 := by
    rw [Finset.sum_sub_distrib, Finset.sum_const, Finset.card_univ, Fintype.card_fin, ← hμ, nsmul_eq_mul]
    field_simp
    ring
  have hv : var ((n : ℝ) : EReal) (ε : EReal) (fun i => (z' i : EReal)) = (((∑ i, (z' i - μ) * (z' i - μ)) * (1 / n) + ε : ℝ) : EReal) := by
    unfold var; simp only [hc, ← EReal.coe_mul]
    rw [Ideal.div_coe hn', ← coe_sum, ← EReal.coe_mul, ← EReal.coe_add]
  have hpos : 0 < (∑ i, (z' i - μ) * (z' i - μ)) * (1 / (n : ℝ)) + ε :=
    add_pos_of_nonneg_of_pos (mul_nonneg (Finset.sum_nonneg fun i _ => mul_self_nonneg _) (by positivity)) hε
  generalize (∑ i, (z' i - μ) * (z' i - μ)) * (1 / (n : ℝ)) + ε = s at hv hpos
  have hr : rstd ((n : ℝ) : EReal) (ε : EReal) (fun i => (z' i : EReal)) = (((Real.sqrt s)⁻¹ : ℝ) : EReal) := by
    unfold rstd; rw [hv, Ideal.rsqrt_coe, if_neg (not_lt.mpr hpos.le), if_neg hpos.ne']
  have hrr : (Real.sqrt s)⁻¹ * (Real.sqrt s)⁻¹ = 1 / s := by
    rw [← mul_inv, Real.mul_self_sqrt hpos.le, one_div]
  generalize (Real.sqrt s)⁻¹ = r at hr hrr
  generalize hcc : (fun i => z' i - μ) = c at *
  have hci : ∀ i, z' i - μ = c i := fun i => congrFun hcc i
  simp only [hci] at hc hc0
  unfold chain back thru vari nrm mean
  simp only [hr, hc, hv, Ideal.div_coe hn', Ideal.div_coe hpos.ne', ← EReal.coe_mul, ← EReal.coe_neg, ← coe_sum, ← EReal.coe_add, ← EReal.coe_sub]
  exact congrArg _ (back_real n hn s r hrr hpos.ne' c (fun x => d' x * g' x) hc0 i).symm

/-! The constants of the programs. -/

theorem ofBits_1024 : Ideal.ofBits FTy.f32 1149239296#32 = (((1024 : ℕ) : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num
theorem ofBits_neg_half : Ideal.ofBits FTy.f32 3204448256#32 = ((-(1 / 2) : ℝ) : EReal) := by
  simp [Ideal.ofBits, Ideal.ieee, -EReal.coe_mul, -EReal.coe_neg]; norm_num
theorem ofBits_eps : ∃ ε : ℝ, 0 < ε ∧ Ideal.ofBits FTy.f32 925353388#32 = (ε : EReal) := by
  refine ⟨10995116 / 1099511627776, by norm_num, ?_⟩
  simp [Ideal.ofBits, Ideal.ieee, -EReal.coe_mul]; norm_num

/-- Over rows of 1024 entries, with the constants as the programs write them, the two ways agree. -/
theorem chain_eq_back_1024 (z d g : Fin 1024 → EReal) (hz : ∀ i, IsReal (z i)) (hd : ∀ i, IsReal (d i)) (hg : ∀ i, IsReal (g i))
    (i : Fin 1024) :
    chain (Ideal.ofBits FTy.f32 1149239296#32) (Ideal.ofBits FTy.f32 925353388#32) (Ideal.ofBits FTy.f32 3204448256#32) (Ideal.ofBits FTy.f32 1073741824#32) z d g i
      = back (Ideal.ofBits FTy.f32 1149239296#32) (Ideal.ofBits FTy.f32 925353388#32) z d g i := by
  obtain ⟨ε, hε, he⟩ := ofBits_eps
  exact chain_eq_back _ _ (by decide) ofBits_1024 ε hε he _ _ ofBits_neg_half ofBits_two z d g hz hd hg i

end Cert.LayerNorm
-- ==== Proof.PleSpec.lean ====
/- The backward pass of the per-layer embedding's gate, as sums over its arguments' entries. -/
module

public import proofs.«01_k».proof.Proof.LayerNorm

@[expose] public section

noncomputable section

namespace Cert.Ple

open Idealize.ShloMosaic Cert.LayerNorm

/-- A row's length as the programs write it. -/
abbrev len : EReal := Ideal.ofBits FTy.f32 1149239296#32
/-- The small constant of the normalisation as the programs write it. -/
abbrev eps : EReal := Ideal.ofBits FTy.f32 925353388#32

variable (z : Fin 4096 → Fin 1024 → EReal) (g b : Fin 1024 → EReal) (p : Fin 4096 → Fin 256 → EReal)
  (wp : Fin 256 → Fin 1024 → EReal) (wg : Fin 1024 → Fin 1024 → EReal) (d : Fin 4096 → Fin 1024 → EReal)

/-- The normalised, scaled and shifted token. -/
def x (a : Fin 4096) (i : Fin 1024) : EReal := nrm len eps (z a) i * g i + b i
/-- The gate before the logistic function. -/
def h (a : Fin 4096) (j : Fin 1024) : EReal := ∑ k, x z g b a k * wg k j
/-- The gate. -/
def s (a : Fin 4096) (j : Fin 1024) : EReal := Ideal.div 1 (1 + Ideal.exp (-h z g b wg a j))
/-- The projected embedding. -/
def pp (a : Fin 4096) (j : Fin 1024) : EReal := ∑ k, p a k * wp k j
/-- The gradient with respect to the gate before the logistic function. -/
def dh (a : Fin 4096) (j : Fin 1024) : EReal := d a j * pp p wp a j * s z g b wg a j * (1 - s z g b wg a j)
/-- The gradient with respect to the projected embedding. -/
def dp (a : Fin 4096) (j : Fin 1024) : EReal := d a j * s z g b wg a j
/-- The gradient with respect to the normalised token. -/
def dx (a : Fin 4096) (i : Fin 1024) : EReal := (∑ j, dh z g b p wp wg d a j * wg i j) + d a i
/-- The gradient with respect to the token. -/
def dz (a : Fin 4096) (i : Fin 1024) : EReal := back len eps (z a) (dx z g b p wp wg d a) g i
/-- The gradient with respect to the scale. -/
def dg (i : Fin 1024) : EReal := ∑ a, dx z g b p wp wg d a i * nrm len eps (z a) i
/-- The gradient with respect to the shift. -/
def db (i : Fin 1024) : EReal := ∑ a, dx z g b p wp wg d a i
/-- The gradient with respect to the gate's weight. -/
def dwg (k j : Fin 1024) : EReal := ∑ a, x z g b a k * dh z g b p wp wg d a j
/-- The gradient with respect to the projection. -/
def dwp (k : Fin 256) (j : Fin 1024) : EReal := ∑ a, p a k * dp z g b wg d a j

/-- With finite arguments the gradient with respect to the normalised token is finite, whatever the shift. -/
theorem dx_real (hp : ∀ a k, IsReal (p a k)) (hwp : ∀ k j, IsReal (wp k j)) (hwg : ∀ k j, IsReal (wg k j)) (hd : ∀ a j, IsReal (d a j))
    (a : Fin 4096) (i : Fin 1024) : IsReal (dx z g b p wp wg d a i) := by
  have hs : ∀ j, IsReal (s z g b wg a j) := fun j => real_sigmoid _
  have h1 : IsReal (1 : EReal) := ⟨1, rfl⟩
  exact .add (.sum fun j => .mul (.mul (.mul (.mul (hd a j) (.sum fun k => .mul (hp a k) (hwp k j))) (hs j)) (.sub h1 (hs j))) (hwg i j)) (hd a i)

end Cert.Ple
-- ==== Proof.PleBlock.lean ====
/- What one grid point of the gate's backward kernel leaves in its output blocks and in its two accumulators. -/
module

public import proofs.«01_k».proof.Proof.Gen.KernelIdeal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe Idealize.SL.Sem Cert.LayerNorm

variable (m : (ℓ : Loc nD τ sig) → Buf (Elt Ideal) ℓ)

/-- The block of the gradient before the gate's logistic function, of one point. -/
abbrev bdh (c : Dev nD) (t : Fin cfg0.N) : Vec Ideal S512x1024 .bf16 := k0_pay8 (iblk m c 1 t) (iblk m c 5 t) (iblk m c 4 t)
/-- The block of the gradient with respect to the projected embedding, of one point. -/
abbrev bdp (c : Dev nD) (t : Fin cfg0.N) : Vec Ideal S512x1024 .bf16 := k0_pay7 (iblk m c 1 t) (iblk m c 5 t)
/-- The block of the gradient with respect to the normalised token, of one point. -/
abbrev bdx (c : Dev nD) (t : Fin cfg0.N) : Vec Ideal S512x1024 .f32 :=
  k0_pay9 (iblk m c 1 t) (iblk m c 5 t) (iblk m c 4 t) (iblk m c 0 t) (iblk m c 1 t)
/-- The block of the gradient with respect to the token, of one point. -/
abbrev bdz (c : Dev nD) (t : Fin cfg0.N) : Vec Ideal S512x1024 .f32 :=
  k0_pay13 (bdx m c t) (iblk m c 2 t) (iblk m c 3 t) (k0_pay10 (iblk m c 2 t)) k0_pay11
/-- The point's share of the scale's gradient. -/
abbrev bdg (c : Dev nD) (t : Fin cfg0.N) : Vec Ideal S1024 .f32 :=
  k0_pay14 (bdx m c t) (iblk m c 2 t) (k0_pay10 (iblk m c 2 t)) k0_pay11
/-- The point before. -/
abbrev prev (c : Dev nD) (t : Fin cfg0.N) := outsAt0 m c (t.val - 1) (Nat.lt_of_le_of_lt (Nat.sub_le _ _) t.isLt)

/-- What the first point leaves. -/
theorem outs_A (c : Dev nD) (t : Fin cfg0.N) (h : t.val = 0) :
    (outsAt0 m c t.val t.isLt).1 = bdz m c t
      ∧ (outsAt0 m c t.val t.isLt).2.1 = k0_pay17 (F := Ideal) (bdz m c t)
      ∧ (outsAt0 m c t.val t.isLt).2.2.1 = k0_pay15 (F := Ideal) (bdg m c t)
      ∧ (outsAt0 m c t.val t.isLt).2.2.2.1 = k0_pay16 (F := Ideal) (bdx m c t)
      ∧ (outsAt0 m c t.val t.isLt).2.2.2.2.2.2.1 = k0_pay21 (bdh m c t) (iblk m c 6 t)
      ∧ (outsAt0 m c t.val t.isLt).2.2.2.2.2.2.2 = k0_pay3 (bdp m c t) (iblk m c 7 t) := by
  rw [outsAt0_A m c t (by omega) (by omega) (by omega) (by omega) (by omega) (by omega) (by omega) (by omega) (by omega) (by omega)]
  frame_out
  simp only [and_self]

/-- What a middle point leaves. -/
theorem outs_B (c : Dev nD) (t : Fin cfg0.N) (h : t.val ≠ 0) (h7 : t.val ≠ 7) :
    (outsAt0 m c t.val t.isLt).1 = bdz m c t
      ∧ (outsAt0 m c t.val t.isLt).2.1 = k0_pay17 (F := Ideal) (bdz m c t)
      ∧ (outsAt0 m c t.val t.isLt).2.2.1 = k0_pay18 (bdg m c t) (prev m c t).2.2.1
      ∧ (outsAt0 m c t.val t.isLt).2.2.2.1 = k0_pay19 (bdx m c t) (prev m c t).2.2.2.1
      ∧ (outsAt0 m c t.val t.isLt).2.2.2.2.2.2.1 = k0_pay22 (bdh m c t) (iblk m c 6 t) (prev m c t).2.2.2.2.2.2.1
      ∧ (outsAt0 m c t.val t.isLt).2.2.2.2.2.2.2 = k0_pay4 (bdp m c t) (iblk m c 7 t) (prev m c t).2.2.2.2.2.2.2 := by
  have : t.val < 8 := t.isLt
  rw [outsAt0_B m c t (by omega) (by omega) (by omega) (by omega) (by omega) (by omega) (by omega) (by omega) (by omega) (by omega)]
  frame_out
  simp only [read_unread_whole, and_self]

/-- What the last point leaves. -/
theorem outs_C (c : Dev nD) (t : Fin cfg0.N) (h7 : t.val = 7) :
    (outsAt0 m c t.val t.isLt).1 = bdz m c t
      ∧ (outsAt0 m c t.val t.isLt).2.1 = k0_pay17 (F := Ideal) (bdz m c t)
      ∧ (outsAt0 m c t.val t.isLt).2.2.1 = k0_pay18 (bdg m c t) (prev m c t).2.2.1
      ∧ (outsAt0 m c t.val t.isLt).2.2.2.1 = k0_pay19 (bdx m c t) (prev m c t).2.2.2.1
      ∧ (outsAt0 m c t.val t.isLt).2.2.2.2.2.2.1 = k0_pay22 (bdh m c t) (iblk m c 6 t) (prev m c t).2.2.2.2.2.2.1
      ∧ (outsAt0 m c t.val t.isLt).2.2.2.2.2.2.2 = k0_pay4 (bdp m c t) (iblk m c 7 t) (prev m c t).2.2.2.2.2.2.2
      ∧ (outsAt0 m c t.val t.isLt).2.2.2.2.1 = k0_pay1 (k0_pay22 (bdh m c t) (iblk m c 6 t) (prev m c t).2.2.2.2.2.2.1)
      ∧ (outsAt0 m c t.val t.isLt).2.2.2.2.2.1 = k0_pay5 (k0_pay4 (bdp m c t) (iblk m c 7 t) (prev m c t).2.2.2.2.2.2.2) := by
  rw [outsAt0_C m c t (by omega) (by omega) (by omega) (by omega) (by omega) (by omega) (by omega) (by omega) (by omega) (by omega)]
  frame_out
  simp only [read_unread_whole, and_self]

/-! The payloads at an index. -/

theorem pay_s (x : Vec Ideal S512x1024 .bf16) (p : Fin 512) (q : Fin 1024) :
    k0_pay6 x (ix2 p q) = Ideal.div 1 (1 + Ideal.exp (-x (ix2 p q))) := by
  unfold k0_pay6
  pointwise
  rw [zero_sub]

theorem pay_dp (x0 : Vec Ideal S512x1024 .f32) (x1 : Vec Ideal S512x1024 .bf16) (p : Fin 512) (q : Fin 1024) :
    k0_pay7 x0 x1 (ix2 p q) = x0 (ix2 p q) * Ideal.div 1 (1 + Ideal.exp (-x1 (ix2 p q))) := by
  unfold k0_pay7
  rw [← pay_s]
  generalize k0_pay6 x1 = Y
  pointwise

theorem pay_dh (x0 : Vec Ideal S512x1024 .f32) (x1 x2 : Vec Ideal S512x1024 .bf16) (p : Fin 512) (q : Fin 1024) :
    k0_pay8 x0 x1 x2 (ix2 p q) = x0 (ix2 p q) * x2 (ix2 p q) * Ideal.div 1 (1 + Ideal.exp (-x1 (ix2 p q)))
      * (1 - Ideal.div 1 (1 + Ideal.exp (-x1 (ix2 p q)))) := by
  unfold k0_pay8
  rw [← pay_s]
  generalize k0_pay6 x1 = Y
  pointwise

theorem pay_dx (x0 : Vec Ideal S512x1024 .f32) (x1 x2 : Vec Ideal S512x1024 .bf16) (x3 : Vec Ideal S1x1024x1024 .bf16)
    (y : Vec Ideal S512x1024 .f32) (p : Fin 512) (q : Fin 1024) :
    k0_pay9 x0 x1 x2 x3 y (ix2 p q) = (∑ k : Fin 1024, k0_pay8 x0 x1 x2 (ix2 p k) * x3 (ix3 0 q k)) + y (ix2 p q) := by
  unfold k0_pay9
  generalize k0_pay8 x0 x1 x2 = Y
  pointwise

theorem pay_nrm (z : Vec Ideal S512x1024 .f32) (p : Fin 512) (q : Fin 1024) :
    k0_pay12 z (k0_pay10 z) k0_pay11 (ix2 p q) = nrm Ple.len Ple.eps (fun i => z (ix2 p i)) q := by
  unfold k0_pay12 k0_pay10 k0_pay11 nrm rstd var cen mean
  pointwise

theorem pay_dz (x : Vec Ideal S512x1024 .f32) (z : Vec Ideal S512x1024 .f32) (g : Vec Ideal S1x1024 .f32) (p : Fin 512) (q : Fin 1024) :
    k0_pay13 x z g (k0_pay10 z) k0_pay11 (ix2 p q)
      = back Ple.len Ple.eps (fun i => z (ix2 p i)) (fun i => x (ix2 p i)) (fun i => g (ix2 0 i)) q := by
  unfold k0_pay13 back
  simp only [← pay_nrm]
  generalize k0_pay12 z (k0_pay10 z) k0_pay11 = Y
  unfold rstd var cen mean
  pointwise

theorem pay_dz16 (x : Vec Ideal S512x1024 .f32) (p : Fin 512) (q : Fin 1024) : k0_pay17 (F := Ideal) x (ix2 p q) = x (ix2 p q) := by
  unfold k0_pay17
  pointwise

theorem pay_dg_first (x z : Vec Ideal S512x1024 .f32) (q : Fin 1024) :
    k0_pay15 (k0_pay14 x z (k0_pay10 z) k0_pay11) (ix2 0 q)
      = ∑ p : Fin 512, x (ix2 p q) * nrm Ple.len Ple.eps (fun i => z (ix2 p i)) q := by
  unfold k0_pay15 k0_pay14
  simp only [← pay_nrm]
  generalize k0_pay12 z (k0_pay10 z) k0_pay11 = Y
  pointwise

theorem pay_dg (x z : Vec Ideal S512x1024 .f32) (y : Vec Ideal S1x1024 .f32) (q : Fin 1024) :
    k0_pay18 (k0_pay14 x z (k0_pay10 z) k0_pay11) y (ix2 0 q)
      = y (ix2 0 q) + ∑ p : Fin 512, x (ix2 p q) * nrm Ple.len Ple.eps (fun i => z (ix2 p i)) q := by
  rw [← pay_dg_first]
  unfold k0_pay18
  generalize k0_pay15 (k0_pay14 x z (k0_pay10 z) k0_pay11) = Y
  pointwise

theorem pay_db_first (x : Vec Ideal S512x1024 .f32) (q : Fin 1024) : k0_pay16 (F := Ideal) x (ix2 0 q) = ∑ p : Fin 512, x (ix2 p q) := by
  unfold k0_pay16
  pointwise

theorem pay_db (x : Vec Ideal S512x1024 .f32) (y : Vec Ideal S1x1024 .f32) (q : Fin 1024) :
    k0_pay19 x y (ix2 0 q) = y (ix2 0 q) + ∑ p : Fin 512, x (ix2 p q) := by
  unfold k0_pay19 k0_pay16
  pointwise

theorem pay_wg_first (x0 x1 : Vec Ideal S512x1024 .bf16) (p q : Fin 1024) :
    k0_pay21 x0 x1 (ix2 p q) = ∑ k : Fin 512, x1 (ix2 k p) * x0 (ix2 k q) := by
  unfold k0_pay21 k0_pay20
  pointwise

theorem pay_wg (x0 x1 : Vec Ideal S512x1024 .bf16) (y : Vec Ideal S1024x1024 .f32) (p q : Fin 1024) :
    k0_pay22 x0 x1 y (ix2 p q) = y (ix2 p q) + ∑ k : Fin 512, x1 (ix2 k p) * x0 (ix2 k q) := by
  unfold k0_pay22 k0_pay20
  pointwise

theorem pay_wg_out (y : Vec Ideal S1024x1024 .f32) (p q : Fin 1024) : k0_pay1 y (ix3 0 p q) = y (ix2 p q) := by
  unfold k0_pay1
  pointwise

theorem pay_wp_first (x0 : Vec Ideal S512x1024 .bf16) (x1 : Vec Ideal S512x256 .f32) (p : Fin 256) (q : Fin 1024) :
    k0_pay3 x0 x1 (ix2 p q) = ∑ k : Fin 512, x1 (ix2 k p) * x0 (ix2 k q) := by
  unfold k0_pay3 k0_pay2
  pointwise

theorem pay_wp (x0 : Vec Ideal S512x1024 .bf16) (x1 : Vec Ideal S512x256 .f32) (y : Vec Ideal S256x1024 .f32) (p : Fin 256) (q : Fin 1024) :
    k0_pay4 x0 x1 y (ix2 p q) = y (ix2 p q) + ∑ k : Fin 512, x1 (ix2 k p) * x0 (ix2 k q) := by
  unfold k0_pay4 k0_pay2
  pointwise

theorem pay_wp_out (y : Vec Ideal S256x1024 .f32) (p : Fin 256) (q : Fin 1024) : k0_pay5 y (ix3 0 p q) = y (ix2 p q) := by
  unfold k0_pay5
  pointwise

end Cert.KernelIdeal.Block
-- ==== Proof.PleValue.lean ====
/- What the gate's backward kernel's six result arrays end holding, as sums over the arguments. -/
module

public import proofs.«01_k».proof.Proof.PleBlock

@[expose] public section

set_option maxRecDepth 16384

noncomputable section

namespace Cert.KernelIdeal.Block

open Cert.KernelIdeal Cert.KernelIdeal.Gen Idealize.ShloMosaic Idealize.ShloMosaic.TcCoe Idealize.SL.Sem Cert.LayerNorm

variable (m : (ℓ : Loc nD τ sig) → Buf (Elt Ideal) ℓ)

/-- The tokens. -/
abbrev aZ (c : Dev nD) : S4096x1024.Idx → EReal := m ((c : Thread nD τ).loc main_arg0)
/-- The scale. -/
abbrev aG (c : Dev nD) : S1x1024.Idx → EReal := m ((c : Thread nD τ).loc main_arg1)
/-- The shift. -/
abbrev aB (c : Dev nD) : S1x1024.Idx → EReal := m ((c : Thread nD τ).loc main_arg2)
/-- The embedding. -/
abbrev aP (c : Dev nD) : S4096x256.Idx → EReal := m ((c : Thread nD τ).loc main_arg3)
/-- The projection. -/
abbrev aWp (c : Dev nD) : S256x1024.Idx → EReal := m ((c : Thread nD τ).loc main_arg4)
/-- The gate's weight. -/
abbrev aWg (c : Dev nD) : S1024x1024.Idx → EReal := m ((c : Thread nD τ).loc main_arg5)
/-- The gradient that comes in. -/
abbrev aD (c : Dev nD) : S4096x1024.Idx → EReal := m ((c : Thread nD τ).loc main_arg6)

/-! The same arrays by rows. -/
abbrev rZ (c : Dev nD) (a : Fin 4096) (i : Fin 1024) : EReal := aZ m c (ix2 a i)
abbrev rG (c : Dev nD) (i : Fin 1024) : EReal := aG m c (ix2 0 i)
abbrev rB (c : Dev nD) (i : Fin 1024) : EReal := aB m c (ix2 0 i)
abbrev rP (c : Dev nD) (a : Fin 4096) (k : Fin 256) : EReal := aP m c (ix2 a k)
abbrev rWp (c : Dev nD) (k : Fin 256) (j : Fin 1024) : EReal := aWp m c (ix2 k j)
abbrev rWg (c : Dev nD) (k j : Fin 1024) : EReal := aWg m c (ix2 k j)
abbrev rD (c : Dev nD) (a : Fin 4096) (i : Fin 1024) : EReal := aD m c (ix2 a i)

/-! The specification at the kernel's arguments. -/
abbrev sX (c : Dev nD) := Ple.x (rZ m c) (rG m c) (rB m c)
abbrev sH (c : Dev nD) := Ple.h (rZ m c) (rG m c) (rB m c) (rWg m c)
abbrev sPp (c : Dev nD) := Ple.pp (rP m c) (rWp m c)
abbrev sDh (c : Dev nD) := Ple.dh (rZ m c) (rG m c) (rB m c) (rP m c) (rWp m c) (rWg m c) (rD m c)
abbrev sDp (c : Dev nD) := Ple.dp (rZ m c) (rG m c) (rB m c) (rWg m c) (rD m c)
abbrev sDx (c : Dev nD) := Ple.dx (rZ m c) (rG m c) (rB m c) (rP m c) (rWp m c) (rWg m c) (rD m c)
abbrev sDz (c : Dev nD) := Ple.dz (rZ m c) (rG m c) (rB m c) (rP m c) (rWp m c) (rWg m c) (rD m c)
abbrev sDg (c : Dev nD) := Ple.dg (rZ m c) (rG m c) (rB m c) (rP m c) (rWp m c) (rWg m c) (rD m c)
abbrev sDb (c : Dev nD) := Ple.db (rZ m c) (rG m c) (rB m c) (rP m c) (rWp m c) (rWg m c) (rD m c)
abbrev sDwg (c : Dev nD) := Ple.dwg (rZ m c) (rG m c) (rB m c) (rP m c) (rWp m c) (rWg m c) (rD m c)
abbrev sDwp (c : Dev nD) := Ple.dwp (rZ m c) (rG m c) (rB m c) (rP m c) (rWg m c) (rD m c)

/-- The grid has eight points. -/
theorem tlt (t : Fin cfg0.N) : t.val < 8 := t.isLt

/-- Token row `p` of the point's token tile. -/
abbrev tok (t : Fin cfg0.N) (p : Fin 512) : Fin 4096 := ⟨t.val * 512 + p.val, by have := tlt t; omega⟩

/-- Which block of each input a point reads. -/
theorem idx0 : ∀ t : Fin cfg0.N, win0_0.index t = ![0, 0, 0] ∧ win0_1.index t = ![t.val, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![t.val, 0] := by decide +kernel

theorem in0 (c : Dev nD) (t : Fin cfg0.N) (p q : Fin 1024) : iblk m c 0 t (ix3 0 p q) = rWg m c p q := by
  blk_point [iblk, V, idx0 t]
theorem in1 (c : Dev nD) (t : Fin cfg0.N) (p : Fin 512) (q : Fin 1024) : iblk m c 1 t (ix2 p q) = rD m c (tok t p) q := by
  blk_point [iblk, V, idx0 t]
theorem in2 (c : Dev nD) (t : Fin cfg0.N) (p : Fin 512) (q : Fin 1024) : iblk m c 2 t (ix2 p q) = rZ m c (tok t p) q := by
  blk_point [iblk, V, idx0 t]
theorem in3 (c : Dev nD) (t : Fin cfg0.N) (q : Fin 1024) : iblk m c 3 t (ix2 0 q) = rG m c q := by
  blk_point [iblk, V, idx0 t]
/-- The projected embedding as the host hands it over. -/
theorem entry4 (c : Dev nD) (a : Fin 4096) (b : Fin 1024) :
    (V m c (Pipeline.arrRef spec0 4) : S4096x1024.Idx → EReal) (ix2 a b) = sPp m c a b := by
  unfold V sPp Ple.pp
  entry_read
  pointwise
theorem in4 (c : Dev nD) (t : Fin cfg0.N) (p : Fin 512) (q : Fin 1024) : iblk m c 4 t (ix2 p q) = sPp m c (tok t p) q := by
  rw [← entry4]
  blk_ext [iblk, idx0 t]
/-- The normalised tokens as the host hands them over. -/
theorem entry6 (c : Dev nD) (a : Fin 4096) (b : Fin 1024) :
    (V m c (Pipeline.arrRef spec0 6) : S4096x1024.Idx → EReal) (ix2 a b) = sX m c a b := by
  unfold V sX Ple.x nrm rstd var cen mean
  entry_read
  pointwise
/-- The gate before the logistic function as the host hands it over. -/
theorem entry5 (c : Dev nD) (a : Fin 4096) (b : Fin 1024) :
    (V m c (Pipeline.arrRef spec0 5) : S4096x1024.Idx → EReal) (ix2 a b) = sH m c a b := by
  unfold V sH Ple.h Ple.x nrm rstd var cen mean
  entry_read
  pointwise
theorem in5 (c : Dev nD) (t : Fin cfg0.N) (p : Fin 512) (q : Fin 1024) : iblk m c 5 t (ix2 p q) = sH m c (tok t p) q := by
  rw [← entry5]
  blk_ext [iblk, idx0 t]
theorem in6 (c : Dev nD) (t : Fin cfg0.N) (p : Fin 512) (q : Fin 1024) : iblk m c 6 t (ix2 p q) = sX m c (tok t p) q := by
  rw [← entry6]
  blk_ext [iblk, idx0 t]
theorem in7 (c : Dev nD) (t : Fin cfg0.N) (p : Fin 512) (q : Fin 256) : iblk m c 7 t (ix2 p q) = rP m c (tok t p) q := by
  blk_point [iblk, V, idx0 t]

/-! The point's own terms. -/

theorem dh_pt (c : Dev nD) (t : Fin cfg0.N) (p : Fin 512) (q : Fin 1024) : bdh m c t (ix2 p q) = sDh m c (tok t p) q := by
  unfold bdh
  rw [pay_dh, in1, in4, in5]
  rfl
theorem dp_pt (c : Dev nD) (t : Fin cfg0.N) (p : Fin 512) (q : Fin 1024) : bdp m c t (ix2 p q) = sDp m c (tok t p) q := by
  unfold bdp
  rw [pay_dp, in1, in5]
  rfl
theorem dx_pt (c : Dev nD) (t : Fin cfg0.N) (p : Fin 512) (q : Fin 1024) : bdx m c t (ix2 p q) = sDx m c (tok t p) q := by
  unfold bdx
  rw [pay_dx]
  simp only [dh_pt, in0, in1]
  rfl
theorem dz_pt (c : Dev nD) (t : Fin cfg0.N) (p : Fin 512) (q : Fin 1024) : bdz m c t (ix2 p q) = sDz m c (tok t p) q := by
  unfold bdz
  rw [pay_dz]
  simp only [dx_pt, in2, in3]
  rfl

/-- After every point the first output block holds the gradient of its tokens, and the second the same rounded. -/
theorem dz_at (c : Dev nD) (t : Fin cfg0.N) :
    (outsAt0 m c t.val t.isLt).1 = bdz m c t ∧ (outsAt0 m c t.val t.isLt).2.1 = k0_pay17 (F := Ideal) (bdz m c t) := by
  by_cases h : t.val = 0
  · exact ⟨(outs_A m c t h).1, (outs_A m c t h).2.1⟩
  · by_cases h7 : t.val = 7
    · exact ⟨(outs_C m c t h7).1, (outs_C m c t h7).2.1⟩
    · exact ⟨(outs_B m c t h h7).1, (outs_B m c t h h7).2.1⟩

/-- What a later point leaves in the four sums. -/
theorem outs_later (c : Dev nD) (t : Fin cfg0.N) (h : t.val ≠ 0) :
    (outsAt0 m c t.val t.isLt).2.2.1 = k0_pay18 (bdg m c t) (prev m c t).2.2.1
    ∧ (outsAt0 m c t.val t.isLt).2.2.2.1 = k0_pay19 (bdx m c t) (prev m c t).2.2.2.1
    ∧ (outsAt0 m c t.val t.isLt).2.2.2.2.2.2.1 = k0_pay22 (bdh m c t) (iblk m c 6 t) (prev m c t).2.2.2.2.2.2.1
    ∧ (outsAt0 m c t.val t.isLt).2.2.2.2.2.2.2 = k0_pay4 (bdp m c t) (iblk m c 7 t) (prev m c t).2.2.2.2.2.2.2 := by
  by_cases h7 : t.val = 7
  · obtain ⟨_, _, a, b, d, e, _⟩ := outs_C m c t h7
    exact ⟨a, b, d, e⟩
  · obtain ⟨_, _, a, b, d, e⟩ := outs_B m c t h h7
    exact ⟨a, b, d, e⟩

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem dg_at (c : Dev nD) (t : Fin cfg0.N) (h7 : t.val = 7) (q : Fin 1024) : (outsAt0 m c t.val t.isLt).2.2.1 (ix2 0 q) = sDg m c q := by
  refine run_sum (fun n h (q : Fin 1024) => (outsAt0 m c n h).2.2.1 (ix2 0 q)) (fun a q => sDx m c a q * nrm Ple.len Ple.eps (rZ m c a) q) ?_ ?_ t h7 q
  · intro t h q
    rw [(outs_A m c t h).2.2.1, pay_dg_first]
    simp only [dx_pt, in2]
  · intro t h q
    rw [(outs_later m c t h).1, pay_dg]
    simp only [dx_pt, in2]

theorem db_at (c : Dev nD) (t : Fin cfg0.N) (h7 : t.val = 7) (q : Fin 1024) : (outsAt0 m c t.val t.isLt).2.2.2.1 (ix2 0 q) = sDb m c q := by
  refine run_sum (fun n h (q : Fin 1024) => (outsAt0 m c n h).2.2.2.1 (ix2 0 q)) (fun a q => sDx m c a q) ?_ ?_ t h7 q
  · intro t h q
    rw [(outs_A m c t h).2.2.2.1, pay_db_first]
    simp only [dx_pt]
  · intro t h q
    rw [(outs_later m c t h).2.1, pay_db]
    simp only [dx_pt]

theorem wg_at (c : Dev nD) (t : Fin cfg0.N) (h7 : t.val = 7) (p q : Fin 1024) :
    (outsAt0 m c t.val t.isLt).2.2.2.2.2.2.1 (ix2 p q) = sDwg m c p q := by
  refine run_sum (fun n h (i : Fin 1024 × Fin 1024) => (outsAt0 m c n h).2.2.2.2.2.2.1 (ix2 i.1 i.2)) (fun a i => sX m c a i.1 * sDh m c a i.2) ?_ ?_ t h7 (p, q)
  · intro t h q
    rw [(outs_A m c t h).2.2.2.2.1, pay_wg_first]
    simp only [dh_pt, in6]
  · intro t h q
    rw [(outs_later m c t h).2.2.1, pay_wg]
    simp only [dh_pt, in6]

theorem wp_at (c : Dev nD) (t : Fin cfg0.N) (h7 : t.val = 7) (p : Fin 256) (q : Fin 1024) :
    (outsAt0 m c t.val t.isLt).2.2.2.2.2.2.2 (ix2 p q) = sDwp m c p q := by
  refine run_sum (fun n h (i : Fin 256 × Fin 1024) => (outsAt0 m c n h).2.2.2.2.2.2.2 (ix2 i.1 i.2)) (fun a i => rP m c a i.1 * sDp m c a i.2) ?_ ?_ t h7 (p, q)
  · intro t h q
    rw [(outs_A m c t h).2.2.2.2.2, pay_wp_first]
    simp only [dp_pt, in7]
  · intro t h q
    rw [(outs_later m c t h).2.2.2, pay_wp]
    simp only [dp_pt, in7]

theorem wg_out_at (c : Dev nD) (t : Fin cfg0.N) (h7 : t.val = 7) (p q : Fin 1024) :
    (outsAt0 m c t.val t.isLt).2.2.2.2.1 (ix3 0 p q) = sDwg m c p q := by
  rw [(outs_C m c t h7).2.2.2.2.2.2.1, pay_wg_out, ← (outs_C m c t h7).2.2.2.2.1, wg_at m c t h7]

theorem wp_out_at (c : Dev nD) (t : Fin cfg0.N) (h7 : t.val = 7) (p : Fin 256) (q : Fin 1024) :
    (outsAt0 m c t.val t.isLt).2.2.2.2.2.1 (ix3 0 p q) = sDwp m c p q := by
  rw [(outs_C m c t h7).2.2.2.2.2.2.2, pay_wp_out, ← (outs_C m c t h7).2.2.2.2.2.1, wp_at m c t h7]

/-! The six result arrays. -/

open Cert.KernelIdeal.Value

/-- The first result: the gradient with respect to the tokens. -/
theorem G8_apply (c : Dev nD) (a : Fin 4096) (b : Fin 1024) : (G8 m c : S4096x1024.Idx → EReal) (ix2 a b) = sDz m c a b := by
  have hp : pt8Of (ix2 a b : S4096x1024.Idx) = a.val / 512 := by
    show 1 * (a.val / 512 - 0) + 1 * (b.val / 1024 - 0) = _
    omega
  have hlt : pt8Of (ix2 a b : S4096x1024.Idx) < cfg0.N := by
    rw [hp]; show _ < 8; omega
  unfold G8
  rw [dif_pos hlt, ← outsAt0_sweep m c _ hlt]
  have hl : loc8Of (ix2 a b : S4096x1024.Idx) = ix2 ⟨a.val % 512, Nat.mod_lt _ (by decide)⟩ b := by
    funext x; fin_cases x
    · rfl
    · exact Fin.ext (Nat.mod_eq_of_lt b.isLt)
  rw [hl, (dz_at m c ⟨_, hlt⟩).1]
  refine (dz_pt m c ⟨_, hlt⟩ _ _).trans (congrArg (fun a => sDz m c a b) (Fin.ext ?_))
  show pt8Of (ix2 a b : S4096x1024.Idx) * 512 + a.val % 512 = a.val
  rw [hp]; omega

/-- The second result: the same. -/
theorem G9_apply (c : Dev nD) (a : Fin 4096) (b : Fin 1024) : (G9 m c : S4096x1024.Idx → EReal) (ix2 a b) = sDz m c a b := by
  have hp : pt9Of (ix2 a b : S4096x1024.Idx) = a.val / 512 := by
    show 1 * (a.val / 512 - 0) + 1 * (b.val / 1024 - 0) = _
    omega
  have hlt : pt9Of (ix2 a b : S4096x1024.Idx) < cfg0.N := by
    rw [hp]; show _ < 8; omega
  unfold G9
  rw [dif_pos hlt, ← outsAt0_sweep m c _ hlt]
  have hl : loc9Of (ix2 a b : S4096x1024.Idx) = ix2 ⟨a.val % 512, Nat.mod_lt _ (by decide)⟩ b := by
    funext x; fin_cases x
    · rfl
    · exact Fin.ext (Nat.mod_eq_of_lt b.isLt)
  rw [hl, (dz_at m c ⟨_, hlt⟩).2, pay_dz16]
  refine (dz_pt m c ⟨_, hlt⟩ _ _).trans (congrArg (fun a => sDz m c a b) (Fin.ext ?_))
  show pt9Of (ix2 a b : S4096x1024.Idx) * 512 + a.val % 512 = a.val
  rw [hp]; omega

/-- The third result: the gradient with respect to the scale. -/
theorem G10_apply (c : Dev nD) (b : Fin 1024) : (G10 m c : S1x1024.Idx → EReal) (ix2 0 b) = sDg m c b := by
  have hp : pt10Of (ix2 0 b : S1x1024.Idx) = 7 := by
    show 8 * (1 * (0 / 1 - 0) + 1 * (b.val / 1024 - 0)) + 7 = _
    omega
  have hlt : pt10Of (ix2 0 b : S1x1024.Idx) < cfg0.N := by
    rw [hp]; show _ < 8; omega
  unfold G10
  rw [dif_pos hlt, ← outsAt0_sweep m c _ hlt]
  have hl : loc10Of (ix2 0 b : S1x1024.Idx) = ix2 0 b := by
    funext x; fin_cases x
    · rfl
    · exact Fin.ext (Nat.mod_eq_of_lt b.isLt)
  rw [hl]
  exact dg_at m c ⟨_, hlt⟩ hp b

/-- The fourth result: the gradient with respect to the shift. -/
theorem G11_apply (c : Dev nD) (b : Fin 1024) : (G11 m c : S1x1024.Idx → EReal) (ix2 0 b) = sDb m c b := by
  have hp : pt11Of (ix2 0 b : S1x1024.Idx) = 7 := by
    show 8 * (1 * (0 / 1 - 0) + 1 * (b.val / 1024 - 0)) + 7 = _
    omega
  have hlt : pt11Of (ix2 0 b : S1x1024.Idx) < cfg0.N := by
    rw [hp]; show _ < 8; omega
  unfold G11
  rw [dif_pos hlt, ← outsAt0_sweep m c _ hlt]
  have hl : loc11Of (ix2 0 b : S1x1024.Idx) = ix2 0 b := by
    funext x; fin_cases x
    · rfl
    · exact Fin.ext (Nat.mod_eq_of_lt b.isLt)
  rw [hl]
  exact db_at m c ⟨_, hlt⟩ hp b

/-- The fifth result: the gradient with respect to the gate's weight. -/
theorem G12_apply (c : Dev nD) (p q : Fin 1024) : (G12 m c : S1x1024x1024.Idx → EReal) (ix3 0 p q) = sDwg m c p q := by
  have hp : pt12Of (ix3 0 p q : S1x1024x1024.Idx) = 7 := by
    show 8 * (1 * (0 / 1 - 0) + 1 * (p.val / 1024 - 0) + 1 * (q.val / 1024 - 0)) + 7 = _
    omega
  have hlt : pt12Of (ix3 0 p q : S1x1024x1024.Idx) < cfg0.N := by
    rw [hp]; show _ < 8; omega
  unfold G12
  rw [dif_pos hlt, ← outsAt0_sweep m c _ hlt]
  have hl : loc12Of (ix3 0 p q : S1x1024x1024.Idx) = ix3 0 p q := by
    funext x; fin_cases x
    · rfl
    · exact Fin.ext (Nat.mod_eq_of_lt p.isLt)
    · exact Fin.ext (Nat.mod_eq_of_lt q.isLt)
  rw [hl]
  exact wg_out_at m c ⟨_, hlt⟩ hp p q

/-- The sixth result: the gradient with respect to the projection. -/
theorem G13_apply (c : Dev nD) (p : Fin 256) (q : Fin 1024) : (G13 m c : S1x256x1024.Idx → EReal) (ix3 0 p q) = sDwp m c p q := by
  have hp : pt13Of (ix3 0 p q : S1x256x1024.Idx) = 7 := by
    show 8 * (1 * (0 / 1 - 0) + 1 * (p.val / 256 - 0) + 1 * (q.val / 1024 - 0)) + 7 = _
    omega
  have hlt : pt13Of (ix3 0 p q : S1x256x1024.Idx) < cfg0.N := by
    rw [hp]; show _ < 8; omega
  unfold G13
  rw [dif_pos hlt, ← outsAt0_sweep m c _ hlt]
  have hl : loc13Of (ix3 0 p q : S1x256x1024.Idx) = ix3 0 p q := by
    funext x; fin_cases x
    · rfl
    · exact Fin.ext (Nat.mod_eq_of_lt p.isLt)
    · exact Fin.ext (Nat.mod_eq_of_lt q.isLt)
  rw [hl]
  exact wp_out_at m c ⟨_, hlt⟩ hp p q

end Cert.KernelIdeal.Block
-- ==== Proof.PleRef.lean ====
/- What the reference of the gate's backward pass computes. -/
module

public import proofs.«01_k».proof.Proof.Gen.ReferenceIdeal.Read
public import proofs.«01_k».proof.Proof.PleSpec
public import Idealize.ShloMosaic.Lib.Tactic

@[expose] public section

set_option maxRecDepth 16384

noncomputable section

namespace Cert.ReferenceIdeal.Sums

open Cert.ReferenceIdeal Cert.ReferenceIdeal.Gen Cert.ReferenceIdeal.Read Idealize.ShloMosaic Idealize.ShloMosaic.TcCoe Idealize.SL.Sem
open Cert.LayerNorm

variable (x0 : S4096x1024.Idx → EReal) (x1 x2 : S1x1024.Idx → EReal) (x3 : S4096x256.Idx → EReal) (x4 : S256x1024.Idx → EReal)
  (x5 : S1024x1024.Idx → EReal) (x6 : S4096x1024.Idx → EReal)

/-- The rows of the first argument. -/
abbrev fz (a : Fin 4096) (i : Fin 1024) : EReal := x0 (ix2 a i)
/-- The one row of an argument. -/
abbrev fr (i : Fin 1024) : EReal := x1 (ix2 0 i)
/-- The rows of the embedding. -/
abbrev fp (a : Fin 4096) (k : Fin 256) : EReal := x3 (ix2 a k)
/-- The rows of the projection. -/
abbrev fwp (k : Fin 256) (j : Fin 1024) : EReal := x4 (ix2 k j)
/-- The rows of the gate's weight. -/
abbrev fwg (k j : Fin 1024) : EReal := x5 (ix2 k j)

theorem v14_apply (a : Fin 4096) (i : Fin 1024) :
    (val_main_v14 (F := Ideal) x0 : S4096x1024.Idx → EReal) (ix2 a i) = cen Ple.len (fz x0 a) i := by
  unfold val_main_v14 val_main_v13 val_main_v3 val_main_v2 val_main_cst_0 val_main_v1 val_main_v0 val_main_cst cen mean
  pointwise

theorem v5_apply (a : Fin 4096) (i : Fin 1024) :
    (val_main_v5 (F := Ideal) x0 : S4096x1024.Idx → EReal) (ix2 a i) = cen Ple.len (fz x0 a) i := by
  unfold val_main_v5 val_main_v4 val_main_v3 val_main_v2 val_main_cst_0 val_main_v1 val_main_v0 val_main_cst cen mean
  pointwise

theorem v16_apply (a : Fin 4096) (j : Fin 1) :
    (val_main_v16 (F := Ideal) x0 : S4096x1.Idx → EReal) (ix2 a j) = var Ple.len Ple.eps (fz x0 a) := by
  unfold val_main_v16 val_main_v15 val_main_cst_4 val_main_v12 val_main_v11 val_main_cst_3 val_main_v10 val_main_v9 val_main_cst_2 val_main_v6 var
  simp only [← v5_apply]
  generalize val_main_v5 (F := Ideal) x0 = C
  pointwise

theorem v17_apply (a : Fin 4096) (j : Fin 1) :
    (val_main_v17 (F := Ideal) x0 : S4096x1.Idx → EReal) (ix2 a j) = rstd Ple.len Ple.eps (fz x0 a) := by
  unfold val_main_v17 rstd
  rw [← v16_apply x0 a j]
  generalize val_main_v16 (F := Ideal) x0 = C
  pointwise

theorem v22_apply (a : Fin 4096) (i : Fin 1024) :
    (val_main_v22 (F := Ideal) x0 : S4096x1024.Idx → EReal) (ix2 a i) = nrm Ple.len Ple.eps (fz x0 a) i := by
  unfold val_main_v22 val_main_v21 nrm
  rw [← v14_apply, ← v17_apply x0 a 0]
  generalize val_main_v14 (F := Ideal) x0 = C
  generalize val_main_v17 (F := Ideal) x0 = D
  pointwise

theorem v26_apply (a : Fin 4096) (i : Fin 1024) :
    (val_main_v26 (F := Ideal) x0 x1 x2 : S4096x1024.Idx → EReal) (ix2 a i) = Ple.x (fz x0) (fr x1) (fr x2) a i := by
  unfold val_main_v26 val_main_v25 val_main_v24 val_main_v23 Ple.x
  rw [← v22_apply]
  generalize val_main_v22 (F := Ideal) x0 = C
  pointwise

theorem v34_apply (a : Fin 4096) (i : Fin 1024) :
    (val_main_v34 (F := Ideal) x0 x1 x2 x5 : S4096x1024.Idx → EReal) (ix2 a i) = Ple.s (fz x0) (fr x1) (fr x2) (fwg x5) a i := by
  unfold val_main_v34 val_main_v33 val_main_cst_7 val_main_v32 val_main_v31 val_main_cst_6 val_main_v30 val_main_v29 val_main_v28 Ple.s Ple.h
  simp only [← v26_apply]
  generalize val_main_v26 (F := Ideal) x0 x1 x2 = C
  pointwise

theorem v44_apply (a : Fin 4096) (i : Fin 1024) :
    (val_main_v44 (F := Ideal) x0 x1 x2 x3 x4 x5 x6 : S4096x1024.Idx → EReal) (ix2 a i)
      = Ple.dh (fz x0) (fr x1) (fr x2) (fp x3) (fwp x4) (fwg x5) (fz x6) a i := by
  unfold val_main_v44 val_main_v42 val_main_v41 val_main_v37 val_main_v36 val_main_v35 val_main_cst_8 val_main_v27 Ple.dh Ple.pp
  simp only [← v34_apply]
  generalize val_main_v34 (F := Ideal) x0 x1 x2 x5 = C
  pointwise
  dsimp only [fz, fp, fwp]
  ac_nf

theorem v43_apply (a : Fin 4096) (i : Fin 1024) :
    (val_main_v43 (F := Ideal) x0 x1 x2 x5 x6 : S4096x1024.Idx → EReal) (ix2 a i)
      = Ple.dp (fz x0) (fr x1) (fr x2) (fwg x5) (fz x6) a i := by
  unfold val_main_v43 val_main_v41 Ple.dp
  simp only [← v34_apply]
  generalize val_main_v34 (F := Ideal) x0 x1 x2 x5 = C
  pointwise

theorem v48_apply (a : Fin 4096) (i : Fin 1024) :
    (val_main_v48 (F := Ideal) x0 x1 x2 x3 x4 x5 x6 : S4096x1024.Idx → EReal) (ix2 a i)
      = Ple.dx (fz x0) (fr x1) (fr x2) (fp x3) (fwp x4) (fwg x5) (fz x6) a i := by
  unfold val_main_v48 val_main_v47 val_main_v40 Ple.dx
  simp only [← v44_apply]
  generalize val_main_v44 (F := Ideal) x0 x1 x2 x3 x4 x5 x6 = C
  pointwise
  exact add_comm _ _

/-- The gradient with respect to the scale. -/
theorem v56_apply (i : Fin 1024) :
    (val_main_v56 (F := Ideal) x0 x1 x2 x3 x4 x5 x6 : S1x1024.Idx → EReal) (ix2 0 i)
      = Ple.dg (fz x0) (fr x1) (fr x2) (fp x3) (fwp x4) (fwg x5) (fz x6) i := by
  unfold val_main_v56 val_main_v55 val_main_cst_10 val_main_v54 Ple.dg
  simp only [← v48_apply, ← v22_apply]
  generalize val_main_v48 (F := Ideal) x0 x1 x2 x3 x4 x5 x6 = C
  generalize val_main_v22 (F := Ideal) x0 = D
  pointwise
  exact Finset.sum_congr rfl fun a _ => mul_comm _ _

/-- The gradient with respect to the shift. -/
theorem v53_apply (i : Fin 1024) :
    (val_main_v53 (F := Ideal) x0 x1 x2 x3 x4 x5 x6 : S1x1024.Idx → EReal) (ix2 0 i)
      = Ple.db (fz x0) (fr x1) (fr x2) (fp x3) (fwp x4) (fwg x5) (fz x6) i := by
  unfold val_main_v53 val_main_v52 val_main_cst_9 Ple.db
  simp only [← v48_apply]
  generalize val_main_v48 (F := Ideal) x0 x1 x2 x3 x4 x5 x6 = C
  pointwise

/-- The gradient with respect to the gate's weight. -/
theorem v85_apply (k j : Fin 1024) :
    (val_main_v85 (F := Ideal) x0 x1 x2 x3 x4 x5 x6 : S1x1024x1024.Idx → EReal) (ix3 0 k j)
      = Ple.dwg (fz x0) (fr x1) (fr x2) (fp x3) (fwp x4) (fwg x5) (fz x6) k j := by
  unfold val_main_v85 val_main_v84 val_main_v46 val_main_v45 Ple.dwg
  simp only [← v44_apply, ← v26_apply]
  generalize val_main_v44 (F := Ideal) x0 x1 x2 x3 x4 x5 x6 = C
  generalize val_main_v26 (F := Ideal) x0 x1 x2 = D
  pointwise
  exact Finset.sum_congr rfl fun a _ => mul_comm _ _

/-- The gradient with respect to the projection. -/
theorem v87_apply (k : Fin 256) (j : Fin 1024) :
    (val_main_v87 (F := Ideal) x0 x1 x2 x3 x5 x6 : S1x256x1024.Idx → EReal) (ix3 0 k j)
      = Ple.dwp (fz x0) (fr x1) (fr x2) (fp x3) (fwg x5) (fz x6) k j := by
  unfold val_main_v87 val_main_v86 val_main_v50 val_main_v49 Ple.dwp
  simp only [← v43_apply]
  generalize val_main_v43 (F := Ideal) x0 x1 x2 x5 x6 = C
  pointwise
  exact Finset.sum_congr rfl fun a _ => mul_comm _ _

/-- The gradient with respect to the token, by the chain rule. -/
theorem v82_apply (a : Fin 4096) (i : Fin 1024) :
    (val_main_v82 (F := Ideal) x0 x1 x2 x3 x4 x5 x6 : S4096x1024.Idx → EReal) (ix2 a i)
      = chain Ple.len Ple.eps (Ideal.ofBits FTy.f32 3204448256#32) (Ideal.ofBits FTy.f32 1073741824#32) (fz x0 a)
          (Ple.dx (fz x0) (fr x1) (fr x2) (fp x3) (fwp x4) (fwg x5) (fz x6) a) (fr x1) i := by
  unfold val_main_v82 val_main_v81 val_main_v80 val_main_cst_17 val_main_v79 val_main_v78 val_main_cst_16 val_main_v77 val_main_v76 val_main_v75 val_main_v74 val_main_cst_15 val_main_v73 val_main_v72 val_main_v71 val_main_v70 val_main_cst_14 val_main_v69 val_main_v68 val_main_cst_13 val_main_v67 val_main_v66 val_main_cst_12 val_main_v65 val_main_v64 val_main_v63 val_main_v62 val_main_v61 val_main_v60 val_main_cst_11 val_main_v59 val_main_v58 val_main_v57 val_main_v20 val_main_v19 val_main_cst_5 val_main_v18 val_main_v8 val_main_v7 val_main_cst_1
  unfold chain thru vari
  have e1 : ∀ j, cen Ple.len (fz x0 a) j = (val_main_v14 (F := Ideal) x0 : S4096x1024.Idx → EReal) (ix2 a j) := fun j => (v14_apply x0 a j).symm
  have e5 : (val_main_v5 (F := Ideal) x0) = (val_main_v14 (F := Ideal) x0) := by
    funext j
    change S4096x1024.Idx at j
    idx_vars j
    exact (v5_apply ..).trans (v14_apply ..).symm
  rw [e5]
  simp only [e1, ← v48_apply, ← v17_apply x0 a 0, ← v16_apply x0 a 0]
  generalize val_main_v48 (F := Ideal) x0 x1 x2 x3 x4 x5 x6 = C
  generalize val_main_v14 (F := Ideal) x0 = D
  generalize val_main_v17 (F := Ideal) x0 = E
  generalize val_main_v16 (F := Ideal) x0 = G
  pointwise
  simp only [Fin.sum_univ_one]

/-- The rounded gradient is the gradient. -/
theorem v83_apply (a : Fin 4096) (i : Fin 1024) :
    (val_main_v83 (F := Ideal) x0 x1 x2 x3 x4 x5 x6 : S4096x1024.Idx → EReal) (ix2 a i)
      = (val_main_v82 (F := Ideal) x0 x1 x2 x3 x4 x5 x6 : S4096x1024.Idx → EReal) (ix2 a i) := by
  unfold val_main_v83
  generalize val_main_v82 (F := Ideal) x0 x1 x2 x3 x4 x5 x6 = C
  pointwise

end Cert.ReferenceIdeal.Sums
-- ==== Proof.PleClaim.lean ====
/- The gate's backward kernel and its reference end holding the same arrays, from finite arguments. -/
module

public import proofs.«01_k».proof.Defs
public import proofs.«01_k».proof.Proof.PleValue
public import proofs.«01_k».proof.Proof.PleRef

@[expose] public section

set_option maxRecDepth 16384

noncomputable section

namespace Cert.Proof

open Idealize.ShloMosaic Idealize.ShloMosaic.TcCoe Idealize.SL.Sem Cert.KernelIdeal.Block Cert.LayerNorm

section
variable [Cert.Pre_finite.Facts]
/-- What the precondition says: every argument but the shift holds real numbers. -/
theorem ple_pre (x0 : Cert.Pre_finite.S4096x1024.Idx → EReal) (x1 x2 : Cert.Pre_finite.S1x1024.Idx → EReal) (x3 : Cert.Pre_finite.S4096x256.Idx → EReal)
    (x4 : Cert.Pre_finite.S256x1024.Idx → EReal) (x5 : Cert.Pre_finite.S1024x1024.Idx → EReal) (x6 : Cert.Pre_finite.S4096x1024.Idx → EReal)
    (h : Cert.Pre_finite.fn (F := Ideal) x0 x1 x2 x3 x4 x5 x6 = fun _ => 1#1) :
    (∀ a b, IsReal (x0 (ix2 a b))) ∧ (∀ a b, IsReal (x1 (ix2 a b))) ∧ (∀ a b, IsReal (x3 (ix2 a b)))
      ∧ (∀ a b, IsReal (x4 (ix2 a b))) ∧ (∀ a b, IsReal (x5 (ix2 a b))) ∧ (∀ a b, IsReal (x6 (ix2 a b))) := by
  have h0 := congrFun h (fun a => a.elim0)
  unfold Cert.Pre_finite.fn Cert.Pre_finite.fn_part1 at h0
  pointwise at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e1⟩ := IntOp.andi_eq_one.mp h0
  exact ⟨fun a b => real_of_all (fun k : _ × _ => x0 (ix2 k.1 k.2)) e0 (a, b), fun a b => real_of_all (fun k : _ × _ => x1 (ix2 k.1 k.2)) e1 (a, b),
    fun a b => real_of_all (fun k : _ × _ => x3 (ix2 k.1 k.2)) e3 (a, b), fun a b => real_of_all (fun k : _ × _ => x4 (ix2 k.1 k.2)) e4 (a, b),
    fun a b => real_of_all (fun k : _ × _ => x5 (ix2 k.1 k.2)) e5 (a, b), fun a b => real_of_all (fun k : _ × _ => x6 (ix2 k.1 k.2)) e6 (a, b)⟩
end

variable (m : (ℓ : Loc Cert.KernelIdeal.nD Cert.KernelIdeal.τ Cert.KernelIdeal.sig) → Buf (Elt Ideal) ℓ)

/-- The first results agree on finite arguments: the chain rule's gradient is the two means' one. -/
theorem ple_eq0 (c : Dev Cert.KernelIdeal.nD) (hz : ∀ a b, IsReal (aZ m c (ix2 a b))) (hg : ∀ a b, IsReal (aG m c (ix2 a b)))
    (hp : ∀ a b, IsReal (aP m c (ix2 a b))) (hwp : ∀ a b, IsReal (aWp m c (ix2 a b))) (hwg : ∀ a b, IsReal (aWg m c (ix2 a b)))
    (hd : ∀ a b, IsReal (aD m c (ix2 a b))) :
    Cert.ReferenceIdeal.Read.val_main_v82 (F := Ideal) (aZ m c) (aG m c) (aB m c) (aP m c) (aWp m c) (aWg m c) (aD m c) = Cert.KernelIdeal.Value.G8 m c := by
  funext i
  change Cert.KernelIdeal.S4096x1024.Idx at i
  idx_vars i
  refine (Cert.ReferenceIdeal.Sums.v82_apply ..).trans (Eq.trans ?_ (G8_apply ..).symm)
  exact chain_eq_back_1024 _ _ _ (fun j => hz _ j) (fun j => Cert.Ple.dx_real _ _ _ _ _ _ _ hp hwp hwg hd _ j) (fun j => hg 0 j) _

/-- The second results agree where the first do. -/
theorem ple_eq1 (c : Dev Cert.KernelIdeal.nD)
    (h : Cert.ReferenceIdeal.Read.val_main_v82 (F := Ideal) (aZ m c) (aG m c) (aB m c) (aP m c) (aWp m c) (aWg m c) (aD m c) = Cert.KernelIdeal.Value.G8 m c) :
    Cert.ReferenceIdeal.Read.val_main_v83 (F := Ideal) (aZ m c) (aG m c) (aB m c) (aP m c) (aWp m c) (aWg m c) (aD m c) = Cert.KernelIdeal.Value.G9 m c := by
  funext i
  change Cert.KernelIdeal.S4096x1024.Idx at i
  idx_vars i
  refine (Cert.ReferenceIdeal.Sums.v83_apply ..).trans (Eq.trans ?_ (G9_apply ..).symm)
  exact (congrFun h _).trans (G8_apply ..)

/-- The third results agree. -/
theorem ple_eq2 (c : Dev Cert.KernelIdeal.nD) :
    Cert.ReferenceIdeal.Read.val_main_v56 (F := Ideal) (aZ m c) (aG m c) (aB m c) (aP m c) (aWp m c) (aWg m c) (aD m c) = Cert.KernelIdeal.Value.G10 m c := by
  funext i
  change Cert.KernelIdeal.S1x1024.Idx at i
  idx_vars i
  obtain rfl : i0 = 0 := Subsingleton.elim _ _
  exact (Cert.ReferenceIdeal.Sums.v56_apply ..).trans (G10_apply ..).symm

/-- The fourth results agree. -/
theorem ple_eq3 (c : Dev Cert.KernelIdeal.nD) :
    Cert.ReferenceIdeal.Read.val_main_v53 (F := Ideal) (aZ m c) (aG m c) (aB m c) (aP m c) (aWp m c) (aWg m c) (aD m c) = Cert.KernelIdeal.Value.G11 m c := by
  funext i
  change Cert.KernelIdeal.S1x1024.Idx at i
  idx_vars i
  obtain rfl : i0 = 0 := Subsingleton.elim _ _
  exact (Cert.ReferenceIdeal.Sums.v53_apply ..).trans (G11_apply ..).symm

/-- The fifth results agree. -/
theorem ple_eq4 (c : Dev Cert.KernelIdeal.nD) :
    Cert.ReferenceIdeal.Read.val_main_v85 (F := Ideal) (aZ m c) (aG m c) (aB m c) (aP m c) (aWp m c) (aWg m c) (aD m c) = Cert.KernelIdeal.Value.G12 m c := by
  funext i
  change Cert.KernelIdeal.S1x1024x1024.Idx at i
  idx_vars i
  obtain rfl : i0 = 0 := Subsingleton.elim _ _
  exact (Cert.ReferenceIdeal.Sums.v85_apply ..).trans (G12_apply ..).symm

/-- The sixth results agree. -/
theorem ple_eq5 (c : Dev Cert.KernelIdeal.nD) :
    Cert.ReferenceIdeal.Read.val_main_v87 (F := Ideal) (aZ m c) (aG m c) (aB m c) (aP m c) (aWg m c) (aD m c) = Cert.KernelIdeal.Value.G13 m c := by
  funext i
  change Cert.KernelIdeal.S1x256x1024.Idx at i
  idx_vars i
  obtain rfl : i0 = 0 := Subsingleton.elim _ _
  exact (Cert.ReferenceIdeal.Sums.v87_apply ..).trans (G13_apply ..).symm

/-- The value claim of the gate's backward kernel. -/
theorem ple [Cert.Pre_finite.Facts] : algebraic_KernelIdeal_ReferenceIdeal_pre_finite := by
  intro m g m' g' hpre hin
  refine ⟨fun c => Cert.KernelIdeal.Value.G8 m c, fun c => Cert.KernelIdeal.Value.G9 m c, fun c => Cert.KernelIdeal.Value.G10 m c,
    fun c => Cert.KernelIdeal.Value.G11 m c, fun c => Cert.KernelIdeal.Value.G12 m c, fun c => Cert.KernelIdeal.Value.G13 m c,
    Cert.KernelIdeal.Value.run m g, ?_⟩
  refine (θ_run Cert.ReferenceIdeal.defs _ _).mono (fun r h c => ?_) (Cert.ReferenceIdeal.Value.run m' g')
  obtain ⟨h0, h1, h2, h3, h4, h5, hk⟩ := h c
  obtain ⟨e0, e1, e2, e3, e4, e5, e6⟩ := hin c
  obtain ⟨hz, hg, hp, hwp, hwg, hd⟩ := ple_pre _ _ _ _ _ _ _ (hpre c)
  have q0 := ple_eq0 m c hz hg hp hwp hwg hd
  refine ⟨?_, ?_, ?_, ?_, ?_, ?_, hk⟩
  · refine h0.trans ((Cert.ReferenceIdeal.Read.val_main_v82_eq m' c).trans ?_)
    rw [e0, e1, e2, e3, e4, e5, e6]
    exact q0
  · refine h1.trans ((Cert.ReferenceIdeal.Read.val_main_v83_eq m' c).trans ?_)
    rw [e0, e1, e2, e3, e4, e5, e6]
    exact (ple_eq1 m c q0)
  · refine h2.trans ((Cert.ReferenceIdeal.Read.val_main_v56_eq m' c).trans ?_)
    rw [e0, e1, e2, e3, e4, e5, e6]
    exact (ple_eq2 m c)
  · refine h3.trans ((Cert.ReferenceIdeal.Read.val_main_v53_eq m' c).trans ?_)
    rw [e0, e1, e2, e3, e4, e5, e6]
    exact (ple_eq3 m c)
  · refine h4.trans ((Cert.ReferenceIdeal.Read.val_main_v85_eq m' c).trans ?_)
    rw [e0, e1, e2, e3, e4, e5, e6]
    exact (ple_eq4 m c)
  · rw [h5, e0, e1, e2, e3, e5, e6]
    exact (Cert.ReferenceIdeal.Read.val_main_v87_eq ..).trans (ple_eq5 m c)

end Cert.Proof
-- ==== Proof.MlpBlock.lean ====
/- What one grid point of the squared-ReLU backward kernel leaves in its output blocks and in its two accumulators. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Block

open Cert.Kernel2Ideal Cert.Kernel2Ideal.Gen Idealize.ShloMosaic Idealize.ShloMosaic.TcCoe Idealize.SL.Sem

variable (m : (ℓ : Loc nD τ sig) → Buf (Elt Ideal) ℓ)

/-- What the first point of a hidden tile leaves in the gradient block. -/
theorem du_A (c : Dev nD) (t : Fin cfg0.N) (h : t.val % 4 = 0) :
    (outsAt0 m c t.val t.isLt).1 = k0_pay7 (iblk m c 0 t) (iblk m c 1 t) (iblk m c 2 t) := by
  rw [outsAt0_A m c t h (by omega) h (by omega) (by omega)]
  frame_out

/-- What the first point of a hidden tile leaves in the first accumulator. -/
theorem up_A (c : Dev nD) (t : Fin cfg0.N) (h : t.val % 4 = 0) :
    (outsAt0 m c t.val t.isLt).2.2.2.1 = k0_pay9 (iblk m c 0 t) (iblk m c 1 t) (iblk m c 2 t) (iblk m c 3 t) := by
  rw [outsAt0_A m c t h (by omega) h (by omega) (by omega)]
  frame_out

/-- What the first point of a hidden tile leaves in the second accumulator. -/
theorem down_A (c : Dev nD) (t : Fin cfg0.N) (h : t.val % 4 = 0) :
    (outsAt0 m c t.val t.isLt).2.2.2.2 = k0_pay12 (iblk m c 0 t) (iblk m c 2 t) := by
  rw [outsAt0_A m c t h (by omega) h (by omega) (by omega)]
  frame_out

/-- What a middle point of a hidden tile leaves in the gradient block. -/
theorem du_B (c : Dev nD) (t : Fin cfg0.N) (h : t.val % 4 ≠ 0) (h3 : t.val % 4 ≠ 3) :
    (outsAt0 m c t.val t.isLt).1 = k0_pay7 (iblk m c 0 t) (iblk m c 1 t) (iblk m c 2 t) := by
  rw [outsAt0_B m c t h (by omega) h (by omega) h3]
  frame_out

/-- What a middle point of a hidden tile leaves in the first accumulator. -/
theorem up_B (c : Dev nD) (t : Fin cfg0.N) (h : t.val % 4 ≠ 0) (h3 : t.val % 4 ≠ 3) :
    (outsAt0 m c t.val t.isLt).2.2.2.1 = k0_pay10 (iblk m c 0 t) (iblk m c 1 t) (iblk m c 2 t) (iblk m c 3 t) (outsAt0 m c (t.val - 1) (Nat.lt_of_le_of_lt (Nat.sub_le _ _) t.isLt)).2.2.2.1 := by
  rw [outsAt0_B m c t h (by omega) h (by omega) h3]
  frame_out
  simp only [read_unread_whole]

/-- What a middle point of a hidden tile leaves in the second accumulator. -/
theorem down_B (c : Dev nD) (t : Fin cfg0.N) (h : t.val % 4 ≠ 0) (h3 : t.val % 4 ≠ 3) :
    (outsAt0 m c t.val t.isLt).2.2.2.2 = k0_pay1 (k0_pay11 (iblk m c 0 t) (iblk m c 2 t)) (outsAt0 m c (t.val - 1) (Nat.lt_of_le_of_lt (Nat.sub_le _ _) t.isLt)).2.2.2.2 := by
  rw [outsAt0_B m c t h (by omega) h (by omega) h3]
  frame_out
  simp only [read_unread_whole]

/-- What the last point of a hidden tile leaves in the gradient block. -/
theorem du_C (c : Dev nD) (t : Fin cfg0.N) (h3 : t.val % 4 = 3) :
    (outsAt0 m c t.val t.isLt).1 = k0_pay7 (iblk m c 0 t) (iblk m c 1 t) (iblk m c 2 t) := by
  rw [outsAt0_C m c t (by omega) (by omega) (by omega) (by omega) h3]
  frame_out

/-- What the last point of a hidden tile leaves in the first accumulator. -/
theorem up_C (c : Dev nD) (t : Fin cfg0.N) (h3 : t.val % 4 = 3) :
    (outsAt0 m c t.val t.isLt).2.2.2.1 = k0_pay10 (iblk m c 0 t) (iblk m c 1 t) (iblk m c 2 t) (iblk m c 3 t) (outsAt0 m c (t.val - 1) (Nat.lt_of_le_of_lt (Nat.sub_le _ _) t.isLt)).2.2.2.1 := by
  rw [outsAt0_C m c t (by omega) (by omega) (by omega) (by omega) h3]
  frame_out
  simp only [read_unread_whole]

/-- What the last point of a hidden tile leaves in the second accumulator. -/
theorem down_C (c : Dev nD) (t : Fin cfg0.N) (h3 : t.val % 4 = 3) :
    (outsAt0 m c t.val t.isLt).2.2.2.2 = k0_pay1 (k0_pay11 (iblk m c 0 t) (iblk m c 2 t)) (outsAt0 m c (t.val - 1) (Nat.lt_of_le_of_lt (Nat.sub_le _ _) t.isLt)).2.2.2.2 := by
  rw [outsAt0_C m c t (by omega) (by omega) (by omega) (by omega) h3]
  frame_out
  simp only [read_unread_whole]

/-- What the last point of a hidden tile leaves in the block of the down weight's gradient. -/
theorem dwd_C (c : Dev nD) (t : Fin cfg0.N) (h3 : t.val % 4 = 3) :
    (outsAt0 m c t.val t.isLt).2.2.1 = k0_pay4 (k0_pay1 (k0_pay11 (iblk m c 0 t) (iblk m c 2 t)) (outsAt0 m c (t.val - 1) (Nat.lt_of_le_of_lt (Nat.sub_le _ _) t.isLt)).2.2.2.2) := by
  rw [outsAt0_C m c t (by omega) (by omega) (by omega) (by omega) h3]
  frame_out
  simp only [read_unread_whole]

/-- What the last point of a hidden tile leaves in the block of the up weight's gradient: slab `s` is the columns
    from `512 * s` of the first accumulator. -/
theorem slab_C (c : Dev nD) (t : Fin cfg0.N) (h3 : t.val % 4 = 3) (y : S2x1024x512.Idx) (j : S1024x1024.Idx)
    (hj0 : (j 0).val = (y 1).val) (hj1 : (j 1).val = 512 * (y 0).val + (y 2).val) :
    (outsAt0 m c t.val t.isLt).2.1 y = (k0_pay10 (iblk m c 0 t) (iblk m c 1 t) (iblk m c 2 t) (iblk m c 3 t) (outsAt0 m c (t.val - 1) (Nat.lt_of_le_of_lt (Nat.sub_le _ _) t.isLt)).2.2.2.1) j := by
  rw [outsAt0_C m c t (by omega) (by omega) (by omega) (by omega) h3]
  frame_out
  simp only [read_unread_whole]
  generalize (k0_pay10 (iblk m c 0 t) (iblk m c 1 t) (iblk m c 2 t) (iblk m c 3 t) (outsAt0 m c (t.val - 1) (Nat.lt_of_le_of_lt (Nat.sub_le _ _) t.isLt)).2.2.2.1) = P
  canon_tiles x h
  · rw [View.readCov_fill _ _ _ _ _ (by decide)]
    unfold k0_pay3
    pointwise
    exact congrArg P (by blk_ext [])
  · rw [View.readCov_fill _ _ _ _ _ (by decide)]
    unfold k0_pay2
    pointwise
    exact congrArg P (by blk_ext [])

/-! The payloads at an index. -/

/-- The gradient block: the product with the down weight times twice the positive part of the hidden value. -/
theorem pay_du (x0 : Vec Ideal S1024x1024 .bf16) (x1 : Vec Ideal S1x1024x1024 .bf16) (x2 : Vec Ideal S1024x1024 .bf16) (p q : Fin 1024) :
    k0_pay7 x0 x1 x2 (ix2 p q)
      = (∑ k : Fin 1024, x0 (ix2 p k) * x1 (ix3 0 q k)) * (Ideal.ofBits FTy.f32 1073741824#32 * max (x2 (ix2 p q)) 0) := by
  unfold k0_pay7 k0_pay6 k0_pay5
  pointwise

/-- What a point puts first into the accumulator of the up weight's gradient. -/
theorem pay_up_first (x0 : Vec Ideal S1024x1024 .bf16) (x1 : Vec Ideal S1x1024x1024 .bf16) (x2 x3 : Vec Ideal S1024x1024 .bf16) (p q : Fin 1024) :
    k0_pay9 x0 x1 x2 x3 (ix2 p q) = ∑ k : Fin 1024, x3 (ix2 k p) * k0_pay7 x0 x1 x2 (ix2 k q) := by
  unfold k0_pay9 k0_pay8
  generalize k0_pay7 x0 x1 x2 = D
  pointwise

/-- What a later point makes of the accumulator of the up weight's gradient. -/
theorem pay_up (x0 : Vec Ideal S1024x1024 .bf16) (x1 : Vec Ideal S1x1024x1024 .bf16) (x2 x3 : Vec Ideal S1024x1024 .bf16) (xs : Vec Ideal S1024x1024 .f32) (p q : Fin 1024) :
    k0_pay10 x0 x1 x2 x3 xs (ix2 p q) = xs (ix2 p q) + ∑ k : Fin 1024, x3 (ix2 k p) * k0_pay7 x0 x1 x2 (ix2 k q) := by
  unfold k0_pay10 k0_pay8
  generalize k0_pay7 x0 x1 x2 = D
  pointwise

/-- What a point puts first into the accumulator of the down weight's gradient. -/
theorem pay_down_first (x0 x2 : Vec Ideal S1024x1024 .bf16) (p q : Fin 1024) :
    k0_pay12 x0 x2 (ix2 p q) = ∑ k : Fin 1024, max (x2 (ix2 k p)) 0 * max (x2 (ix2 k p)) 0 * x0 (ix2 k q) := by
  unfold k0_pay12 k0_pay11 k0_pay6 k0_pay5
  pointwise

/-- What a later point makes of the accumulator of the down weight's gradient. -/
theorem pay_down (x0 x2 : Vec Ideal S1024x1024 .bf16) (xs : Vec Ideal S1024x1024 .f32) (p q : Fin 1024) :
    k0_pay1 (k0_pay11 x0 x2) xs (ix2 p q)
      = xs (ix2 p q) + ∑ k : Fin 1024, max (x2 (ix2 k p)) 0 * max (x2 (ix2 k p)) 0 * x0 (ix2 k q) := by
  unfold k0_pay1 k0_pay11 k0_pay6 k0_pay5
  pointwise

/-- The block of the down weight's gradient is the accumulator under a leading unit axis. -/
theorem pay_dwd (xs : Vec Ideal S1024x1024 .f32) (p q : Fin 1024) : k0_pay4 xs (ix3 0 p q) = xs (ix2 p q) := by
  unfold k0_pay4
  pointwise

end Cert.Kernel2Ideal.Block
-- ==== Proof.MlpValue.lean ====
/- What the squared-ReLU backward kernel's three result arrays end holding, as sums over the arguments. -/
module

public import proofs.«01_k».proof.Proof.MlpBlock
public import Idealize.ShloMosaic.Lib.Tactic

@[expose] public section

set_option maxRecDepth 16384

noncomputable section

namespace Cert.Kernel2Ideal.Block

open Cert.Kernel2Ideal Cert.Kernel2Ideal.Gen Idealize.ShloMosaic Idealize.ShloMosaic.TcCoe Idealize.SL.Sem

variable (m : (ℓ : Loc nD τ sig) → Buf (Elt Ideal) ℓ)

/-- The tokens' input. -/
abbrev aX (c : Dev nD) : S4096x1024.Idx → EReal := m ((c : Thread nD τ).loc main_arg0)
/-- The up weight. -/
abbrev aU (c : Dev nD) : S1024x4096.Idx → EReal := m ((c : Thread nD τ).loc main_arg1)
/-- The down weight. -/
abbrev aD (c : Dev nD) : S4096x1024.Idx → EReal := m ((c : Thread nD τ).loc main_arg2)
/-- The gradient that comes in. -/
abbrev aZ (c : Dev nD) : S4096x1024.Idx → EReal := m ((c : Thread nD τ).loc main_arg3)

/-- The hidden value of token `a` at channel `b`. -/
def hid (c : Dev nD) (a b : Fin 4096) : EReal := ∑ k : Fin 1024, aX m c (ix2 a k) * aU m c (ix2 k b)
/-- Its positive part. -/
def pos (c : Dev nD) (a b : Fin 4096) : EReal := max (hid m c a b) 0
/-- The gradient with respect to it. -/
def grad (c : Dev nD) (a b : Fin 4096) : EReal :=
  (∑ k : Fin 1024, aZ m c (ix2 a k) * aD m c (ix2 b k)) * (Ideal.ofBits FTy.f32 1073741824#32 * pos m c a b)

/-- The grid has sixteen points. -/
theorem tlt (t : Fin cfg0.N) : t.val < 16 := t.isLt

/-- Token row `p` of the point's token tile. -/
abbrev tok (t : Fin cfg0.N) (p : Fin 1024) : Fin 4096 := ⟨t.val % 4 * 1024 + p.val, by omega⟩
/-- Hidden channel `q` of the point's hidden tile. -/
abbrev chn (t : Fin cfg0.N) (q : Fin 1024) : Fin 4096 := ⟨t.val / 4 * 1024 + q.val, by have := tlt t; omega⟩

/-- Which block of each input a point reads. -/
theorem idx0 : ∀ t : Fin cfg0.N, win0_0.index t = ![t.val % 4, 0] ∧ win0_1.index t = ![0, t.val / 4, 0]
    ∧ win0_2.index t = ![t.val % 4, t.val / 4] ∧ win0_3.index t = ![t.val % 4, 0] := by decide +kernel

theorem in0 (c : Dev nD) (t : Fin cfg0.N) (p q : Fin 1024) : iblk m c 0 t (ix2 p q) = aZ m c (ix2 (tok t p) q) := by
  blk_point [iblk, V, idx0 t]
theorem in1 (c : Dev nD) (t : Fin cfg0.N) (p q : Fin 1024) : iblk m c 1 t (ix3 0 p q) = aD m c (ix2 (chn t p) q) := by
  blk_point [iblk, V, idx0 t]
/-- The third input array as the host hands it over: the hidden values. -/
theorem entry2 (c : Dev nD) (a b : Fin 4096) :
    (V m c (Pipeline.arrRef spec0 2) : S4096x4096.Idx → EReal) (ix2 a b) = hid m c a b := by
  unfold V hid
  entry_read
  pointwise
theorem in2 (c : Dev nD) (t : Fin cfg0.N) (p q : Fin 1024) : iblk m c 2 t (ix2 p q) = hid m c (tok t p) (chn t q) := by
  rw [← entry2]
  blk_ext [iblk, idx0 t]
theorem in3 (c : Dev nD) (t : Fin cfg0.N) (p q : Fin 1024) : iblk m c 3 t (ix2 p q) = aX m c (ix2 (tok t p) q) := by
  blk_point [iblk, V, idx0 t]

theorem du_pt (c : Dev nD) (t : Fin cfg0.N) (p q : Fin 1024) :
    k0_pay7 (iblk m c 0 t) (iblk m c 1 t) (iblk m c 2 t) (ix2 p q) = grad m c (tok t p) (chn t q) := by
  rw [pay_du]
  simp only [in0, in1, in2]
  rfl

/-- After every point the first output block holds the gradient of its tile. -/
theorem du_at (c : Dev nD) (t : Fin cfg0.N) (p q : Fin 1024) :
    (outsAt0 m c t.val t.isLt).1 (ix2 p q) = grad m c (tok t p) (chn t q) := by
  by_cases h : t.val % 4 = 0
  · rw [du_A m c t h, du_pt]
  · by_cases h3 : t.val % 4 = 3
    · rw [du_C m c t h3, du_pt]
    · rw [du_B m c t h h3, du_pt]

/-- A point of the same hidden tile has the same channels. -/
theorem chn_run (t u : Fin cfg0.N) (s : Fin 4) (hu : u.val = 4 * (t.val / 4) + s.val) (q : Fin 1024) : chn u q = chn t q := by
  apply Fin.ext
  show u.val / 4 * 1024 + q.val = t.val / 4 * 1024 + q.val
  omega

/-- The tokens of point number `s` of a hidden tile. -/
theorem tok_run (t u : Fin cfg0.N) (s : Fin 4) (hu : u.val = 4 * (t.val / 4) + s.val) (k : Fin 1024) (hl : s.val * 1024 + k.val < 4096) :
    tok u k = ⟨s.val * 1024 + k.val, hl⟩ := by
  apply Fin.ext
  show u.val % 4 * 1024 + k.val = s.val * 1024 + k.val
  omega

/-- The first accumulator after the last point of a hidden tile. -/
theorem up_at (c : Dev nD) (t : Fin cfg0.N) (h3 : t.val % 4 = 3) (p q : Fin 1024) :
    (outsAt0 m c t.val t.isLt).2.2.2.1 (ix2 p q) = ∑ a : Fin 4096, aX m c (ix2 a p) * grad m c a (chn t q) := by
  have key := Pipeline.eq_sum_fin_of_reset_step_apply_of_flush (fun n h => (outsAt0 m c n h).2.2.2.1) 4 (fun _ => (0 : EReal))
    (fun t i => ∑ k : Fin 1024, aX m c (ix2 (tok t k) (i 0)) * grad m c (tok t k) (chn t (i 1)))
    (fun t h i => by
      idx_vars i
      rw [up_A m c t h, pay_up_first]
      simp only [in3, du_pt, zero_add]
      try rfl)
    (fun t h i => by
      idx_vars i
      by_cases h3 : t.val % 4 = 3
      · rw [up_C m c t h3, pay_up]
        simp only [in3, du_pt]
        try rfl
      · rw [up_B m c t h h3, pay_up]
        simp only [in3, du_pt]
        try rfl) t h3 (ix2 p q)
  rw [key, zero_add]
  refine Fin.sum_mul_add_congr fun s k hl => ?_
  rw [tok_run t ⟨4 * (t.val / 4) + s.val, _⟩ s rfl k hl]
  exact congrArg (fun z => aX m c (ix2 ⟨s.val * 1024 + k.val, hl⟩ p) * grad m c ⟨s.val * 1024 + k.val, hl⟩ z)
    (chn_run t ⟨4 * (t.val / 4) + s.val, _⟩ s rfl q)

/-- The second accumulator after the last point of a hidden tile. -/
theorem down_at (c : Dev nD) (t : Fin cfg0.N) (h3 : t.val % 4 = 3) (p q : Fin 1024) :
    (outsAt0 m c t.val t.isLt).2.2.2.2 (ix2 p q) = ∑ a : Fin 4096, pos m c a (chn t p) * pos m c a (chn t p) * aZ m c (ix2 a q) := by
  have key := Pipeline.eq_sum_fin_of_reset_step_apply_of_flush (fun n h => (outsAt0 m c n h).2.2.2.2) 4 (fun _ => (0 : EReal))
    (fun t i => ∑ k : Fin 1024, pos m c (tok t k) (chn t (i 0)) * pos m c (tok t k) (chn t (i 0)) * aZ m c (ix2 (tok t k) (i 1)))
    (fun t h i => by
      idx_vars i
      rw [down_A m c t h, pay_down_first]
      simp only [in0, in2, zero_add]
      try rfl)
    (fun t h i => by
      idx_vars i
      by_cases h3 : t.val % 4 = 3
      · rw [down_C m c t h3, pay_down]
        simp only [in0, in2]
        try rfl
      · rw [down_B m c t h h3, pay_down]
        simp only [in0, in2]
        try rfl) t h3 (ix2 p q)
  rw [key, zero_add]
  refine Fin.sum_mul_add_congr fun s k hl => ?_
  rw [tok_run t ⟨4 * (t.val / 4) + s.val, _⟩ s rfl k hl]
  exact congrArg (fun z => pos m c ⟨s.val * 1024 + k.val, hl⟩ z * pos m c ⟨s.val * 1024 + k.val, hl⟩ z * aZ m c (ix2 ⟨s.val * 1024 + k.val, hl⟩ q))
    (chn_run t ⟨4 * (t.val / 4) + s.val, _⟩ s rfl p)

/-- The block of the down weight's gradient after the last point of a hidden tile. -/
theorem dwd_at (c : Dev nD) (t : Fin cfg0.N) (h3 : t.val % 4 = 3) (p q : Fin 1024) :
    (outsAt0 m c t.val t.isLt).2.2.1 (ix3 0 p q) = ∑ a : Fin 4096, pos m c a (chn t p) * pos m c a (chn t p) * aZ m c (ix2 a q) := by
  rw [dwd_C m c t h3, pay_dwd, ← down_C m c t h3, down_at m c t h3]

/-- The block of the up weight's gradient after the last point of a hidden tile. -/
theorem slab_at (c : Dev nD) (t : Fin cfg0.N) (h3 : t.val % 4 = 3) (s : Fin 2) (p : Fin 1024) (q : Fin 512) :
    (outsAt0 m c t.val t.isLt).2.1 (ix3 s p q)
      = ∑ a : Fin 4096, aX m c (ix2 a p) * grad m c a (chn t ⟨512 * s.val + q.val, by omega⟩) := by
  rw [slab_C m c t h3 (ix3 s p q) (ix2 p ⟨512 * s.val + q.val, by omega⟩) rfl rfl, ← up_C m c t h3, up_at m c t h3]

/-! The three result arrays. -/

open Cert.Kernel2Ideal.Value

/-- The first result: the gradient with respect to the hidden values. -/
theorem G4_apply (c : Dev nD) (a b : Fin 4096) : (G4 m c : S4096x4096.Idx → EReal) (ix2 a b) = grad m c a b := by
  have hp : pt4Of (ix2 a b : S4096x4096.Idx) = a.val / 1024 + 4 * (b.val / 1024) := by
    show 1 * (a.val / 1024 - 0) + 4 * (b.val / 1024 - 0) = _
    omega
  have hlt : pt4Of (ix2 a b : S4096x4096.Idx) < cfg0.N := by
    rw [hp]; show _ < 16; omega
  unfold G4
  rw [dif_pos hlt, ← outsAt0_sweep m c _ hlt]
  have hl : loc4Of (ix2 a b : S4096x4096.Idx) = ix2 ⟨a.val % 1024, Nat.mod_lt _ (by decide)⟩ ⟨b.val % 1024, Nat.mod_lt _ (by decide)⟩ := by
    funext x; fin_cases x <;> rfl
  rw [hl]
  refine (du_at m c ⟨_, hlt⟩ _ _).trans ?_
  congr 1
  · apply Fin.ext
    show pt4Of (ix2 a b : S4096x4096.Idx) % 4 * 1024 + a.val % 1024 = a.val
    rw [hp]; omega
  · apply Fin.ext
    show pt4Of (ix2 a b : S4096x4096.Idx) / 4 * 1024 + b.val % 1024 = b.val
    rw [hp]; omega

/-- The second result: the up weight's gradient, in eight slabs of 512 channels. -/
theorem G5_apply (c : Dev nD) (s : Fin 8) (p : Fin 1024) (q : Fin 512) : (G5 m c : S8x1024x512.Idx → EReal) (ix3 s p q)
    = ∑ a : Fin 4096, aX m c (ix2 a p) * grad m c a ⟨512 * s.val + q.val, by omega⟩ := by
  have hp : pt5Of (ix3 s p q : S8x1024x512.Idx) = 4 * (s.val / 2) + 3 := by
    show 4 * (1 * (s.val / 2 - 0) + 1 * (p.val / 1024 - 0) + 1 * (q.val / 512 - 0)) + 3 = _
    omega
  have hlt : pt5Of (ix3 s p q : S8x1024x512.Idx) < cfg0.N := by
    rw [hp]; show _ < 16; omega
  unfold G5
  rw [dif_pos hlt, ← outsAt0_sweep m c _ hlt]
  have hl : loc5Of (ix3 s p q : S8x1024x512.Idx) = ix3 ⟨s.val % 2, Nat.mod_lt _ (by decide)⟩ p q := by
    funext x; fin_cases x
    · rfl
    · exact Fin.ext (Nat.mod_eq_of_lt p.isLt)
    · exact Fin.ext (Nat.mod_eq_of_lt q.isLt)
  rw [hl]
  refine (slab_at m c ⟨_, hlt⟩ (by show pt5Of (ix3 s p q : S8x1024x512.Idx) % 4 = 3; rw [hp]; omega) _ _ _).trans ?_
  refine Finset.sum_congr rfl fun k _ => ?_
  congr 2
  apply Fin.ext
  show pt5Of (ix3 s p q : S8x1024x512.Idx) / 4 * 1024 + (512 * (s.val % 2) + q.val) = 512 * s.val + q.val
  rw [hp]; omega

/-- The third result: the down weight's gradient. -/
theorem G6_apply (c : Dev nD) (p : Fin 4096) (q : Fin 1024) : (G6 m c : S1x4096x1024.Idx → EReal) (ix3 0 p q)
    = ∑ a : Fin 4096, pos m c a p * pos m c a p * aZ m c (ix2 a q) := by
  have hp : pt6Of (ix3 0 p q : S1x4096x1024.Idx) = 4 * (p.val / 1024) + 3 := by
    show 4 * (4 * (0 / 1 - 0) + 1 * (p.val / 1024 - 0) + 1 * (q.val / 1024 - 0)) + 3 = _
    omega
  have hlt : pt6Of (ix3 0 p q : S1x4096x1024.Idx) < cfg0.N := by
    rw [hp]; show _ < 16; omega
  unfold G6
  rw [dif_pos hlt, ← outsAt0_sweep m c _ hlt]
  have hl : loc6Of (ix3 0 p q : S1x4096x1024.Idx) = ix3 0 ⟨p.val % 1024, Nat.mod_lt _ (by decide)⟩ q := by
    funext x; fin_cases x
    · rfl
    · rfl
    · exact Fin.ext (Nat.mod_eq_of_lt q.isLt)
  rw [hl]
  refine (dwd_at m c ⟨_, hlt⟩ (by show pt6Of (ix3 0 p q : S1x4096x1024.Idx) % 4 = 3; rw [hp]; omega) _ _).trans ?_
  have he : chn ⟨_, hlt⟩ ⟨p.val % 1024, Nat.mod_lt _ (by decide)⟩ = p := by
    apply Fin.ext
    show pt6Of (ix3 0 p q : S1x4096x1024.Idx) / 4 * 1024 + p.val % 1024 = p.val
    rw [hp]; omega
  rw [he]

end Cert.Kernel2Ideal.Block
-- ==== Proof.MlpRef.lean ====
/- What the reference of the squared-ReLU backward pass computes, as sums over the arguments. -/
module

public import proofs.«01_k».proof.Proof.Gen.Reference2Ideal.Read
public import Idealize.ShloMosaic.Lib.Pointwise

@[expose] public section

set_option maxRecDepth 16384

noncomputable section

namespace Cert.Reference2Ideal.Sums

open Cert.Reference2Ideal Cert.Reference2Ideal.Gen Cert.Reference2Ideal.Read Idealize.ShloMosaic Idealize.ShloMosaic.TcCoe Idealize.SL.Sem

variable (x : S4096x1024.Idx → EReal) (u : S1024x4096.Idx → EReal) (d z : S4096x1024.Idx → EReal)

/-- The positive part of the hidden value of token `a` at channel `b`. -/
def rpos (a b : Fin 4096) : EReal := max (∑ k : Fin 1024, x (ix2 a k) * u (ix2 k b)) 0

/-- The gradient with respect to it: the product with the down weight times twice the positive part. -/
def rgrad (a b : Fin 4096) : EReal :=
  (∑ k : Fin 1024, z (ix2 a k) * d (ix2 b k)) * (Ideal.ofBits FTy.f32 1073741824#32 * rpos x u a b)

/-- Where the hidden value is not positive its positive part is zero, so that the selected zero is the product. -/
theorem grad_select (h g : EReal) (w : EReal) : (if 0 < h then g * (w * max h 0) else 0) = g * (w * max h 0) := by
  split
  · rfl
  · rename_i hn
    rw [max_eq_right (not_lt.mp hn), mul_zero, mul_zero]

/-- The reference's gradient with respect to the hidden values. -/
theorem v14_apply (a b : Fin 4096) :
    (val_main_v14 (F := Ideal) x u d z : S4096x4096.Idx → EReal) (ix2 a b) = rgrad x u d z a b := by
  unfold val_main_v14 val_main_v12 val_main_v11 val_main_v7 val_main_v6 val_main_cst_1 val_main_v13 val_main_cst_2 val_main_v3 val_main_v2 val_main_cst val_main_v1 val_main_call0_v0 val_main_call0_cst val_main_v0
  pointwise
  exact grad_select _ _ _

/-- The reference's first result. -/
theorem v19_apply (a b : Fin 4096) :
    (val_main_v19 (F := Ideal) x u d z : S4096x4096.Idx → EReal) (ix2 a b) = rgrad x u d z a b := by
  unfold val_main_v19
  rw [← v14_apply]
  pointwise

/-- The reference's second result: the up weight's gradient in eight slabs. -/
theorem v20_apply (s : Fin 8) (p : Fin 1024) (q : Fin 512) :
    (val_main_v20 (F := Ideal) x u d z : S8x1024x512.Idx → EReal) (ix3 s p q)
      = ∑ a : Fin 4096, rgrad x u d z a ⟨s.val * 512 + q.val, by omega⟩ * x (ix2 a p) := by
  unfold val_main_v20 val_main_v18 val_main_v17 val_main_v16 val_main_v15
  simp only [← v14_apply]
  generalize val_main_v14 (F := Ideal) x u d z = D
  pointwise

/-- The reference's third result: the down weight's gradient. -/
theorem v22_apply (p : Fin 4096) (q : Fin 1024) :
    (val_main_v22 (F := Ideal) x u z : S1x4096x1024.Idx → EReal) (ix3 0 p q)
      = ∑ a : Fin 4096, z (ix2 a q) * (rpos x u a p * rpos x u a p) := by
  unfold val_main_v22 val_main_v21 val_main_v10 val_main_v9 val_main_v5 val_main_v1 val_main_call0_v0 val_main_call0_cst val_main_v0 rpos
  pointwise

end Cert.Reference2Ideal.Sums
-- ==== Proof.MlpClaim.lean ====
/- The squared-ReLU backward kernel and its reference end holding the same arrays. -/
module

public import proofs.«01_k».proof.Defs
public import proofs.«01_k».proof.Proof.MlpValue
public import proofs.«01_k».proof.Proof.MlpRef

@[expose] public section

set_option maxRecDepth 16384

noncomputable section

namespace Cert.Proof

open Idealize.ShloMosaic Idealize.ShloMosaic.TcCoe Idealize.SL.Sem Cert.Kernel2Ideal.Block

variable (m : (ℓ : Loc Cert.Kernel2Ideal.nD Cert.Kernel2Ideal.τ Cert.Kernel2Ideal.sig) → Buf (Elt Ideal) ℓ)

/-- The first results agree. -/
theorem mlp_eq0 (c : Dev Cert.Kernel2Ideal.nD) :
    Cert.Reference2Ideal.Read.val_main_v19 (F := Ideal) (aX m c) (aU m c) (aD m c) (aZ m c) = Cert.Kernel2Ideal.Value.G4 m c := by
  funext i
  change Cert.Kernel2Ideal.S4096x4096.Idx at i
  idx_vars i
  exact (Cert.Reference2Ideal.Sums.v19_apply ..).trans (G4_apply ..).symm

/-- The second results agree. -/
theorem mlp_eq1 (c : Dev Cert.Kernel2Ideal.nD) :
    Cert.Reference2Ideal.Read.val_main_v20 (F := Ideal) (aX m c) (aU m c) (aD m c) (aZ m c) = Cert.Kernel2Ideal.Value.G5 m c := by
  funext i
  change Cert.Kernel2Ideal.S8x1024x512.Idx at i
  idx_vars i
  refine (Cert.Reference2Ideal.Sums.v20_apply ..).trans (Eq.trans ?_ (G5_apply ..).symm)
  refine Finset.sum_congr rfl fun a _ => ?_
  rw [mul_comm]
  refine congrArg (fun b => aX m c (ix2 a _) * grad m c a b) (Fin.ext ?_)
  show _ * 512 + _ = 512 * _ + _
  rw [Nat.mul_comm]

/-- The third results agree. -/
theorem mlp_eq2 (c : Dev Cert.Kernel2Ideal.nD) :
    Cert.Reference2Ideal.Read.val_main_v22 (F := Ideal) (aX m c) (aU m c) (aZ m c) = Cert.Kernel2Ideal.Value.G6 m c := by
  funext i
  change Cert.Kernel2Ideal.S1x4096x1024.Idx at i
  idx_vars i
  obtain rfl : i0 = 0 := Subsingleton.elim _ _
  refine (Cert.Reference2Ideal.Sums.v22_apply ..).trans (Eq.trans ?_ (G6_apply ..).symm)
  exact Finset.sum_congr rfl fun a _ => mul_comm _ _

/-- The value claim of the squared-ReLU backward kernel. -/
theorem mlp : algebraic_Kernel2Ideal_Reference2Ideal := by
  intro m g m' g' _ hin
  refine ⟨fun c => Cert.Kernel2Ideal.Value.G4 m c, fun c => Cert.Kernel2Ideal.Value.G5 m c, fun c => Cert.Kernel2Ideal.Value.G6 m c,
    Cert.Kernel2Ideal.Value.run m g, ?_⟩
  refine (θ_run Cert.Reference2Ideal.defs _ _).mono (fun r h c => ?_) (Cert.Reference2Ideal.Value.run m' g')
  obtain ⟨h0, h1, h2, hk⟩ := h c
  obtain ⟨e0, e1, e2, e3⟩ := hin c
  refine ⟨?_, ?_, ?_, hk⟩
  · rw [h0, e0, e1, e2, e3]
    exact (Cert.Reference2Ideal.Read.val_main_v19_eq ..).trans (mlp_eq0 m c)
  · rw [h1, e0, e1, e2, e3]
    exact (Cert.Reference2Ideal.Read.val_main_v20_eq ..).trans (mlp_eq1 m c)
  · rw [h2, e0, e1, e3]
    exact (Cert.Reference2Ideal.Read.val_main_v22_eq ..).trans (mlp_eq2 m c)

end Cert.Proof
-- ==== Proof.DxBlock.lean ====
/- What one grid point of the squared-ReLU MLP's input-gradient kernel leaves in its output blocks. -/
module

public import proofs.«01_k».proof.Proof.Gen.Kernel3Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel3Ideal.Block

open Cert.Kernel3Ideal Cert.Kernel3Ideal.Gen Idealize.ShloMosaic Idealize.ShloMosaic.TcCoe Idealize.SL.Sem Cert.LayerNorm

variable (m : (ℓ : Loc nD τ sig) → Buf (Elt Ideal) ℓ)

/-- The product with the eight slabs of the weight, and the scaled other gradient added. -/
abbrev dxOf (A : Vec Ideal S512x4096 .bf16) (B : Vec Ideal S8x1024x512 .bf16) (Z : Vec Ideal S512x1024 .f32) : Vec Ideal S512x1024 .f32 :=
  k0_pay10
    (k0_pay7 (View.ld A (Rect.unit ![0, 0] ![512, 512] inb_S512x4096_S512x512_0_0))
      (View.ld B (Rect.unit ![0, 0, 0] ![1, 1024, 512] inb_S8x1024x512_S1x1024x512_0_0_0))
      (View.ld A (Rect.unit ![0, 512] ![512, 512] inb_S512x4096_S512x512_0_512))
      (View.ld B (Rect.unit ![1, 0, 0] ![1, 1024, 512] inb_S8x1024x512_S1x1024x512_1_0_0))
      (View.ld A (Rect.unit ![0, 1024] ![512, 512] inb_S512x4096_S512x512_0_1024))
      (View.ld B (Rect.unit ![2, 0, 0] ![1, 1024, 512] inb_S8x1024x512_S1x1024x512_2_0_0))
      (View.ld A (Rect.unit ![0, 1536] ![512, 512] inb_S512x4096_S512x512_0_1536))
      (View.ld B (Rect.unit ![3, 0, 0] ![1, 1024, 512] inb_S8x1024x512_S1x1024x512_3_0_0)))
    (k0_pay8 (View.ld A (Rect.unit ![0, 2048] ![512, 512] inb_S512x4096_S512x512_0_2048)))
    (k0_pay9 (View.ld B (Rect.unit ![4, 0, 0] ![1, 1024, 512] inb_S8x1024x512_S1x1024x512_4_0_0)))
    (constant S512x1024 FTy.f32 0#32)
    (View.ld A (Rect.unit ![0, 2560] ![512, 512] inb_S512x4096_S512x512_0_2560))
    (View.ld B (Rect.unit ![5, 0, 0] ![1, 1024, 512] inb_S8x1024x512_S1x1024x512_5_0_0))
    (View.ld A (Rect.unit ![0, 3072] ![512, 512] inb_S512x4096_S512x512_0_3072))
    (View.ld B (Rect.unit ![6, 0, 0] ![1, 1024, 512] inb_S8x1024x512_S1x1024x512_6_0_0))
    (View.ld A (Rect.unit ![0, 3584] ![512, 512] inb_S512x4096_S512x512_0_3584))
    (View.ld B (Rect.unit ![7, 0, 0] ![1, 1024, 512] inb_S8x1024x512_S1x1024x512_7_0_0))
    Z

/-- The block of the gradient with respect to the normalised token, of one point. -/
abbrev bdx (c : Dev nD) (t : Fin cfg0.N) : Vec Ideal S512x1024 .f32 := dxOf (iblk m c 0 t) (iblk m c 1 t) (iblk m c 2 t)
/-- The block of the gradient with respect to the token, of one point. -/
abbrev bdz (c : Dev nD) (t : Fin cfg0.N) : Vec Ideal S512x1024 .f32 :=
  k0_pay14 (bdx m c t) (k0_pay11 (iblk m c 3 t)) (iblk m c 4 t) (k0_pay12 (iblk m c 3 t))
/-- The point's share of the scale's gradient. -/
abbrev bdg (c : Dev nD) (t : Fin cfg0.N) : Vec Ideal S1x1024 .f32 := k0_pay15 (bdx m c t) (k0_pay12 (iblk m c 3 t))
/-- The point's share of the shift's gradient. -/
abbrev bdb (c : Dev nD) (t : Fin cfg0.N) : Vec Ideal S1024 .f32 := k0_pay16 (F := Ideal) (bdx m c t)
/-- The point before. -/
abbrev prev (c : Dev nD) (t : Fin cfg0.N) := outsAt0 m c (t.val - 1) (Nat.lt_of_le_of_lt (Nat.sub_le _ _) t.isLt)

/-- What the first point leaves. -/
theorem outs_A (c : Dev nD) (t : Fin cfg0.N) (h : t.val = 0) :
    (outsAt0 m c t.val t.isLt).1 = bdz m c t
      ∧ (outsAt0 m c t.val t.isLt).2.1 = k0_pay2 (F := Ideal) (bdz m c t)
      ∧ (outsAt0 m c t.val t.isLt).2.2.1 = bdg m c t
      ∧ (outsAt0 m c t.val t.isLt).2.2.2.1 = k0_pay1 (F := Ideal) (bdb m c t)
      ∧ (outsAt0 m c t.val t.isLt).2.2.2.2 = k0_pay5 (F := Ideal) (bdz m c t) := by
  rw [outsAt0_A m c t (by omega) (by omega) (by omega) (by omega) (by omega) (by omega)]
  frame_out
  simp only [and_self]

/-- What a later point leaves. -/
theorem outs_B (c : Dev nD) (t : Fin cfg0.N) (h : t.val ≠ 0) :
    (outsAt0 m c t.val t.isLt).1 = bdz m c t
      ∧ (outsAt0 m c t.val t.isLt).2.1 = k0_pay2 (F := Ideal) (bdz m c t)
      ∧ (outsAt0 m c t.val t.isLt).2.2.1 = k0_pay3 (bdg m c t) (prev m c t).2.2.1
      ∧ (outsAt0 m c t.val t.isLt).2.2.2.1 = k0_pay4 (bdb m c t) (prev m c t).2.2.2.1
      ∧ (outsAt0 m c t.val t.isLt).2.2.2.2 = k0_pay6 (bdz m c t) (prev m c t).2.2.2.2 := by
  have : t.val < 8 := t.isLt
  rw [outsAt0_B m c t (by omega) (by omega) (by omega) (by omega) (by omega) (by omega)]
  frame_out
  simp only [read_unread_whole, and_self]

/-! The payloads at an index. -/

theorem pay_dx (A : Vec Ideal S512x4096 .bf16) (B : Vec Ideal S8x1024x512 .bf16) (Z : Vec Ideal S512x1024 .f32) (p : Fin 512) (q : Fin 1024) :
    dxOf A B Z (ix2 p q) = (∑ s : Fin 8, ∑ k : Fin 512, A (ix2 p (⟨s.val * 512 + k.val, by omega⟩ : Fin 4096)) * B (ix3 s q k))
      + Ideal.ofBits FTy.f32 0x3FB504F3#32 * Z (ix2 p q) := by
  unfold dxOf k0_pay10 k0_pay7 k0_pay8 k0_pay9
  pointwise
  rw [Fin.sum_univ_eight]
  rfl

theorem pay_cen (z : Vec Ideal S512x1024 .f32) (p : Fin 512) (q : Fin 1024) :
    k0_pay12 z (ix2 p q) = cen Ple.len (fun i => z (ix2 p i)) q := by
  unfold k0_pay12 k0_pay11 cen mean
  pointwise

theorem pay_nrm (z : Vec Ideal S512x1024 .f32) (p : Fin 512) (q : Fin 1024) :
    k0_pay13 (k0_pay12 z) (ix2 p q) = nrm Ple.len Ple.eps (fun i => z (ix2 p i)) q := by
  unfold k0_pay13 nrm rstd var
  simp only [← pay_cen]
  generalize k0_pay12 z = Y
  pointwise

theorem pay_dz (x : Vec Ideal S512x1024 .f32) (z : Vec Ideal S512x1024 .f32) (g : Vec Ideal S1x1024 .f32) (p : Fin 512) (q : Fin 1024) :
    k0_pay14 x (k0_pay11 z) g (k0_pay12 z) (ix2 p q)
      = back Ple.len Ple.eps (fun i => z (ix2 p i)) (fun i => x (ix2 p i)) (fun i => g (ix2 0 i)) q := by
  unfold k0_pay14 back
  simp only [← pay_nrm]
  generalize k0_pay13 (k0_pay12 z) = Y
  unfold rstd var cen mean k0_pay11
  pointwise

theorem pay_dz16 (x : Vec Ideal S512x1024 .f32) (p : Fin 512) (q : Fin 1024) : k0_pay2 (F := Ideal) x (ix2 p q) = x (ix2 p q) := by
  unfold k0_pay2
  pointwise

theorem pay_dg (x z : Vec Ideal S512x1024 .f32) (q : Fin 1024) :
    k0_pay15 x (k0_pay12 z) (ix2 0 q) = ∑ p : Fin 512, x (ix2 p q) * nrm Ple.len Ple.eps (fun i => z (ix2 p i)) q := by
  unfold k0_pay15
  simp only [← pay_nrm]
  generalize k0_pay13 (k0_pay12 z) = Y
  pointwise

theorem pay_add (x y : Vec Ideal S1x1024 .f32) (q : Fin 1024) : k0_pay3 x y (ix2 0 q) = y (ix2 0 q) + x (ix2 0 q) := by
  unfold k0_pay3
  pointwise

theorem pay_db_first (x : Vec Ideal S512x1024 .f32) (q : Fin 1024) : k0_pay1 (F := Ideal) (k0_pay16 x) (ix2 0 q) = ∑ p : Fin 512, x (ix2 p q) := by
  unfold k0_pay1 k0_pay16
  pointwise

theorem pay_db (x : Vec Ideal S512x1024 .f32) (y : Vec Ideal S1x1024 .f32) (q : Fin 1024) :
    k0_pay4 (k0_pay16 x) y (ix2 0 q) = y (ix2 0 q) + ∑ p : Fin 512, x (ix2 p q) := by
  unfold k0_pay4 k0_pay1 k0_pay16
  pointwise

theorem pay_cs_first (x : Vec Ideal S512x1024 .f32) (q : Fin 1024) : k0_pay5 (F := Ideal) x (ix2 0 q) = ∑ p : Fin 512, x (ix2 p q) := by
  unfold k0_pay5
  pointwise

theorem pay_cs (x : Vec Ideal S512x1024 .f32) (y : Vec Ideal S1x1024 .f32) (q : Fin 1024) :
    k0_pay6 x y (ix2 0 q) = y (ix2 0 q) + ∑ p : Fin 512, x (ix2 p q) := by
  unfold k0_pay6 k0_pay5
  pointwise

end Cert.Kernel3Ideal.Block
-- ==== Proof.DxSpec.lean ====
/- The gradient of the squared-ReLU MLP's input through its normalisation, as sums over the arguments' entries. -/
module

public import proofs.«01_k».proof.Proof.PleSpec

@[expose] public section

noncomputable section

namespace Cert.Dx

open Idealize.ShloMosaic Cert.LayerNorm

/-- The residual's factor as the programs write it. -/
abbrev alpha : EReal := Ideal.ofBits FTy.f32 0x3FB504F3#32

variable (z : Fin 4096 → Fin 1024 → EReal) (bo g : Fin 1024 → EReal) (wu : Fin 1024 → Fin 4096 → EReal)
  (d : Fin 4096 → Fin 1024 → EReal) (du : Fin 4096 → Fin 4096 → EReal)

/-- The token before the normalisation. -/
def zin (a : Fin 4096) (i : Fin 1024) : EReal := z a i + bo i
/-- The gradient with respect to the normalised token: the hidden values' gradient through the weight, and the residual's share. -/
def dx (a : Fin 4096) (i : Fin 1024) : EReal := (∑ k, du a k * wu i k) + alpha * d a i
/-- The gradient with respect to the token. -/
def dz (a : Fin 4096) (i : Fin 1024) : EReal := back Ple.len Ple.eps (zin z bo a) (dx wu d du a) g i
/-- The gradient with respect to the scale. -/
def dg (i : Fin 1024) : EReal := ∑ a, dx wu d du a i * nrm Ple.len Ple.eps (zin z bo a) i
/-- The gradient with respect to the shift. -/
def db (i : Fin 1024) : EReal := ∑ a, dx wu d du a i
/-- The gradient with respect to the bias before the normalisation. -/
def dbo (i : Fin 1024) : EReal := ∑ a, dz z bo g wu d du a i

theorem ofBits_alpha : ∃ r : ℝ, alpha = (r : EReal) := by
  refine ⟨11863283 / 8388608, ?_⟩
  simp [Ideal.ofBits, Ideal.ieee, -EReal.coe_mul]; norm_num

/-- With finite arguments the gradient with respect to the normalised token is finite. -/
theorem dx_real (hwu : ∀ k j, IsReal (wu k j)) (hd : ∀ a j, IsReal (d a j)) (hdu : ∀ a j, IsReal (du a j))
    (a : Fin 4096) (i : Fin 1024) : IsReal (dx wu d du a i) :=
  .add (.sum fun k => .mul (hdu a k) (hwu i k)) (.mul ofBits_alpha (hd a i))

end Cert.Dx
-- ==== Proof.DxValue.lean ====
/- What the squared-ReLU MLP's input-gradient kernel's five result arrays end holding, as sums over the arguments. -/
module

public import proofs.«01_k».proof.Proof.DxBlock
public import proofs.«01_k».proof.Proof.DxSpec

@[expose] public section

set_option maxRecDepth 16384

noncomputable section

namespace Cert.Kernel3Ideal.Block

open Cert.Kernel3Ideal Cert.Kernel3Ideal.Gen Idealize.ShloMosaic Idealize.ShloMosaic.TcCoe Idealize.SL.Sem Cert.LayerNorm

variable (m : (ℓ : Loc nD τ sig) → Buf (Elt Ideal) ℓ)

/-- The tokens. -/
abbrev aZ (c : Dev nD) : S4096x1024.Idx → EReal := m ((c : Thread nD τ).loc main_arg0)
/-- The bias before the normalisation. -/
abbrev aBo (c : Dev nD) : S1x1024.Idx → EReal := m ((c : Thread nD τ).loc main_arg1)
/-- The scale. -/
abbrev aG (c : Dev nD) : S1x1024.Idx → EReal := m ((c : Thread nD τ).loc main_arg2)
/-- The weight. -/
abbrev aW (c : Dev nD) : S1024x4096.Idx → EReal := m ((c : Thread nD τ).loc main_arg4)
/-- The residual's gradient. -/
abbrev aD (c : Dev nD) : S4096x1024.Idx → EReal := m ((c : Thread nD τ).loc main_arg5)
/-- The hidden values' gradient. -/
abbrev aU (c : Dev nD) : S4096x4096.Idx → EReal := m ((c : Thread nD τ).loc main_arg6)

/-! The same arrays by rows. -/
abbrev rZ (c : Dev nD) (a : Fin 4096) (i : Fin 1024) : EReal := aZ m c (ix2 a i)
abbrev rBo (c : Dev nD) (i : Fin 1024) : EReal := aBo m c (ix2 0 i)
abbrev rG (c : Dev nD) (i : Fin 1024) : EReal := aG m c (ix2 0 i)
abbrev rW (c : Dev nD) (k : Fin 1024) (j : Fin 4096) : EReal := aW m c (ix2 k j)
abbrev rD (c : Dev nD) (a : Fin 4096) (i : Fin 1024) : EReal := aD m c (ix2 a i)
abbrev rU (c : Dev nD) (a j : Fin 4096) : EReal := aU m c (ix2 a j)

/-! The specification at the kernel's arguments. -/
abbrev sZ (c : Dev nD) := Dx.zin (rZ m c) (rBo m c)
abbrev sDx (c : Dev nD) := Dx.dx (rW m c) (rD m c) (rU m c)
abbrev sDz (c : Dev nD) := Dx.dz (rZ m c) (rBo m c) (rG m c) (rW m c) (rD m c) (rU m c)
abbrev sDg (c : Dev nD) := Dx.dg (rZ m c) (rBo m c) (rW m c) (rD m c) (rU m c)
abbrev sDb (c : Dev nD) := Dx.db (rW m c) (rD m c) (rU m c)
abbrev sDbo (c : Dev nD) := Dx.dbo (rZ m c) (rBo m c) (rG m c) (rW m c) (rD m c) (rU m c)

/-- The grid has eight points. -/
theorem tlt (t : Fin cfg0.N) : t.val < 8 := t.isLt

/-- Token row `p` of the point's token tile. -/
abbrev tok (t : Fin cfg0.N) (p : Fin 512) : Fin 4096 := ⟨t.val * 512 + p.val, by have := tlt t; omega⟩

/-- Which block of each input a point reads. -/
theorem idx0 : ∀ t : Fin cfg0.N, win0_0.index t = ![t.val, 0] ∧ win0_1.index t = ![0, 0, 0]
    ∧ win0_2.index t = ![t.val, 0] ∧ win0_3.index t = ![t.val, 0] ∧ win0_4.index t = ![0, 0] := by decide +kernel

/-- The hidden values' gradient as the host hands it over. -/
theorem entry0 (c : Dev nD) (a b : Fin 4096) :
    (V m c (Pipeline.arrRef spec0 0) : S4096x4096.Idx → EReal) (ix2 a b) = rU m c a b := by
  unfold V
  entry_read
  pointwise
theorem in0 (c : Dev nD) (t : Fin cfg0.N) (p : Fin 512) (q : Fin 4096) : iblk m c 0 t (ix2 p q) = rU m c (tok t p) q := by
  rw [← entry0]
  blk_ext [iblk, idx0 t]
/-- The weight's slabs as the host hands them over. -/
theorem entry1 (c : Dev nD) (s : Fin 8) (q : Fin 1024) (k : Fin 512) :
    (V m c (Pipeline.arrRef spec0 1) : S8x1024x512.Idx → EReal) (ix3 s q k) = rW m c q ⟨s.val * 512 + k.val, by omega⟩ := by
  unfold V
  entry_read
  pointwise
theorem in1 (c : Dev nD) (t : Fin cfg0.N) (s : Fin 8) (q : Fin 1024) (k : Fin 512) :
    iblk m c 1 t (ix3 s q k) = rW m c q ⟨s.val * 512 + k.val, by omega⟩ := by
  rw [← entry1]
  blk_ext [iblk, idx0 t]
theorem in2 (c : Dev nD) (t : Fin cfg0.N) (p : Fin 512) (q : Fin 1024) : iblk m c 2 t (ix2 p q) = rD m c (tok t p) q := by
  blk_point [iblk, V, idx0 t]
/-- The tokens before the normalisation as the host hands them over. -/
theorem entry3 (c : Dev nD) (a : Fin 4096) (b : Fin 1024) :
    (V m c (Pipeline.arrRef spec0 3) : S4096x1024.Idx → EReal) (ix2 a b) = sZ m c a b := by
  unfold V sZ Dx.zin
  entry_read
  pointwise
theorem in3 (c : Dev nD) (t : Fin cfg0.N) (p : Fin 512) (q : Fin 1024) : iblk m c 3 t (ix2 p q) = sZ m c (tok t p) q := by
  rw [← entry3]
  blk_ext [iblk, idx0 t]
theorem in4 (c : Dev nD) (t : Fin cfg0.N) (q : Fin 1024) : iblk m c 4 t (ix2 0 q) = rG m c q := by
  blk_point [iblk, V, idx0 t]

/-! The point's own terms. -/

theorem dx_pt (c : Dev nD) (t : Fin cfg0.N) (p : Fin 512) (q : Fin 1024) : bdx m c t (ix2 p q) = sDx m c (tok t p) q := by
  unfold bdx
  rw [pay_dx]
  simp only [in0, in1, in2]
  unfold sDx Dx.dx
  refine congrArg (· + _) ?_
  exact Fin.sum_mul_add_congr (f := fun k => rU m c (tok t p) k * rW m c q k) fun s k hl => rfl

theorem dz_pt (c : Dev nD) (t : Fin cfg0.N) (p : Fin 512) (q : Fin 1024) : bdz m c t (ix2 p q) = sDz m c (tok t p) q := by
  unfold bdz
  rw [pay_dz]
  simp only [dx_pt, in3, in4]
  rfl

/-- After every point the first output block holds the gradient of its tokens, and the second the same rounded. -/
theorem dz_at (c : Dev nD) (t : Fin cfg0.N) :
    (outsAt0 m c t.val t.isLt).1 = bdz m c t ∧ (outsAt0 m c t.val t.isLt).2.1 = k0_pay2 (F := Ideal) (bdz m c t) := by
  by_cases h : t.val = 0
  · exact ⟨(outs_A m c t h).1, (outs_A m c t h).2.1⟩
  · exact ⟨(outs_B m c t h).1, (outs_B m c t h).2.1⟩

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem dg_at (c : Dev nD) (t : Fin cfg0.N) (h7 : t.val = 7) (q : Fin 1024) : (outsAt0 m c t.val t.isLt).2.2.1 (ix2 0 q) = sDg m c q := by
  refine run_sum (fun n h (q : Fin 1024) => (outsAt0 m c n h).2.2.1 (ix2 0 q)) (fun a q => sDx m c a q * nrm Ple.len Ple.eps (sZ m c a) q) ?_ ?_ t h7 q
  · intro t h q
    rw [(outs_A m c t h).2.2.1, bdg, pay_dg]
    simp only [dx_pt, in3]
  · intro t h q
    rw [(outs_B m c t h).2.2.1, pay_add, bdg, pay_dg]
    simp only [dx_pt, in3]

theorem db_at (c : Dev nD) (t : Fin cfg0.N) (h7 : t.val = 7) (q : Fin 1024) : (outsAt0 m c t.val t.isLt).2.2.2.1 (ix2 0 q) = sDb m c q := by
  refine run_sum (fun n h (q : Fin 1024) => (outsAt0 m c n h).2.2.2.1 (ix2 0 q)) (fun a q => sDx m c a q) ?_ ?_ t h7 q
  · intro t h q
    rw [(outs_A m c t h).2.2.2.1, pay_db_first]
    simp only [dx_pt]
  · intro t h q
    rw [(outs_B m c t h).2.2.2.1, pay_db]
    simp only [dx_pt]

theorem dbo_at (c : Dev nD) (t : Fin cfg0.N) (h7 : t.val = 7) (q : Fin 1024) : (outsAt0 m c t.val t.isLt).2.2.2.2 (ix2 0 q) = sDbo m c q := by
  refine run_sum (fun n h (q : Fin 1024) => (outsAt0 m c n h).2.2.2.2 (ix2 0 q)) (fun a q => sDz m c a q) ?_ ?_ t h7 q
  · intro t h q
    rw [(outs_A m c t h).2.2.2.2, pay_cs_first]
    simp only [dz_pt]
  · intro t h q
    rw [(outs_B m c t h).2.2.2.2, pay_cs]
    simp only [dz_pt]

/-! The five result arrays. -/

/-- The gradient with respect to the tokens, as an array. -/
def G5 (c : Dev nD) : S4096x1024.Idx → EReal := fun i => sDz m c (i 0) (i 1)
/-- The gradient with respect to the scale, as an array. -/
def G7 (c : Dev nD) : S1x1024.Idx → EReal := fun i => sDg m c (i 1)
/-- The gradient with respect to the shift, as an array. -/
def G8 (c : Dev nD) : S1x1024.Idx → EReal := fun i => sDb m c (i 1)
/-- The gradient with respect to the bias, as an array. -/
def G9 (c : Dev nD) : S1x1024.Idx → EReal := fun i => sDbo m c (i 1)

/-- Which block of each output a point writes. -/
theorem idxO : ∀ t : Fin cfg0.N, win0_5.index t = ![t.val, 0] ∧ win0_6.index t = ![t.val, 0] ∧ win0_7.index t = ![0, 0]
    ∧ win0_8.index t = ![0, 0] ∧ win0_9.index t = ![0, 0] := by decide +kernel

/-- The first result: the gradient with respect to the tokens. -/
theorem res5 (c : Dev nD) : (dats m 0 c).arrAt 5 cfg0.N = G5 m c := by
  refine (dats m 0 c).arrAt_eq_of_covers 5 _ (by decide +kernel) fun t hf y => ?_
  blk_simp
  rw [after0_5, (dz_at m c t).1]
  change S512x1024.Idx at y
  idx_vars y
  refine (dz_pt m c t _ _).trans (congrArg (G5 m c) (?_ : _ = ix2 (tok t y0) y1)).symm
  blk_ext [idxO t]

/-- The second result: the same. -/
theorem res6 (c : Dev nD) : (dats m 0 c).arrAt 6 cfg0.N = G5 m c := by
  refine (dats m 0 c).arrAt_eq_of_covers 6 _ (by decide +kernel) fun t hf y => ?_
  blk_simp
  rw [after0_6, (dz_at m c t).2]
  change S512x1024.Idx at y
  idx_vars y
  refine ((pay_dz16 _ _ _).trans (dz_pt m c t _ _)).trans (congrArg (G5 m c) (?_ : _ = ix2 (tok t y0) y1)).symm
  blk_ext [idxO t]

/-- The third result: the gradient with respect to the scale. -/
theorem res7 (c : Dev nD) : (dats m 0 c).arrAt 7 cfg0.N = G7 m c := by
  refine (dats m 0 c).arrAt_eq_of_covers 7 _ (by decide +kernel) fun t hf y => ?_
  have h7 : t.val = 7 := by have := tlt t; have := (flush0_7 t).mp hf; omega
  blk_simp
  rw [after0_7]
  change S1x1024.Idx at y
  idx_vars y
  obtain rfl : y0 = 0 := Subsingleton.elim _ _
  refine (dg_at m c t h7 _).trans (congrArg (G7 m c) (?_ : _ = ix2 0 y1)).symm
  blk_ext [idxO t]

/-- The fourth result: the gradient with respect to the shift. -/
theorem res8 (c : Dev nD) : (dats m 0 c).arrAt 8 cfg0.N = G8 m c := by
  refine (dats m 0 c).arrAt_eq_of_covers 8 _ (by decide +kernel) fun t hf y => ?_
  have h7 : t.val = 7 := by have := tlt t; have := (flush0_8 t).mp hf; omega
  blk_simp
  rw [after0_8]
  change S1x1024.Idx at y
  idx_vars y
  obtain rfl : y0 = 0 := Subsingleton.elim _ _
  refine (db_at m c t h7 _).trans (congrArg (G8 m c) (?_ : _ = ix2 0 y1)).symm
  blk_ext [idxO t]

/-- The fifth result: the gradient with respect to the bias. -/
theorem res9 (c : Dev nD) : (dats m 0 c).arrAt 9 cfg0.N = G9 m c := by
  refine (dats m 0 c).arrAt_eq_of_covers 9 _ (by decide +kernel) fun t hf y => ?_
  have h7 : t.val = 7 := by have := tlt t; have := (flush0_9 t).mp hf; omega
  blk_simp
  rw [after0_9]
  change S1x1024.Idx at y
  idx_vars y
  obtain rfl : y0 = 0 := Subsingleton.elim _ _
  refine (dbo_at m c t h7 _).trans (congrArg (G9 m c) (?_ : _ = ix2 0 y1)).symm
  blk_ext [idxO t]

end Cert.Kernel3Ideal.Block
-- ==== Proof.DxRef.lean ====
/- What the reference of the squared-ReLU MLP's input gradient computes. -/
module

public import proofs.«01_k».proof.Proof.Gen.Reference3Ideal.Read
public import proofs.«01_k».proof.Proof.DxSpec
public import Idealize.ShloMosaic.Lib.Tactic

@[expose] public section

set_option maxRecDepth 16384

noncomputable section

namespace Cert.Reference3Ideal.Sums

open Cert.Reference3Ideal Cert.Reference3Ideal.Gen Cert.Reference3Ideal.Read Idealize.ShloMosaic Idealize.ShloMosaic.TcCoe Idealize.SL.Sem
open Cert.LayerNorm

variable (x0 : S4096x1024.Idx → EReal) (x1 x2 : S1x1024.Idx → EReal) (x4 : S1024x4096.Idx → EReal) (x5 : S4096x1024.Idx → EReal)
  (x6 : S4096x4096.Idx → EReal)

/-- The rows of an argument. -/
abbrev fz (a : Fin 4096) (i : Fin 1024) : EReal := x0 (ix2 a i)
/-- The one row of an argument. -/
abbrev fr (i : Fin 1024) : EReal := x1 (ix2 0 i)
/-- The rows of the weight. -/
abbrev fw (k : Fin 1024) (j : Fin 4096) : EReal := x4 (ix2 k j)
/-- The rows of the hidden values' gradient. -/
abbrev fu (a j : Fin 4096) : EReal := x6 (ix2 a j)

theorem v16_apply (a : Fin 4096) (i : Fin 1024) :
    (val_main_v16 (F := Ideal) x0 x1 : S4096x1024.Idx → EReal) (ix2 a i) = cen Ple.len (Dx.zin (fz x0) (fr x1) a) i := by
  unfold val_main_v16 val_main_v15 val_main_v5 val_main_v4 val_main_cst_0 val_main_v3 val_main_v2 val_main_cst val_main_v1 val_main_v0 cen mean Dx.zin
  pointwise

theorem v7_apply (a : Fin 4096) (i : Fin 1024) :
    (val_main_v7 (F := Ideal) x0 x1 : S4096x1024.Idx → EReal) (ix2 a i) = cen Ple.len (Dx.zin (fz x0) (fr x1) a) i := by
  unfold val_main_v7 val_main_v6 val_main_v5 val_main_v4 val_main_cst_0 val_main_v3 val_main_v2 val_main_cst val_main_v1 val_main_v0 cen mean Dx.zin
  pointwise

theorem v18_apply (a : Fin 4096) (j : Fin 1) :
    (val_main_v18 (F := Ideal) x0 x1 : S4096x1.Idx → EReal) (ix2 a j) = var Ple.len Ple.eps (Dx.zin (fz x0) (fr x1) a) := by
  unfold val_main_v18 val_main_v17 val_main_cst_4 val_main_v14 val_main_v13 val_main_cst_3 val_main_v12 val_main_v11 val_main_cst_2 val_main_v8 var
  simp only [← v7_apply]
  generalize val_main_v7 (F := Ideal) x0 x1 = C
  pointwise

theorem v19_apply (a : Fin 4096) (j : Fin 1) :
    (val_main_v19 (F := Ideal) x0 x1 : S4096x1.Idx → EReal) (ix2 a j) = rstd Ple.len Ple.eps (Dx.zin (fz x0) (fr x1) a) := by
  unfold val_main_v19 rstd
  rw [← v18_apply x0 x1 a j]
  generalize val_main_v18 (F := Ideal) x0 x1 = C
  pointwise

theorem v24_apply (a : Fin 4096) (i : Fin 1024) :
    (val_main_v24 (F := Ideal) x0 x1 : S4096x1024.Idx → EReal) (ix2 a i) = nrm Ple.len Ple.eps (Dx.zin (fz x0) (fr x1) a) i := by
  unfold val_main_v24 val_main_v23 nrm
  rw [← v16_apply, ← v19_apply x0 x1 a 0]
  generalize val_main_v16 (F := Ideal) x0 x1 = C
  generalize val_main_v19 (F := Ideal) x0 x1 = D
  pointwise

theorem v37_apply (a : Fin 4096) (i : Fin 1024) :
    (val_main_v37 (F := Ideal) x4 x5 x6 : S4096x1024.Idx → EReal) (ix2 a i) = Dx.dx (fw x4) (fz x5) (fu x6) a i := by
  unfold val_main_v37 val_main_v34 val_main_v36 val_main_v35 val_main_cst_7 Dx.dx
  pointwise

/-- The gradient with respect to the scale. -/
theorem v42_apply (i : Fin 1024) :
    (val_main_v42 (F := Ideal) x0 x1 x4 x5 x6 : S1x1024.Idx → EReal) (ix2 0 i)
      = Dx.dg (fz x0) (fr x1) (fw x4) (fz x5) (fu x6) i := by
  unfold val_main_v42 val_main_v41 val_main_cst_9 val_main_v40 Dx.dg
  simp only [← v37_apply, ← v24_apply]
  generalize val_main_v37 (F := Ideal) x4 x5 x6 = C
  generalize val_main_v24 (F := Ideal) x0 x1 = D
  pointwise
  exact Finset.sum_congr rfl fun a _ => mul_comm _ _

/-- The gradient with respect to the shift. -/
theorem v39_apply (i : Fin 1024) :
    (val_main_v39 (F := Ideal) x4 x5 x6 : S1x1024.Idx → EReal) (ix2 0 i) = Dx.db (fw x4) (fz x5) (fu x6) i := by
  unfold val_main_v39 val_main_v38 val_main_cst_8 Dx.db
  simp only [← v37_apply]
  generalize val_main_v37 (F := Ideal) x4 x5 x6 = C
  pointwise

/-- The gradient with respect to the token, by the chain rule. -/
theorem v68_apply (a : Fin 4096) (i : Fin 1024) :
    (val_main_v68 (F := Ideal) x0 x1 x2 x4 x5 x6 : S4096x1024.Idx → EReal) (ix2 a i)
      = chain Ple.len Ple.eps (Ideal.ofBits FTy.f32 3204448256#32) (Ideal.ofBits FTy.f32 1073741824#32) (Dx.zin (fz x0) (fr x1) a)
          (Dx.dx (fw x4) (fz x5) (fu x6) a) (fr x2) i := by
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_cst_16 val_main_cst_15 val_main_cst_14 val_main_cst_13 val_main_cst_12 val_main_cst_11 val_main_cst_10 val_main_v22 val_main_v21 val_main_v20 val_main_v10 val_main_v9 val_main_cst_5 val_main_cst_1
  unfold chain thru vari
  have e1 : ∀ j, cen Ple.len (Dx.zin (fz x0) (fr x1) a) j = (val_main_v16 (F := Ideal) x0 x1 : S4096x1024.Idx → EReal) (ix2 a j) := fun j => (v16_apply x0 x1 a j).symm
  have e5 : (val_main_v7 (F := Ideal) x0 x1) = (val_main_v16 (F := Ideal) x0 x1) := by
    funext j
    change S4096x1024.Idx at j
    idx_vars j
    exact (v7_apply ..).trans (v16_apply ..).symm
  rw [e5]
  simp only [e1, ← v37_apply, ← v19_apply x0 x1 a 0, ← v18_apply x0 x1 a 0]
  generalize val_main_v37 (F := Ideal) x4 x5 x6 = C
  generalize val_main_v16 (F := Ideal) x0 x1 = D
  generalize val_main_v19 (F := Ideal) x0 x1 = E
  generalize val_main_v18 (F := Ideal) x0 x1 = G
  pointwise
  simp only [Fin.sum_univ_one]

/-- The rounded gradient is the gradient. -/
theorem v71_apply (a : Fin 4096) (i : Fin 1024) :
    (val_main_v71 (F := Ideal) x0 x1 x2 x4 x5 x6 : S4096x1024.Idx → EReal) (ix2 a i)
      = (val_main_v68 (F := Ideal) x0 x1 x2 x4 x5 x6 : S4096x1024.Idx → EReal) (ix2 a i) := by
  unfold val_main_v71
  generalize val_main_v68 (F := Ideal) x0 x1 x2 x4 x5 x6 = C
  pointwise

/-- The gradient with respect to the bias adds the tokens' gradients. -/
theorem v70_apply (i : Fin 1024) :
    (val_main_v70 (F := Ideal) x0 x1 x2 x4 x5 x6 : S1x1024.Idx → EReal) (ix2 0 i)
      = ∑ a : Fin 4096, (val_main_v68 (F := Ideal) x0 x1 x2 x4 x5 x6 : S4096x1024.Idx → EReal) (ix2 a i) := by
  unfold val_main_v70 val_main_v69 val_main_cst_17
  generalize val_main_v68 (F := Ideal) x0 x1 x2 x4 x5 x6 = C
  pointwise

end Cert.Reference3Ideal.Sums
-- ==== Proof.DxClaim.lean ====
/- The squared-ReLU MLP's input-gradient kernel and its reference end holding the same arrays, from finite arguments. -/
module

public import proofs.«01_k».proof.Defs
public import proofs.«01_k».proof.Proof.DxValue
public import proofs.«01_k».proof.Proof.DxRef

@[expose] public section

set_option maxRecDepth 16384

noncomputable section

namespace Cert.Proof

open Idealize.ShloMosaic Idealize.ShloMosaic.TcCoe Idealize.SL.Sem Cert.Kernel3Ideal.Block Cert.LayerNorm

section
variable [Cert.Pre_finite3.Facts]
/-- What the precondition says: every argument but the shift holds real numbers. -/
theorem dx_pre (x0 : Cert.Pre_finite3.S4096x1024.Idx → EReal) (x1 x2 x3 : Cert.Pre_finite3.S1x1024.Idx → EReal)
    (x4 : Cert.Pre_finite3.S1024x4096.Idx → EReal) (x5 : Cert.Pre_finite3.S4096x1024.Idx → EReal) (x6 : Cert.Pre_finite3.S4096x4096.Idx → EReal)
    (h : Cert.Pre_finite3.fn (F := Ideal) x0 x1 x2 x3 x4 x5 x6 = fun _ => 1#1) :
    (∀ a b, IsReal (x0 (ix2 a b))) ∧ (∀ a b, IsReal (x1 (ix2 a b))) ∧ (∀ a b, IsReal (x2 (ix2 a b)))
      ∧ (∀ a b, IsReal (x4 (ix2 a b))) ∧ (∀ a b, IsReal (x5 (ix2 a b))) ∧ (∀ a b, IsReal (x6 (ix2 a b))) := by
  have h0 := congrFun h (fun a => a.elim0)
  unfold Cert.Pre_finite3.fn Cert.Pre_finite3.fn_part1 at h0
  pointwise at h0
  obtain ⟨h0, e6⟩ := IntOp.andi_eq_one.mp h0
  obtain ⟨h0, e5⟩ := IntOp.andi_eq_one.mp h0
  obtain ⟨h0, e4⟩ := IntOp.andi_eq_one.mp h0
  obtain ⟨h0, e2⟩ := IntOp.andi_eq_one.mp h0
  obtain ⟨e0, e1⟩ := IntOp.andi_eq_one.mp h0
  exact ⟨fun a b => real_of_all (fun k : _ × _ => x0 (ix2 k.1 k.2)) e0 (a, b), fun a b => real_of_all (fun k : _ × _ => x1 (ix2 k.1 k.2)) e1 (a, b),
    fun a b => real_of_all (fun k : _ × _ => x2 (ix2 k.1 k.2)) e2 (a, b), fun a b => real_of_all (fun k : _ × _ => x4 (ix2 k.1 k.2)) e4 (a, b),
    fun a b => real_of_all (fun k : _ × _ => x5 (ix2 k.1 k.2)) e5 (a, b), fun a b => real_of_all (fun k : _ × _ => x6 (ix2 k.1 k.2)) e6 (a, b)⟩
end

variable (m : (ℓ : Loc Cert.Kernel3Ideal.nD Cert.Kernel3Ideal.τ Cert.Kernel3Ideal.sig) → Buf (Elt Ideal) ℓ)

/-- On finite arguments the chain rule's gradient is the two means' one. -/
theorem dx_point (c : Dev Cert.Kernel3Ideal.nD) (hz : ∀ a b, IsReal (aZ m c (ix2 a b))) (hb : ∀ a b, IsReal (aBo m c (ix2 a b)))
    (hg : ∀ a b, IsReal (aG m c (ix2 a b))) (hw : ∀ a b, IsReal (aW m c (ix2 a b))) (hd : ∀ a b, IsReal (aD m c (ix2 a b)))
    (hu : ∀ a b, IsReal (aU m c (ix2 a b))) (a : Fin 4096) (i : Fin 1024) :
    (Cert.Reference3Ideal.Read.val_main_v68 (F := Ideal) (aZ m c) (aBo m c) (aG m c) (aW m c) (aD m c) (aU m c)
      : Cert.Reference3Ideal.S4096x1024.Idx → EReal) (ix2 a i) = sDz m c a i :=
  (Cert.Reference3Ideal.Sums.v68_apply ..).trans
    (chain_eq_back_1024 _ _ _ (fun j => .add (hz _ j) (hb 0 j)) (fun j => Cert.Dx.dx_real _ _ _ (fun k j => hw k j) (fun a j => hd a j) (fun a j => hu a j) _ j)
      (fun j => hg 0 j) _)

/-- The first results agree where the elements do. -/
theorem dx_eq0 (c : Dev Cert.Kernel3Ideal.nD) (h : ∀ (a : Fin 4096) (i : Fin 1024),
    (Cert.Reference3Ideal.Read.val_main_v68 (F := Ideal) (aZ m c) (aBo m c) (aG m c) (aW m c) (aD m c) (aU m c)
      : Cert.Reference3Ideal.S4096x1024.Idx → EReal) (ix2 a i) = sDz m c a i) :
    Cert.Reference3Ideal.Read.val_main_v68 (F := Ideal) (aZ m c) (aBo m c) (aG m c) (aW m c) (aD m c) (aU m c) = G5 m c := by
  funext i
  change Cert.Kernel3Ideal.S4096x1024.Idx at i
  idx_vars i
  exact h _ _

/-- The second results agree where the first do. -/
theorem dx_eq1 (c : Dev Cert.Kernel3Ideal.nD) (h : ∀ (a : Fin 4096) (i : Fin 1024),
    (Cert.Reference3Ideal.Read.val_main_v68 (F := Ideal) (aZ m c) (aBo m c) (aG m c) (aW m c) (aD m c) (aU m c)
      : Cert.Reference3Ideal.S4096x1024.Idx → EReal) (ix2 a i) = sDz m c a i) :
    Cert.Reference3Ideal.Read.val_main_v71 (F := Ideal) (aZ m c) (aBo m c) (aG m c) (aW m c) (aD m c) (aU m c) = G5 m c := by
  funext i
  change Cert.Kernel3Ideal.S4096x1024.Idx at i
  idx_vars i
  exact (Cert.Reference3Ideal.Sums.v71_apply ..).trans (h _ _)

/-- The third results agree. -/
theorem dx_eq2 (c : Dev Cert.Kernel3Ideal.nD) :
    Cert.Reference3Ideal.Read.val_main_v42 (F := Ideal) (aZ m c) (aBo m c) (aW m c) (aD m c) (aU m c) = G7 m c := by
  funext i
  change Cert.Kernel3Ideal.S1x1024.Idx at i
  idx_vars i
  obtain rfl : i0 = 0 := Subsingleton.elim _ _
  exact Cert.Reference3Ideal.Sums.v42_apply ..

/-- The fourth results agree. -/
theorem dx_eq3 (c : Dev Cert.Kernel3Ideal.nD) :
    Cert.Reference3Ideal.Read.val_main_v39 (F := Ideal) (aW m c) (aD m c) (aU m c) = G8 m c := by
  funext i
  change Cert.Kernel3Ideal.S1x1024.Idx at i
  idx_vars i
  obtain rfl : i0 = 0 := Subsingleton.elim _ _
  exact Cert.Reference3Ideal.Sums.v39_apply ..

/-- The fifth results agree where the first do. -/
theorem dx_eq4 (c : Dev Cert.Kernel3Ideal.nD) (h : ∀ (a : Fin 4096) (i : Fin 1024),
    (Cert.Reference3Ideal.Read.val_main_v68 (F := Ideal) (aZ m c) (aBo m c) (aG m c) (aW m c) (aD m c) (aU m c)
      : Cert.Reference3Ideal.S4096x1024.Idx → EReal) (ix2 a i) = sDz m c a i) :
    Cert.Reference3Ideal.Read.val_main_v70 (F := Ideal) (aZ m c) (aBo m c) (aG m c) (aW m c) (aD m c) (aU m c) = G9 m c := by
  funext i
  change Cert.Kernel3Ideal.S1x1024.Idx at i
  idx_vars i
  obtain rfl : i0 = 0 := Subsingleton.elim _ _
  exact (Cert.Reference3Ideal.Sums.v70_apply ..).trans (Finset.sum_congr rfl fun a _ => h a _)

/-- The value claim of the squared-ReLU MLP's input-gradient kernel. -/
theorem mlp_dx [Cert.Pre_finite3.Facts] : algebraic_Kernel3Ideal_Reference3Ideal_pre_finite3 := by
  intro m g m' g' hpre hin
  refine ⟨fun c => G5 m c, fun c => G5 m c, fun c => G7 m c, fun c => G8 m c, fun c => G9 m c, ?_, ?_⟩
  · refine (θ_run Cert.Kernel3Ideal.defs _ _).mono (fun r h c => ?_) (Cert.Kernel3Ideal.Value.run_blocks m g)
    obtain ⟨h0, h1, h2, h3, h4, hk⟩ := h c
    exact ⟨h0.trans (res5 m c), h1.trans (res6 m c), h2.trans (res7 m c), h3.trans (res8 m c), h4.trans (res9 m c), hk⟩
  refine (θ_run Cert.Reference3Ideal.defs _ _).mono (fun r h c => ?_) (Cert.Reference3Ideal.Value.run m' g')
  obtain ⟨h0, h1, h2, h3, h4, hk⟩ := h c
  obtain ⟨e0, e1, e2, e3, e4, e5, e6⟩ := hin c
  obtain ⟨hz, hb, hg, hw, hd, hu⟩ := dx_pre _ _ _ _ _ _ _ (hpre c)
  have q := dx_point m c hz hb hg hw hd hu
  refine ⟨?_, ?_, ?_, ?_, ?_, hk⟩
  · refine h0.trans ((Cert.Reference3Ideal.Read.val_main_v68_eq m' c).trans ?_)
    rw [e0, e1, e2, e4, e5, e6]
    exact dx_eq0 m c q
  · refine h1.trans ((Cert.Reference3Ideal.Read.val_main_v71_eq m' c).trans ?_)
    rw [e0, e1, e2, e4, e5, e6]
    exact dx_eq1 m c q
  · rw [h2, e0, e1, e4, e5, e6]
    exact (Cert.Reference3Ideal.Read.val_main_v42_eq ..).trans (dx_eq2 m c)
  · rw [h3, e4, e5, e6]
    exact (Cert.Reference3Ideal.Read.val_main_v39_eq ..).trans (dx_eq3 m c)
  · refine h4.trans ((Cert.Reference3Ideal.Read.val_main_v70_eq m' c).trans ?_)
    rw [e0, e1, e2, e4, e5, e6]
    exact dx_eq4 m c q

end Cert.Proof
-- ==== Proof.UpValue.lean ====
/- What the squared-ReLU MLP's first product's result array ends holding. -/
module

public import proofs.«01_k».proof.Proof.Gen.Kernel4Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel4Ideal.Block

open Cert.Kernel4Ideal Cert.Kernel4Ideal.Gen Idealize.ShloMosaic Idealize.ShloMosaic.TcCoe Idealize.SL.Sem Cert.LayerNorm

variable (m : (ℓ : Loc nD τ sig) → Buf (Elt Ideal) ℓ)

/-- The tokens. -/
abbrev aX (c : Dev nD) : S4096x1024.Idx → EReal := m ((c : Thread nD τ).loc main_arg0)
/-- The weight. -/
abbrev aW (c : Dev nD) : S1024x4096.Idx → EReal := m ((c : Thread nD τ).loc main_arg1)

/-- The product, as an array. -/
def G2 (c : Dev nD) : S4096x4096.Idx → EReal := fun i => ∑ k : Fin 1024, aX m c (ix2 (i 0) k) * aW m c (ix2 k (i 1))

theorem pay_lo (x : Vec Ideal S1024x1024 .bf16) (A B : Vec Ideal S1x1024x512 .bf16) (p : Fin 1024) (q : Fin 512) :
    k0_pay1 x A B (ix2 p (⟨q.val, by omega⟩ : Fin 1024)) = ∑ k : Fin 1024, x (ix2 p k) * A (ix3 0 k q) := by
  unfold k0_pay1
  pointwise

theorem pay_hi (x : Vec Ideal S1024x1024 .bf16) (A B : Vec Ideal S1x1024x512 .bf16) (p : Fin 1024) (q : Fin 512) :
    k0_pay1 x A B (ix2 p (⟨512 + q.val, by omega⟩ : Fin 1024)) = ∑ k : Fin 1024, x (ix2 p k) * B (ix3 0 k q) := by
  unfold k0_pay1
  pointwise

/-- Which block of each window a point has. -/
theorem idx0 : ∀ t : Fin cfg0.N, win0_0.index t = ![t.val / 4, 0] ∧ win0_1.index t = ![t.val % 4, 0, 0] ∧ win0_2.index t = ![t.val / 4, t.val % 4] := by decide +kernel

/-- The weight's slabs as the host hands them over. -/
theorem entry1 (c : Dev nD) (s : Fin 8) (q : Fin 1024) (k : Fin 512) :
    (V m c (Pipeline.arrRef spec0 1) : S8x1024x512.Idx → EReal) (ix3 s q k) = aW m c (ix2 q ⟨s.val * 512 + k.val, by omega⟩) := by
  unfold V
  entry_read
  pointwise

theorem entry0 (c : Dev nD) (a : Fin 4096) (b : Fin 1024) :
    (V m c (Pipeline.arrRef spec0 0) : S4096x1024.Idx → EReal) (ix2 a b) = aX m c (ix2 a b) := by
  unfold V
  entry_read
  pointwise

/-- The grid has sixteen points. -/
theorem tlt (t : Fin cfg0.N) : t.val < 16 := t.isLt
/-- Row `p` of the point's token tile. -/
abbrev row (t : Fin cfg0.N) (p : Fin 1024) : Fin 4096 := ⟨t.val / 4 * 1024 + p.val, by have := tlt t; omega⟩
/-- Column `q` of the point's tile of hidden values. -/
abbrev col (t : Fin cfg0.N) (q : Fin 1024) : Fin 4096 := ⟨t.val % 4 * 1024 + q.val, by omega⟩

theorem in0 (c : Dev nD) (t : Fin cfg0.N) (p q : Fin 1024) : iblk m c 0 t (ix2 p q) = aX m c (ix2 (row t p) q) := by
  rw [← entry0]
  blk_ext [iblk, idx0 t]
theorem in1 (c : Dev nD) (t : Fin cfg0.N) (e : Fin 2) (k : Fin 1024) (q : Fin 512) :
    iblk m c 1 t (ix3 e k q) = aW m c (ix2 k ⟨t.val % 4 * 1024 + e.val * 512 + q.val, by omega⟩) := by
  have h := entry1 m c ⟨t.val % 4 * 2 + e.val, by omega⟩ k q
  refine Eq.trans ?_ (h.trans (congrArg (fun j => aW m c (ix2 k j)) (Fin.ext ?_)))
  · blk_ext [iblk, idx0 t]
  · show (t.val % 4 * 2 + e.val) * 512 + q.val = t.val % 4 * 1024 + e.val * 512 + q.val
    omega

theorem ld_lo (c : Dev nD) (t : Fin cfg0.N) (k : Fin 1024) (q : Fin 512) :
    View.ld (iblk m c 1 t) r0_1 (ix3 0 k q) = aW m c (ix2 k (col t (⟨q.val, by omega⟩ : Fin 1024))) := by
  refine Eq.trans ?_ ((in1 m c t 0 k q).trans (congrArg (fun j => aW m c (ix2 k j)) (Fin.ext ?_)))
  · generalize iblk m c 1 t = W
    unfold r0_1
    pointwise
  · show t.val % 4 * 1024 + 0 * 512 + q.val = t.val % 4 * 1024 + q.val
    omega

theorem ld_hi (c : Dev nD) (t : Fin cfg0.N) (k : Fin 1024) (q : Fin 512) :
    View.ld (iblk m c 1 t) r0_2 (ix3 0 k q) = aW m c (ix2 k (col t (⟨512 + q.val, by omega⟩ : Fin 1024))) := by
  refine Eq.trans ?_ ((in1 m c t 1 k q).trans (congrArg (fun j => aW m c (ix2 k j)) (Fin.ext ?_)))
  · generalize iblk m c 1 t = W
    unfold r0_2
    pointwise
  · show t.val % 4 * 1024 + 1 * 512 + q.val = t.val % 4 * 1024 + (512 + q.val)
    omega

/-- The product of one point, read at an element of its tile. -/
theorem pt (c : Dev nD) (t : Fin cfg0.N) (p q : Fin 1024) :
    k0_pay1 (iblk m c 0 t) (View.ld (iblk m c 1 t) r0_1) (View.ld (iblk m c 1 t) r0_2) (ix2 p q)
      = ∑ k : Fin 1024, aX m c (ix2 (row t p) k) * aW m c (ix2 k (col t q)) := by
  rcases lt_or_ge q.val 512 with hl | hl
  · have h := pay_lo (iblk m c 0 t) (View.ld (iblk m c 1 t) r0_1) (View.ld (iblk m c 1 t) r0_2) p ⟨q.val, hl⟩
    refine h.trans (Finset.sum_congr rfl fun k _ => ?_)
    rw [in0, ld_lo]
  · have h := pay_hi (iblk m c 0 t) (View.ld (iblk m c 1 t) r0_1) (View.ld (iblk m c 1 t) r0_2) p ⟨q.val - 512, by omega⟩
    have e : q = (⟨512 + (q.val - 512), by omega⟩ : Fin 1024) := Fin.ext (by show q.val = 512 + (q.val - 512); omega)
    rw [← e] at h
    refine h.trans (Finset.sum_congr rfl fun k _ => ?_)
    rw [in0, ld_hi, ← e]

/-- The result. -/
theorem res2 (c : Dev nD) : (dats m 0 c).arrAt 2 cfg0.N = G2 m c := by
  refine (dats m 0 c).arrAt_eq_of_covers 2 _ (by decide +kernel) fun t hf y => ?_
  blk_simp
  rw [after0_2]
  frame_out
  change S1024x1024.Idx at y
  idx_vars y
  refine (pt m c t _ _).trans (congrArg (G2 m c) (?_ : _ = ix2 (row t y0) (col t y1))).symm
  blk_ext [idx0 t]

end Cert.Kernel4Ideal.Block
-- ==== Proof.UpClaim.lean ====
/- The squared-ReLU MLP's first product and its reference end holding the same array. -/
module

public import proofs.«01_k».proof.Defs
public import proofs.«01_k».proof.Proof.UpValue
public import proofs.«01_k».proof.Proof.Gen.Reference4Ideal.Read
public import Idealize.ShloMosaic.Lib.Tactic

@[expose] public section

set_option maxRecDepth 16384

noncomputable section

namespace Cert.Proof

open Idealize.ShloMosaic Idealize.ShloMosaic.TcCoe Idealize.SL.Sem Cert.Kernel4Ideal.Block Cert.LayerNorm Cert.Reference4Ideal.Read

variable (m : (ℓ : Loc Cert.Kernel4Ideal.nD Cert.Kernel4Ideal.τ Cert.Kernel4Ideal.sig) → Buf (Elt Ideal) ℓ)

/-- The results agree. -/
theorem up_eq (c : Dev Cert.Kernel4Ideal.nD) : val_main_v1 (F := Ideal) (aX m c) (aW m c) = G2 m c := by
  funext i
  change Cert.Kernel4Ideal.S4096x4096.Idx at i
  idx_vars i
  unfold val_main_v1 val_main_v0 G2
  pointwise

/-- The value claim of the squared-ReLU MLP's first product. -/
theorem mlp_up : algebraic_Kernel4Ideal_Reference4Ideal := by
  intro m g m' g' _ hin
  refine ⟨fun c => G2 m c, ?_, ?_⟩
  · refine (θ_run Cert.Kernel4Ideal.defs _ _).mono (fun r h c => ?_) (Cert.Kernel4Ideal.Value.run_blocks m g)
    obtain ⟨h0, hk⟩ := h c
    exact ⟨h0.trans (res2 m c), hk⟩
  refine (θ_run Cert.Reference4Ideal.defs _ _).mono (fun r h c => ?_) (Cert.Reference4Ideal.Value.run m' g')
  obtain ⟨h0, hk⟩ := h c
  obtain ⟨e0, e1⟩ := hin c
  refine ⟨?_, hk⟩
  rw [h0, e0, e1]
  exact (val_main_v1_eq ..).trans (up_eq m c)

end Cert.Proof
-- ==== Proof.DownValue.lean ====
/- What the squared-ReLU MLP's second product with its normalisation leaves in its three result arrays. -/
module

public import proofs.«01_k».proof.Proof.Gen.Kernel5Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel5Ideal.Block

open Cert.Kernel5Ideal Cert.Kernel5Ideal.Gen Idealize.ShloMosaic Idealize.ShloMosaic.TcCoe Idealize.SL.Sem Cert.LayerNorm

variable (m : (ℓ : Loc nD τ sig) → Buf (Elt Ideal) ℓ)

/-- The tokens. -/
abbrev aX (c : Dev nD) : S4096x1024.Idx → EReal := m ((c : Thread nD τ).loc main_arg0)
/-- The first weight. -/
abbrev aW (c : Dev nD) : S1024x4096.Idx → EReal := m ((c : Thread nD τ).loc main_arg1)
/-- The second weight. -/
abbrev aD (c : Dev nD) : S4096x1024.Idx → EReal := m ((c : Thread nD τ).loc main_arg2)
/-- The scale. -/
abbrev aG (c : Dev nD) : S1x1024.Idx → EReal := m ((c : Thread nD τ).loc main_arg3)
/-- The shift. -/
abbrev aB (c : Dev nD) : S1x1024.Idx → EReal := m ((c : Thread nD τ).loc main_arg4)

theorem pay_z (u : Vec Ideal S512x4096 .bf16) (W : Vec Ideal S1x4096x1024 .bf16) (x : Vec Ideal S512x1024 .f32) (p : Fin 512) (q : Fin 1024) :
    k0_pay3 u W x (ix2 p q) = Ideal.ofBits FTy.f32 0x3FB504F3#32 * x (ix2 p q)
      + ∑ k : Fin 4096, (max (u (ix2 p k)) 0 * max (u (ix2 p k)) 0) * W (ix3 0 k q) := by
  unfold k0_pay3
  pointwise

theorem pay_xo (u : Vec Ideal S512x4096 .bf16) (W : Vec Ideal S1x4096x1024 .bf16) (x : Vec Ideal S512x1024 .f32) (g b : Vec Ideal S1x1024 .f32) (p : Fin 512) (q : Fin 1024) :
    k0_pay1 b (k0_pay4 u W x g) (ix2 p q) = nrm Ple.len Ple.eps (fun i => k0_pay3 u W x (ix2 p i)) q * g (ix2 0 q) + b (ix2 0 q) := by
  unfold k0_pay1 k0_pay4 nrm rstd var cen mean
  generalize k0_pay3 u W x = Y
  pointwise

theorem pay_xo16 (b : Vec Ideal S1x1024 .f32) (y : Vec Ideal S512x1024 .f32) (p : Fin 512) (q : Fin 1024) :
    k0_pay2 (F := Ideal) b y (ix2 p q) = k0_pay1 b y (ix2 p q) := by
  unfold k0_pay2
  pointwise

/-- Which block of each window a point has. -/
theorem idx0 : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

/-- The first product. -/
def hid (c : Dev nD) (a j : Fin 4096) : EReal := ∑ k : Fin 1024, aX m c (ix2 a k) * aW m c (ix2 k j)

theorem entry0 (c : Dev nD) (a b : Fin 4096) :
    (V m c (Pipeline.arrRef spec0 0) : S4096x4096.Idx → EReal) (ix2 a b) = hid m c a b := by
  unfold V hid
  entry_read
  pointwise
theorem in0 (c : Dev nD) (t : Fin cfg0.N) (p : Fin 512) (q : Fin 4096) : iblk m c 0 t (ix2 p q) = hid m c (tok t p) q := by
  rw [← entry0]
  blk_ext [iblk, idx0 t]
theorem entry1 (c : Dev nD) (k : Fin 4096) (q : Fin 1024) :
    (V m c (Pipeline.arrRef spec0 1) : S1x4096x1024.Idx → EReal) (ix3 0 k q) = aD m c (ix2 k q) := by
  unfold V
  entry_read
  pointwise
theorem in1 (c : Dev nD) (t : Fin cfg0.N) (k : Fin 4096) (q : Fin 1024) : iblk m c 1 t (ix3 0 k q) = aD m c (ix2 k q) := by
  rw [← entry1]
  blk_ext [iblk, idx0 t]
theorem in2 (c : Dev nD) (t : Fin cfg0.N) (p : Fin 512) (q : Fin 1024) : iblk m c 2 t (ix2 p q) = aX m c (ix2 (tok t p) q) := by
  blk_point [iblk, V, idx0 t]
theorem in3 (c : Dev nD) (t : Fin cfg0.N) (q : Fin 1024) : iblk m c 3 t (ix2 0 q) = aG m c (ix2 0 q) := by
  blk_point [iblk, V, idx0 t]
theorem in4 (c : Dev nD) (t : Fin cfg0.N) (q : Fin 1024) : iblk m c 4 t (ix2 0 q) = aB m c (ix2 0 q) := by
  blk_point [iblk, V, idx0 t]

/-- The residual and the second product. -/
def zz (c : Dev nD) (a : Fin 4096) (i : Fin 1024) : EReal :=
  Ideal.ofBits FTy.f32 0x3FB504F3#32 * aX m c (ix2 a i) + ∑ k : Fin 4096, (max (hid m c a k) 0 * max (hid m c a k) 0) * aD m c (ix2 k i)
/-- Its normalisation. -/
def oo (c : Dev nD) (a : Fin 4096) (i : Fin 1024) : EReal := nrm Ple.len Ple.eps (zz m c a) i * aG m c (ix2 0 i) + aB m c (ix2 0 i)

/-- The first result, as an array. -/
def G5 (c : Dev nD) : S4096x1024.Idx → EReal := fun i => zz m c (i 0) (i 1)
/-- The second and third result, as an array. -/
def G6 (c : Dev nD) : S4096x1024.Idx → EReal := fun i => oo m c (i 0) (i 1)

theorem z_pt (c : Dev nD) (t : Fin cfg0.N) (p : Fin 512) (q : Fin 1024) :
    k0_pay3 (iblk m c 0 t) (iblk m c 1 t) (iblk m c 2 t) (ix2 p q) = zz m c (tok t p) q := by
  rw [pay_z]
  simp only [in0, in1, in2]
  rfl
theorem o_pt (c : Dev nD) (t : Fin cfg0.N) (p : Fin 512) (q : Fin 1024) :
    k0_pay1 (iblk m c 4 t) (k0_pay4 (iblk m c 0 t) (iblk m c 1 t) (iblk m c 2 t) (iblk m c 3 t)) (ix2 p q) = oo m c (tok t p) q := by
  rw [pay_xo]
  simp only [z_pt, in3, in4]
  rfl

theorem pay5_eq (u : Vec Ideal S512x4096 .bf16) (W : Vec Ideal S1x4096x1024 .bf16) (x : Vec Ideal S512x1024 .f32) (g b : Vec Ideal S1x1024 .f32) :
    k0_pay5 u W x g b = k0_pay4 u W x g := by
  unfold k0_pay5
  frame_out

/-- The first result. -/
theorem res5 (c : Dev nD) : (dats m 0 c).arrAt 5 cfg0.N = G5 m c := by
  refine (dats m 0 c).arrAt_eq_of_covers 5 _ (by decide +kernel) fun t hf y => ?_
  blk_simp
  rw [after0_5]
  frame_out
  change S512x1024.Idx at y
  idx_vars y
  refine (z_pt m c t _ _).trans (congrArg (G5 m c) (?_ : _ = ix2 (tok t y0) y1)).symm
  blk_ext [idx0 t]

/-- The second result. -/
theorem res6 (c : Dev nD) : (dats m 0 c).arrAt 6 cfg0.N = G6 m c := by
  refine (dats m 0 c).arrAt_eq_of_covers 6 _ (by decide +kernel) fun t hf y => ?_
  blk_simp
  rw [after0_6]
  frame_out
  rw [pay5_eq]
  change S512x1024.Idx at y
  idx_vars y
  refine (o_pt m c t _ _).trans (congrArg (G6 m c) (?_ : _ = ix2 (tok t y0) y1)).symm
  blk_ext [idx0 t]

/-- The third result. -/
theorem res7 (c : Dev nD) : (dats m 0 c).arrAt 7 cfg0.N = G6 m c := by
  refine (dats m 0 c).arrAt_eq_of_covers 7 _ (by decide +kernel) fun t hf y => ?_
  blk_simp
  rw [after0_7]
  frame_out
  rw [pay5_eq]
  change S512x1024.Idx at y
  idx_vars y
  refine ((pay_xo16 _ _ _ _).trans (o_pt m c t _ _)).trans (congrArg (G6 m c) (?_ : _ = ix2 (tok t y0) y1)).symm
  blk_ext [idx0 t]

end Cert.Kernel5Ideal.Block
-- ==== Proof.DownClaim.lean ====
/- The squared-ReLU MLP's second product with its normalisation and its reference end holding the same arrays. -/
module

public import proofs.«01_k».proof.Defs
public import proofs.«01_k».proof.Proof.DownValue
public import proofs.«01_k».proof.Proof.Gen.Reference5Ideal.Read
public import Idealize.ShloMosaic.Lib.Tactic

@[expose] public section

set_option maxRecDepth 16384

noncomputable section

namespace Cert.Proof

open Idealize.ShloMosaic Idealize.ShloMosaic.TcCoe Idealize.SL.Sem Cert.Kernel5Ideal.Block Cert.LayerNorm Cert.Reference5Ideal.Read

variable (m : (ℓ : Loc Cert.Kernel5Ideal.nD Cert.Kernel5Ideal.τ Cert.Kernel5Ideal.sig) → Buf (Elt Ideal) ℓ)

theorem down_hid (c : Dev Cert.Kernel5Ideal.nD) (a j : Fin 4096) :
    (val_main_v2 (F := Ideal) (aX m c) (aW m c) : Cert.Kernel5Ideal.S4096x4096.Idx → EReal) (ix2 a j) = hid m c a j := by
  unfold val_main_v2 hid
  pointwise

theorem down_z (c : Dev Cert.Kernel5Ideal.nD) (a : Fin 4096) (i : Fin 1024) :
    (val_main_v6 (F := Ideal) (aX m c) (aW m c) (aD m c) : Cert.Kernel5Ideal.S4096x1024.Idx → EReal) (ix2 a i) = zz m c a i := by
  unfold val_main_v6 val_main_v5 val_main_v4 val_main_v3 val_main_call0_v0 val_main_call0_cst val_main_v1 val_main_v0 val_main_cst zz
  simp only [← down_hid]
  generalize val_main_v2 (F := Ideal) (aX m c) (aW m c) = C
  pointwise

theorem down_o (c : Dev Cert.Kernel5Ideal.nD) (a : Fin 4096) (i : Fin 1024) :
    (val_main_v28 (F := Ideal) (aX m c) (aW m c) (aD m c) (aG m c) (aB m c) : Cert.Kernel5Ideal.S4096x1024.Idx → EReal) (ix2 a i) = oo m c a i := by
  unfold val_main_v28 val_main_v27 val_main_v26 val_main_v25 val_main_v24 val_main_v23 val_main_v22 val_main_v21 val_main_v20 val_main_cst_4
    val_main_v19 val_main_v18 val_main_v17 val_main_v16 val_main_cst_3 val_main_v15 val_main_v14 val_main_cst_2 val_main_v13 val_main_v12 val_main_v11
    val_main_v10 val_main_v9 val_main_cst_1 val_main_v8 val_main_v7 val_main_cst_0 oo nrm rstd var cen mean
  simp only [← down_z]
  generalize val_main_v6 (F := Ideal) (aX m c) (aW m c) (aD m c) = C
  pointwise

/-- The first results agree. -/
theorem down_eq0 (c : Dev Cert.Kernel5Ideal.nD) : val_main_v6 (F := Ideal) (aX m c) (aW m c) (aD m c) = G5 m c := by
  funext i
  change Cert.Kernel5Ideal.S4096x1024.Idx at i
  idx_vars i
  exact down_z ..

/-- The second results agree. -/
theorem down_eq1 (c : Dev Cert.Kernel5Ideal.nD) : val_main_v28 (F := Ideal) (aX m c) (aW m c) (aD m c) (aG m c) (aB m c) = G6 m c := by
  funext i
  change Cert.Kernel5Ideal.S4096x1024.Idx at i
  idx_vars i
  exact down_o ..

/-- The third results agree. -/
theorem down_eq2 (c : Dev Cert.Kernel5Ideal.nD) : val_main_v29 (F := Ideal) (aX m c) (aW m c) (aD m c) (aG m c) (aB m c) = G6 m c := by
  rw [← down_eq1]
  unfold val_main_v29
  generalize val_main_v28 (F := Ideal) (aX m c) (aW m c) (aD m c) (aG m c) (aB m c) = C
  funext i
  change Cert.Kernel5Ideal.S4096x1024.Idx at i
  idx_vars i
  pointwise

/-- The value claim of the squared-ReLU MLP's second product with its normalisation. -/
theorem mlp_down : algebraic_Kernel5Ideal_Reference5Ideal := by
  intro m g m' g' _ hin
  refine ⟨fun c => G5 m c, fun c => G6 m c, fun c => G6 m c, ?_, ?_⟩
  · refine (θ_run Cert.Kernel5Ideal.defs _ _).mono (fun r h c => ?_) (Cert.Kernel5Ideal.Value.run_blocks m g)
    obtain ⟨h0, h1, h2, hk⟩ := h c
    exact ⟨h0.trans (res5 m c), h1.trans (res6 m c), h2.trans (res7 m c), hk⟩
  refine (θ_run Cert.Reference5Ideal.defs _ _).mono (fun r h c => ?_) (Cert.Reference5Ideal.Value.run m' g')
  obtain ⟨h0, h1, h2, hk⟩ := h c
  obtain ⟨e0, e1, e2, e3, e4⟩ := hin c
  refine ⟨?_, ?_, ?_, hk⟩
  · rw [h0, e0, e1, e2]
    exact (val_main_v6_eq ..).trans (down_eq0 m c)
  · refine h1.trans ((val_main_v28_eq m' c).trans ?_)
    rw [e0, e1, e2, e3, e4]
    exact down_eq1 m c
  · refine h2.trans ((val_main_v29_eq m' c).trans ?_)
    rw [e0, e1, e2, e3, e4]
    exact down_eq2 m c

end Cert.Proof
-- ==== Proof.ConvSpec.lean ====
/- The gradients of the convolution block's normalised, activated middle part and of its output weight, as sums over the arguments' entries. -/
module

public import proofs.«01_k».proof.Proof.PleSpec

@[expose] public section

noncomputable section

namespace Cert.Conv

open Idealize.ShloMosaic Cert.LayerNorm

variable (z : Fin 4096 → Fin 1024 → EReal) (g b : Fin 1024 → EReal) (w : Fin 1024 → Fin 1024 → EReal)
  (d : Fin 4096 → Fin 1024 → EReal)

/-- The normalised token, scaled and shifted. -/
def n (a : Fin 4096) (i : Fin 1024) : EReal := nrm Ple.len Ple.eps (z a) i * g i + b i
/-- The logistic function of it. -/
def s (a : Fin 4096) (i : Fin 1024) : EReal := Ideal.div 1 (1 + Ideal.exp (-n z g b a i))
/-- The activated token. -/
def act (a : Fin 4096) (i : Fin 1024) : EReal := n z g b a i * s z g b a i
/-- The gradient with respect to the activated token. -/
def ds (a : Fin 4096) (i : Fin 1024) : EReal := ∑ k, d a k * w i k
/-- The gradient with respect to the scaled and shifted token. -/
def dn (a : Fin 4096) (i : Fin 1024) : EReal := ds w d a i * (s z g b a i * (1 + n z g b a i * (1 - s z g b a i)))
/-- The same by the product rule. -/
def dnr (a : Fin 4096) (i : Fin 1024) : EReal :=
  ds w d a i * s z g b a i + n z g b a i * ds w d a i * (s z g b a i * (1 - s z g b a i))
/-- The gradient with respect to the token. -/
def dc (a : Fin 4096) (i : Fin 1024) : EReal := back Ple.len Ple.eps (z a) (dn z g b w d a) g i
/-- The gradient with respect to the scale. -/
def dg (i : Fin 1024) : EReal := ∑ a, dn z g b w d a i * nrm Ple.len Ple.eps (z a) i
/-- The gradient with respect to the shift. -/
def db (i : Fin 1024) : EReal := ∑ a, dn z g b w d a i
/-- The gradient with respect to the output weight. -/
def dw (k j : Fin 1024) : EReal := ∑ a, act z g b a k * d a j

/-- The logistic function at the infinities. -/
theorem s_top (a : Fin 4096) (i : Fin 1024) (h : n z g b a i = ⊤) : s z g b a i = 1 := by
  unfold s
  rw [h]
  simp [Ideal.div]
theorem s_bot (a : Fin 4096) (i : Fin 1024) (h : n z g b a i = ⊥) : s z g b a i = 0 := by
  unfold s
  have ht : (1 : EReal) + ⊤ = ⊤ := EReal.coe_add_top 1
  rw [h]
  simp [Ideal.div, ht]

variable (hw : ∀ k j, IsReal (w k j)) (hd : ∀ a j, IsReal (d a j))
include hw hd

/-- With finite weight and cotangent the product rule's gradient is the factored one. -/
theorem dnr_eq (a : Fin 4096) (i : Fin 1024) : dnr z g b w d a i = dn z g b w d a i := by
  unfold dnr dn
  obtain ⟨x, hx⟩ : IsReal (ds w d a i) := .sum fun k => .mul (hd a k) (hw i k)
  obtain ⟨t, ht⟩ : IsReal (s z g b a i) := real_sigmoid _
  have hs1 := s_top z g b a i
  have hs0 := s_bot z g b a i
  have h1 : (1 : EReal) - 1 = 0 := by
    have e : (1 : EReal) = ((1 : ℝ) : EReal) := rfl
    rw [e, ← EReal.coe_sub, sub_self]; rfl
  induction hn : n z g b a i with
  | bot => rw [hs0 hn]; simp
  | top => rw [hs1 hn, h1]; simp
  | coe y =>
    rw [hx, ht]
    norm_cast
    ring

/-- With finite weight and cotangent the gradient is finite. -/
theorem dn_real (a : Fin 4096) (i : Fin 1024) : IsReal (dn z g b w d a i) := by
  unfold dn
  obtain ⟨x, hx⟩ : IsReal (ds w d a i) := .sum fun k => .mul (hd a k) (hw i k)
  obtain ⟨t, ht⟩ : IsReal (s z g b a i) := real_sigmoid _
  have hs1 := s_top z g b a i
  have hs0 := s_bot z g b a i
  have h1 : (1 : EReal) - 1 = 0 := by
    have e : (1 : EReal) = ((1 : ℝ) : EReal) := rfl
    rw [e, ← EReal.coe_sub, sub_self]; rfl
  induction hn : n z g b a i with
  | bot => rw [hs0 hn]; simpa using real_coe 0
  | top => rw [hs1 hn, h1]; simpa [hx] using real_coe x
  | coe y =>
    rw [hx, ht]
    norm_cast
    exact real_coe _

end Cert.Conv
-- ==== Proof.ConvDsValue.lean ====
/- What the convolution block's normalised middle part's gradient kernel's four result arrays end holding, as sums over the arguments. -/
module

public import proofs.«01_k».proof.Proof.Gen.Kernel6Ideal.Value
public import proofs.«01_k».proof.Proof.PleSpec
public import proofs.«01_k».proof.Proof.ConvSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel6Ideal.Block

open Cert.Kernel6Ideal Cert.Kernel6Ideal.Gen Idealize.ShloMosaic Idealize.ShloMosaic.TcCoe Idealize.SL.Sem Cert.LayerNorm

variable (m : (ℓ : Loc nD τ sig) → Buf (Elt Ideal) ℓ)

/-- The tokens. -/
abbrev aZ (c : Dev nD) : S4096x1024.Idx → EReal := m ((c : Thread nD τ).loc main_arg0)
/-- The scale. -/
abbrev aG (c : Dev nD) : S1x1024.Idx → EReal := m ((c : Thread nD τ).loc main_arg1)
/-- The shift. -/
abbrev aB (c : Dev nD) : S1x1024.Idx → EReal := m ((c : Thread nD τ).loc main_arg2)
/-- The output weight. -/
abbrev aW (c : Dev nD) : S1024x1024.Idx → EReal := m ((c : Thread nD τ).loc main_arg3)
/-- The result's gradient. -/
abbrev aD (c : Dev nD) : S4096x1024.Idx → EReal := m ((c : Thread nD τ).loc main_arg4)

/-! The same arrays by rows. -/
abbrev rZ (c : Dev nD) (a : Fin 4096) (i : Fin 1024) : EReal := aZ m c (ix2 a i)
abbrev rG (c : Dev nD) (i : Fin 1024) : EReal := aG m c (ix2 0 i)
abbrev rB (c : Dev nD) (i : Fin 1024) : EReal := aB m c (ix2 0 i)
abbrev rW (c : Dev nD) (k j : Fin 1024) : EReal := aW m c (ix2 k j)
abbrev rD (c : Dev nD) (a : Fin 4096) (i : Fin 1024) : EReal := aD m c (ix2 a i)

/-! The specification at the kernel's arguments. -/
abbrev sN (c : Dev nD) := Conv.n (rZ m c) (rG m c) (rB m c)
abbrev sS (c : Dev nD) := Conv.s (rZ m c) (rG m c) (rB m c)
abbrev sAct (c : Dev nD) := Conv.act (rZ m c) (rG m c) (rB m c)
abbrev sDs (c : Dev nD) := Conv.ds (rW m c) (rD m c)
abbrev sDn (c : Dev nD) := Conv.dn (rZ m c) (rG m c) (rB m c) (rW m c) (rD m c)
abbrev sDc (c : Dev nD) := Conv.dc (rZ m c) (rG m c) (rB m c) (rW m c) (rD m c)
abbrev sDg (c : Dev nD) := Conv.dg (rZ m c) (rG m c) (rB m c) (rW m c) (rD m c)
abbrev sDb (c : Dev nD) := Conv.db (rZ m c) (rG m c) (rB m c) (rW m c) (rD m c)
abbrev sDw (c : Dev nD) := Conv.dw (rZ m c) (rG m c) (rB m c) (rD m c)

/-! One point's terms, as blocks. -/

/-- The gradient with respect to the activated tokens. -/
abbrev bds (c : Dev nD) (t : Fin cfg0.N) : Vec Ideal S512x1024 .f32 := k0_pay4 (iblk m c 0 t) (iblk m c 1 t)
/-- The scaled and shifted tokens. -/
abbrev bn (c : Dev nD) (t : Fin cfg0.N) : Vec Ideal S512x1024 .f32 := k0_pay5 (iblk m c 2 t) (iblk m c 3 t) (iblk m c 4 t)
/-- The logistic function of them. -/
abbrev bs (c : Dev nD) (t : Fin cfg0.N) : Vec Ideal S512x1024 .f32 := k0_pay6 (iblk m c 2 t) (iblk m c 3 t) (iblk m c 4 t)
/-- The gradient with respect to the scaled and shifted tokens. -/
abbrev bdn (c : Dev nD) (t : Fin cfg0.N) : Vec Ideal S512x1024 .f32 := k0_pay8 (bds m c t) (bn m c t) (bs m c t) (k0_pay7 (F := Ideal))
/-- The gradient with respect to the tokens. -/
abbrev bdc (c : Dev nD) (t : Fin cfg0.N) : Vec Ideal S512x1024 .f32 :=
  k0_pay14 (k0_pay9 (iblk m c 2 t)) (k0_pay10 (iblk m c 2 t)) (k0_pay11 (bds m c t) (bn m c t) (bs m c t) (k0_pay7 (F := Ideal)) (iblk m c 3 t))
    (k0_pay12 (bds m c t) (bn m c t) (bs m c t) (k0_pay7 (F := Ideal)) (iblk m c 3 t)) (k0_pay13 (F := Ideal))
/-- The point's share of the weight's gradient. -/
abbrev bdw (c : Dev nD) (t : Fin cfg0.N) : Vec Ideal S1024x1024 .f32 := k0_pay19 (iblk m c 0 t) (iblk m c 5 t)
/-- The point before. -/
abbrev prev (c : Dev nD) (t : Fin cfg0.N) := outsAt0 m c (t.val - 1) (Nat.lt_of_le_of_lt (Nat.sub_le _ _) t.isLt)

/-- The grid has eight points. -/
theorem tlt (t : Fin cfg0.N) : t.val < 8 := t.isLt

/-- What the first point leaves. -/
theorem outs_A (c : Dev nD) (t : Fin cfg0.N) (h : t.val = 0) :
    (outsAt0 m c t.val t.isLt).1 = bdc m c t
      ∧ (outsAt0 m c t.val t.isLt).2.1 = k0_pay15 (bdn m c t) (k0_pay9 (iblk m c 2 t))
      ∧ (outsAt0 m c t.val t.isLt).2.2.1 = k0_pay16 (F := Ideal) (bdn m c t)
      ∧ (outsAt0 m c t.val t.isLt).2.2.2.2 = k0_pay1 (F := Ideal) (bdw m c t) := by
  rw [outsAt0_A m c t (by omega) (by omega) (by omega) (by omega) (by omega) (by omega) (by omega)]
  frame_out
  simp only [and_self]

/-- What a middle point leaves. -/
theorem outs_B (c : Dev nD) (t : Fin cfg0.N) (h : t.val ≠ 0) (h7 : t.val ≠ 7) :
    (outsAt0 m c t.val t.isLt).1 = bdc m c t
      ∧ (outsAt0 m c t.val t.isLt).2.1 = k0_pay17 (bdn m c t) (k0_pay9 (iblk m c 2 t)) (prev m c t).2.1
      ∧ (outsAt0 m c t.val t.isLt).2.2.1 = k0_pay18 (F := Ideal) (bdn m c t) (prev m c t).2.2.1
      ∧ (outsAt0 m c t.val t.isLt).2.2.2.2 = k0_pay2 (F := Ideal) (bdw m c t) (prev m c t).2.2.2.2 := by
  have : t.val < 8 := t.isLt
  rw [outsAt0_B m c t (by omega) (by omega) (by omega) (by omega) (by omega) (by omega) (by omega)]
  frame_out
  simp only [read_unread_whole, and_self]

/-- What the last point leaves. -/
theorem outs_C (c : Dev nD) (t : Fin cfg0.N) (h7 : t.val = 7) :
    (outsAt0 m c t.val t.isLt).1 = bdc m c t
      ∧ (outsAt0 m c t.val t.isLt).2.1 = k0_pay17 (bdn m c t) (k0_pay9 (iblk m c 2 t)) (prev m c t).2.1
      ∧ (outsAt0 m c t.val t.isLt).2.2.1 = k0_pay18 (F := Ideal) (bdn m c t) (prev m c t).2.2.1
      ∧ (outsAt0 m c t.val t.isLt).2.2.2.2 = k0_pay2 (F := Ideal) (bdw m c t) (prev m c t).2.2.2.2
      ∧ (outsAt0 m c t.val t.isLt).2.2.2.1 = k0_pay3 (F := Ideal) (k0_pay2 (F := Ideal) (bdw m c t) (prev m c t).2.2.2.2) := by
  rw [outsAt0_C m c t (by omega) (by omega) (by omega) (by omega) (by omega) (by omega) (by omega)]
  frame_out
  simp only [read_unread_whole, and_self]

/-- What a point after the first leaves. -/
theorem outs_later (c : Dev nD) (t : Fin cfg0.N) (h : t.val ≠ 0) :
    (outsAt0 m c t.val t.isLt).1 = bdc m c t
      ∧ (outsAt0 m c t.val t.isLt).2.1 = k0_pay17 (bdn m c t) (k0_pay9 (iblk m c 2 t)) (prev m c t).2.1
      ∧ (outsAt0 m c t.val t.isLt).2.2.1 = k0_pay18 (F := Ideal) (bdn m c t) (prev m c t).2.2.1
      ∧ (outsAt0 m c t.val t.isLt).2.2.2.2 = k0_pay2 (F := Ideal) (bdw m c t) (prev m c t).2.2.2.2 := by
  by_cases h7 : t.val = 7
  · obtain ⟨a, b, d, e, _⟩ := outs_C m c t h7
    exact ⟨a, b, d, e⟩
  · exact outs_B m c t h h7

/-! The payloads at an index. -/

theorem pay_ds (x : Vec Ideal S512x1024 .bf16) (w : Vec Ideal S1x1024x1024 .bf16) (p : Fin 512) (q : Fin 1024) :
    k0_pay4 x w (ix2 p q) = ∑ k : Fin 1024, x (ix2 p k) * w (ix3 0 q k) := by
  unfold k0_pay4
  pointwise

theorem pay_nrm (z : Vec Ideal S512x1024 .f32) (p : Fin 512) (q : Fin 1024) :
    k0_pay9 z (ix2 p q) = nrm Ple.len Ple.eps (fun i => z (ix2 p i)) q := by
  unfold k0_pay9 nrm rstd var cen mean
  pointwise

theorem pay_rstd (z : Vec Ideal S512x1024 .f32) (p : Fin 512) (q : Fin 1) :
    k0_pay10 z (ix2 p q) = rstd Ple.len Ple.eps (fun i => z (ix2 p i)) := by
  unfold k0_pay10 rstd var cen mean
  pointwise

theorem pay_n (z : Vec Ideal S512x1024 .f32) (g b : Vec Ideal S1x1024 .f32) (p : Fin 512) (q : Fin 1024) :
    k0_pay5 z g b (ix2 p q) = nrm Ple.len Ple.eps (fun i => z (ix2 p i)) q * g (ix2 0 q) + b (ix2 0 q) := by
  unfold k0_pay5 nrm rstd var cen mean
  pointwise

theorem pay_s (z : Vec Ideal S512x1024 .f32) (g b : Vec Ideal S1x1024 .f32) (p : Fin 512) (q : Fin 1024) :
    k0_pay6 z g b (ix2 p q) = Ideal.div 1 (1 + Ideal.exp (-k0_pay5 z g b (ix2 p q))) := by
  unfold k0_pay6
  generalize k0_pay5 z g b = Y
  pointwise
  rw [zero_sub]

theorem pay_dn (d n s : Vec Ideal S512x1024 .f32) (p : Fin 512) (q : Fin 1024) :
    k0_pay8 (F := Ideal) d n s (k0_pay7 (F := Ideal)) (ix2 p q) = d (ix2 p q) * (s (ix2 p q) * (1 + n (ix2 p q) * (1 - s (ix2 p q)))) := by
  unfold k0_pay8 k0_pay7
  pointwise

theorem pay_dc (z d n s : Vec Ideal S512x1024 .f32) (g : Vec Ideal S1x1024 .f32) (p : Fin 512) (q : Fin 1024) :
    k0_pay14 (k0_pay9 z) (k0_pay10 z) (k0_pay11 d n s (k0_pay7 (F := Ideal)) g) (k0_pay12 d n s (k0_pay7 (F := Ideal)) g) (k0_pay13 (F := Ideal)) (ix2 p q)
      = back Ple.len Ple.eps (fun i => z (ix2 p i)) (fun i => k0_pay8 (F := Ideal) d n s (k0_pay7 (F := Ideal)) (ix2 p i)) (fun i => g (ix2 0 i)) q := by
  unfold k0_pay14 k0_pay12 k0_pay11 k0_pay13 back mean
  simp only [← pay_nrm]
  rw [← pay_rstd z p 0]
  generalize k0_pay9 z = Y
  generalize k0_pay10 z = R
  generalize k0_pay8 (F := Ideal) d n s (k0_pay7 (F := Ideal)) = X
  pointwise

theorem pay_dg_first (x y : Vec Ideal S512x1024 .f32) (q : Fin 1024) :
    k0_pay15 (F := Ideal) x y (ix2 0 q) = ∑ p : Fin 512, x (ix2 p q) * y (ix2 p q) := by
  unfold k0_pay15
  pointwise

theorem pay_dg (x y : Vec Ideal S512x1024 .f32) (v : Vec Ideal S1x1024 .f32) (q : Fin 1024) :
    k0_pay17 (F := Ideal) x y v (ix2 0 q) = v (ix2 0 q) + ∑ p : Fin 512, x (ix2 p q) * y (ix2 p q) := by
  rw [← pay_dg_first]
  unfold k0_pay17
  generalize k0_pay15 (F := Ideal) x y = Y
  pointwise

theorem pay_db_first (x : Vec Ideal S512x1024 .f32) (q : Fin 1024) : k0_pay16 (F := Ideal) x (ix2 0 q) = ∑ p : Fin 512, x (ix2 p q) := by
  unfold k0_pay16
  pointwise

theorem pay_db (x : Vec Ideal S512x1024 .f32) (v : Vec Ideal S1x1024 .f32) (q : Fin 1024) :
    k0_pay18 (F := Ideal) x v (ix2 0 q) = v (ix2 0 q) + ∑ p : Fin 512, x (ix2 p q) := by
  rw [← pay_db_first]
  unfold k0_pay18
  generalize k0_pay16 (F := Ideal) x = Y
  pointwise

theorem pay_dw (x s : Vec Ideal S512x1024 .bf16) (k j : Fin 1024) :
    k0_pay19 x s (ix2 k j) = ∑ p : Fin 512, s (ix2 p k) * x (ix2 p j) := by
  unfold k0_pay19
  pointwise

theorem pay_first (v : Vec Ideal S1024x1024 .f32) (k j : Fin 1024) : k0_pay1 (F := Ideal) v (ix2 k j) = v (ix2 k j) := by
  unfold k0_pay1
  pointwise

theorem pay_add (v x : Vec Ideal S1024x1024 .f32) (k j : Fin 1024) : k0_pay2 (F := Ideal) v x (ix2 k j) = x (ix2 k j) + v (ix2 k j) := by
  unfold k0_pay2
  pointwise

theorem pay_out (v : Vec Ideal S1024x1024 .f32) (k j : Fin 1024) : k0_pay3 (F := Ideal) v (ix3 0 k j) = v (ix2 k j) := by
  unfold k0_pay3
  pointwise

/-! The input blocks. -/

/-- Token row `p` of the point's token tile. -/
abbrev tok (t : Fin cfg0.N) (p : Fin 512) : Fin 4096 := ⟨t.val * 512 + p.val, by have := tlt t; omega⟩

/-- Which block of each input a point reads. -/
theorem idx0 : ∀ t : Fin cfg0.N, win0_0.index t = ![t.val, 0] ∧ win0_1.index t = ![0, 0, 0]
    ∧ win0_2.index t = ![t.val, 0] ∧ win0_3.index t = ![0, 0] ∧ win0_4.index t = ![0, 0] ∧ win0_5.index t = ![t.val, 0] := by decide +kernel

/-- The result's gradient as the host hands it over. -/
theorem entry0 (c : Dev nD) (a : Fin 4096) (b : Fin 1024) :
    (V m c (Pipeline.arrRef spec0 0) : S4096x1024.Idx → EReal) (ix2 a b) = rD m c a b := by

  unfold V
  simp only [List.flatten_cons, List.flatten_nil, List.append_nil, List.cons_append, List.nil_append]
  entry_read
  pointwise
theorem in0 (c : Dev nD) (t : Fin cfg0.N) (p : Fin 512) (q : Fin 1024) : iblk m c 0 t (ix2 p q) = rD m c (tok t p) q := by
  rw [← entry0]
  blk_ext [iblk, idx0 t]
/-- The weight as the host hands it over. -/
theorem entry1 (c : Dev nD) (q k : Fin 1024) :
    (V m c (Pipeline.arrRef spec0 1) : S1x1024x1024.Idx → EReal) (ix3 0 q k) = rW m c q k := by

  unfold V
  simp only [List.flatten_cons, List.flatten_nil, List.append_nil, List.cons_append, List.nil_append]
  entry_read
  pointwise
theorem in1 (c : Dev nD) (t : Fin cfg0.N) (q k : Fin 1024) : iblk m c 1 t (ix3 0 q k) = rW m c q k := by
  rw [← entry1]
  blk_ext [iblk, idx0 t]
theorem in2 (c : Dev nD) (t : Fin cfg0.N) (p : Fin 512) (q : Fin 1024) : iblk m c 2 t (ix2 p q) = rZ m c (tok t p) q := by
  blk_point [iblk, V, idx0 t]
theorem in3 (c : Dev nD) (t : Fin cfg0.N) (q : Fin 1024) : iblk m c 3 t (ix2 0 q) = rG m c q := by
  blk_point [iblk, V, idx0 t]
theorem in4 (c : Dev nD) (t : Fin cfg0.N) (q : Fin 1024) : iblk m c 4 t (ix2 0 q) = rB m c q := by
  blk_point [iblk, V, idx0 t]
/-- The activated tokens as the host hands them over. -/
theorem entry5 (c : Dev nD) (a : Fin 4096) (b : Fin 1024) :
    (V m c (Pipeline.arrRef spec0 5) : S4096x1024.Idx → EReal) (ix2 a b) = sAct m c a b := by
  unfold sAct Conv.act Conv.s Conv.n nrm rstd var cen mean
  unfold V
  simp only [List.flatten_cons, List.flatten_nil, List.append_nil, List.cons_append, List.nil_append]
  entry_read
  simp -implicitDefEqProofs only [StableHlo.TRef.ofBuf, StableHlo.TRef.toBuf, cast_eq]
  pointwise
theorem in5 (c : Dev nD) (t : Fin cfg0.N) (p : Fin 512) (q : Fin 1024) : iblk m c 5 t (ix2 p q) = sAct m c (tok t p) q := by
  rw [← entry5]
  blk_ext [iblk, idx0 t]

/-! The point's own terms. -/

theorem ds_pt (c : Dev nD) (t : Fin cfg0.N) (p : Fin 512) (q : Fin 1024) : bds m c t (ix2 p q) = sDs m c (tok t p) q := by
  unfold bds
  rw [pay_ds]
  simp only [in0, in1]
  rfl

theorem n_pt (c : Dev nD) (t : Fin cfg0.N) (p : Fin 512) (q : Fin 1024) : bn m c t (ix2 p q) = sN m c (tok t p) q := by
  unfold bn
  rw [pay_n]
  simp only [in2, in3, in4]
  rfl

theorem s_pt (c : Dev nD) (t : Fin cfg0.N) (p : Fin 512) (q : Fin 1024) : bs m c t (ix2 p q) = sS m c (tok t p) q := by
  unfold bs
  rw [pay_s]
  exact congrArg (fun x => Ideal.div 1 (1 + Ideal.exp (-x))) (n_pt m c t p q)

theorem dn_pt (c : Dev nD) (t : Fin cfg0.N) (p : Fin 512) (q : Fin 1024) : bdn m c t (ix2 p q) = sDn m c (tok t p) q := by
  unfold bdn
  rw [pay_dn, ds_pt, n_pt, s_pt]
  rfl

theorem nrm_pt (c : Dev nD) (t : Fin cfg0.N) (p : Fin 512) (q : Fin 1024) :
    k0_pay9 (F := Ideal) (iblk m c 2 t) (ix2 p q) = nrm Ple.len Ple.eps (rZ m c (tok t p)) q := by
  rw [pay_nrm]
  simp only [in2]

theorem dc_pt (c : Dev nD) (t : Fin cfg0.N) (p : Fin 512) (q : Fin 1024) : bdc m c t (ix2 p q) = sDc m c (tok t p) q := by
  unfold bdc
  rw [pay_dc]
  simp only [in2, in3]
  exact congrArg (fun d => back Ple.len Ple.eps (rZ m c (tok t p)) d (rG m c) q) (funext fun i => dn_pt m c t p i)

/-- After every point the first output block holds the gradient of its tokens. -/
theorem dc_at (c : Dev nD) (t : Fin cfg0.N) : (outsAt0 m c t.val t.isLt).1 = bdc m c t := by
  by_cases h : t.val = 0
  · exact (outs_A m c t h).1
  · exact (outs_later m c t h).1

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem dg_at (c : Dev nD) (t : Fin cfg0.N) (h7 : t.val = 7) (q : Fin 1024) : (outsAt0 m c t.val t.isLt).2.1 (ix2 0 q) = sDg m c q := by
  refine run_sum (fun n h (q : Fin 1024) => (outsAt0 m c n h).2.1 (ix2 0 q)) (fun a q => sDn m c a q * nrm Ple.len Ple.eps (rZ m c a) q) ?_ ?_ t h7 q
  · intro t h q
    rw [(outs_A m c t h).2.1, pay_dg_first]
    simp only [dn_pt, nrm_pt]
  · intro t h q
    rw [(outs_later m c t h).2.1, pay_dg]
    simp only [dn_pt, nrm_pt]

theorem db_at (c : Dev nD) (t : Fin cfg0.N) (h7 : t.val = 7) (q : Fin 1024) : (outsAt0 m c t.val t.isLt).2.2.1 (ix2 0 q) = sDb m c q := by
  refine run_sum (fun n h (q : Fin 1024) => (outsAt0 m c n h).2.2.1 (ix2 0 q)) (fun a q => sDn m c a q) ?_ ?_ t h7 q
  · intro t h q
    rw [(outs_A m c t h).2.2.1, pay_db_first]
    simp only [dn_pt]
  · intro t h q
    rw [(outs_later m c t h).2.2.1, pay_db]
    simp only [dn_pt]

theorem dw_at (c : Dev nD) (t : Fin cfg0.N) (h7 : t.val = 7) (k j : Fin 1024) : (outsAt0 m c t.val t.isLt).2.2.2.2 (ix2 k j) = sDw m c k j := by
  refine run_sum (fun n h (q : Fin 1024 × Fin 1024) => (outsAt0 m c n h).2.2.2.2 (ix2 q.1 q.2)) (fun a q => sAct m c a q.1 * rD m c a q.2) ?_ ?_ t h7 (k, j)
  · intro t h q
    rw [(outs_A m c t h).2.2.2, pay_first, bdw, pay_dw]
    simp only [in0, in5]
  · intro t h q
    rw [(outs_later m c t h).2.2.2, pay_add, bdw, pay_dw]
    simp only [in0, in5]

/-! The four result arrays. -/

/-- The gradient with respect to the tokens, as an array. -/
def G6 (c : Dev nD) : S4096x1024.Idx → EReal := fun i => sDc m c (i 0) (i 1)
/-- The gradient with respect to the scale, as an array. -/
def G7 (c : Dev nD) : S1x1024.Idx → EReal := fun i => sDg m c (i 1)
/-- The gradient with respect to the shift, as an array. -/
def G8 (c : Dev nD) : S1x1024.Idx → EReal := fun i => sDb m c (i 1)
/-- The gradient with respect to the output weight, as an array. -/
def G9 (c : Dev nD) : S1x1024x1024.Idx → EReal := fun i => sDw m c (i 1) (i 2)

/-- Which block of each output a point writes. -/
theorem idxO : ∀ t : Fin cfg0.N, win0_6.index t = ![t.val, 0] ∧ win0_7.index t = ![0, 0] ∧ win0_8.index t = ![0, 0]
    ∧ win0_9.index t = ![0, 0, 0] := by decide +kernel

/-- The first result: the gradient with respect to the tokens. -/
theorem res6 (c : Dev nD) : (dats m 0 c).arrAt 6 cfg0.N = G6 m c := by
  refine (dats m 0 c).arrAt_eq_of_covers 6 _ (by decide +kernel) fun t hf y => ?_
  blk_simp
  rw [after0_6, dc_at m c t]
  change S512x1024.Idx at y
  idx_vars y
  refine (dc_pt m c t _ _).trans (congrArg (G6 m c) (?_ : _ = ix2 (tok t y0) y1)).symm
  blk_ext [idxO t]

/-- The second result: the gradient with respect to the scale. -/
theorem res7 (c : Dev nD) : (dats m 0 c).arrAt 7 cfg0.N = G7 m c := by
  refine (dats m 0 c).arrAt_eq_of_covers 7 _ (by decide +kernel) fun t hf y => ?_
  have h7 : t.val = 7 := by have := tlt t; have := (flush0_7 t).mp hf; omega
  blk_simp
  rw [after0_7]
  change S1x1024.Idx at y
  idx_vars y
  obtain rfl : y0 = 0 := Subsingleton.elim _ _
  refine (dg_at m c t h7 _).trans (congrArg (G7 m c) (?_ : _ = ix2 0 y1)).symm
  blk_ext [idxO t]

/-- The third result: the gradient with respect to the shift. -/
theorem res8 (c : Dev nD) : (dats m 0 c).arrAt 8 cfg0.N = G8 m c := by
  refine (dats m 0 c).arrAt_eq_of_covers 8 _ (by decide +kernel) fun t hf y => ?_
  have h7 : t.val = 7 := by have := tlt t; have := (flush0_8 t).mp hf; omega
  blk_simp
  rw [after0_8]
  change S1x1024.Idx at y
  idx_vars y
  obtain rfl : y0 = 0 := Subsingleton.elim _ _
  refine (db_at m c t h7 _).trans (congrArg (G8 m c) (?_ : _ = ix2 0 y1)).symm
  blk_ext [idxO t]

/-- The fourth result: the gradient with respect to the output weight. -/
theorem res9 (c : Dev nD) : (dats m 0 c).arrAt 9 cfg0.N = G9 m c := by
  refine (dats m 0 c).arrAt_eq_of_covers 9 _ (by decide +kernel) fun t hf y => ?_
  have h7 : t.val = 7 := by have := tlt t; have := (flush0_9 t).mp hf; omega
  obtain ⟨_, _, _, e, o⟩ := outs_C m c t h7
  rw [← e] at o
  blk_simp
  rw [after0_9, o]
  change S1x1024x1024.Idx at y
  idx_vars y
  obtain rfl : y0 = 0 := Subsingleton.elim _ _
  refine ((pay_out _ _ _).trans (dw_at m c t h7 _ _)).trans (congrArg (G9 m c) (?_ : _ = ix3 0 y1 y2)).symm
  blk_ext [idxO t]

end Cert.Kernel6Ideal.Block
-- ==== Proof.ConvDsRef.lean ====
/- What the reference of the convolution block's normalised middle part computes. -/
module

public import proofs.«01_k».proof.Proof.Gen.Reference6Ideal.Read
public import proofs.«01_k».proof.Proof.ConvSpec
public import Idealize.ShloMosaic.Lib.Tactic

@[expose] public section

set_option maxRecDepth 16384

noncomputable section

namespace Cert.Reference6Ideal.Sums

open Cert.Reference6Ideal Cert.Reference6Ideal.Gen Cert.Reference6Ideal.Read Idealize.ShloMosaic Idealize.ShloMosaic.TcCoe Idealize.SL.Sem
open Cert.LayerNorm

variable (x0 : S4096x1024.Idx → EReal) (x1 x2 : S1x1024.Idx → EReal) (x3 : S1024x1024.Idx → EReal) (x4 : S4096x1024.Idx → EReal)

/-- The rows of an argument. -/
abbrev fz (a : Fin 4096) (i : Fin 1024) : EReal := x0 (ix2 a i)
/-- The one row of an argument. -/
abbrev fr (i : Fin 1024) : EReal := x1 (ix2 0 i)
/-- The rows of the weight. -/
abbrev fw (k j : Fin 1024) : EReal := x3 (ix2 k j)

theorem v14_apply (a : Fin 4096) (i : Fin 1024) :
    (val_main_v14 (F := Ideal) x0 : S4096x1024.Idx → EReal) (ix2 a i) = cen Ple.len (fz x0 a) i := by
  unfold val_main_v14 val_main_v13 val_main_v3 val_main_v2 val_main_cst_0 val_main_v1 val_main_v0 val_main_cst cen mean
  pointwise

theorem v5_apply (a : Fin 4096) (i : Fin 1024) :
    (val_main_v5 (F := Ideal) x0 : S4096x1024.Idx → EReal) (ix2 a i) = cen Ple.len (fz x0 a) i := by
  unfold val_main_v5 val_main_v4 val_main_v3 val_main_v2 val_main_cst_0 val_main_v1 val_main_v0 val_main_cst cen mean
  pointwise

theorem v16_apply (a : Fin 4096) (j : Fin 1) :
    (val_main_v16 (F := Ideal) x0 : S4096x1.Idx → EReal) (ix2 a j) = var Ple.len Ple.eps (fz x0 a) := by
  unfold val_main_v16 val_main_v15 val_main_cst_4 val_main_v12 val_main_v11 val_main_cst_3 val_main_v10 val_main_v9 val_main_cst_2 val_main_v6 var
  simp only [← v5_apply]
  generalize val_main_v5 (F := Ideal) x0 = C
  pointwise

theorem v17_apply (a : Fin 4096) (j : Fin 1) :
    (val_main_v17 (F := Ideal) x0 : S4096x1.Idx → EReal) (ix2 a j) = rstd Ple.len Ple.eps (fz x0 a) := by
  unfold val_main_v17 rstd
  rw [← v16_apply x0 a j]
  generalize val_main_v16 (F := Ideal) x0 = C
  pointwise

theorem v22_apply (a : Fin 4096) (i : Fin 1024) :
    (val_main_v22 (F := Ideal) x0 : S4096x1024.Idx → EReal) (ix2 a i) = nrm Ple.len Ple.eps (fz x0 a) i := by
  unfold val_main_v22 val_main_v21 nrm
  rw [← v14_apply, ← v17_apply x0 a 0]
  generalize val_main_v14 (F := Ideal) x0 = C
  generalize val_main_v17 (F := Ideal) x0 = D
  pointwise

theorem v26_apply (a : Fin 4096) (i : Fin 1024) :
    (val_main_v26 (F := Ideal) x0 x1 x2 : S4096x1024.Idx → EReal) (ix2 a i) = Conv.n (fz x0) (fr x1) (fr x2) a i := by
  unfold val_main_v26 val_main_v25 val_main_v24 val_main_v23 Conv.n
  rw [← v22_apply]
  generalize val_main_v22 (F := Ideal) x0 = C
  pointwise

theorem s_apply (a : Fin 4096) (i : Fin 1024) :
    (val_main_v27_2 (F := Ideal) x0 x1 x2 : S4096x1024.Idx → EReal) (ix2 a i) = Conv.s (fz x0) (fr x1) (fr x2) a i := by
  unfold val_main_v27_2 val_main_call0_v4 val_main_call0_cst_0 val_main_call0_v3 val_main_call0_v2 val_main_call0_cst val_main_call0_v1 val_main_call0_v0 Conv.s
  rw [← v26_apply]
  generalize val_main_v26 (F := Ideal) x0 x1 x2 = C
  pointwise

theorem act_apply (a : Fin 4096) (i : Fin 1024) :
    (val_main_v27_0 (F := Ideal) x0 x1 x2 : S4096x1024.Idx → EReal) (ix2 a i) = Conv.act (fz x0) (fr x1) (fr x2) a i := by
  unfold val_main_v27_0 Conv.act
  rw [← v26_apply, ← s_apply]
  generalize val_main_v26 (F := Ideal) x0 x1 x2 = C
  generalize val_main_v27_2 (F := Ideal) x0 x1 x2 = D
  pointwise

theorem ds_apply (a : Fin 4096) (i : Fin 1024) :
    (val_main_v31 (F := Ideal) x3 x4 : S4096x1024.Idx → EReal) (ix2 a i) = Conv.ds (fw x3) (fz x4) a i := by
  unfold val_main_v31 Conv.ds
  pointwise

theorem v32_apply (a : Fin 4096) (i : Fin 1024) :
    (val_main_v32 (F := Ideal) x0 x1 x2 x3 x4 : S4096x1024.Idx → EReal) (ix2 a i) = Conv.dnr (fz x0) (fr x1) (fr x2) (fw x3) (fz x4) a i := by
  unfold val_main_v32 val_main_call1_v2 val_main_call1_v1 val_main_call1_v0 val_main_v27_1 val_main_call0_v7 val_main_call0_v6 val_main_call0_cst_1 Conv.dnr
  rw [← v26_apply, ← s_apply, ← ds_apply]
  generalize val_main_v26 (F := Ideal) x0 x1 x2 = C
  generalize val_main_v27_2 (F := Ideal) x0 x1 x2 = D
  generalize val_main_v31 (F := Ideal) x3 x4 = E
  pointwise

/-- The gradient with respect to the scale. -/
theorem v37_apply (i : Fin 1024) :
    (val_main_v37 (F := Ideal) x0 x1 x2 x3 x4 : S1x1024.Idx → EReal) (ix2 0 i)
      = ∑ a, Conv.dnr (fz x0) (fr x1) (fr x2) (fw x3) (fz x4) a i * nrm Ple.len Ple.eps (fz x0 a) i := by
  unfold val_main_v37 val_main_v36 val_main_cst_7 val_main_v35
  simp only [← v32_apply, ← v22_apply]
  generalize val_main_v32 (F := Ideal) x0 x1 x2 x3 x4 = C
  generalize val_main_v22 (F := Ideal) x0 = D
  pointwise
  exact Finset.sum_congr rfl fun a _ => mul_comm _ _

/-- The gradient with respect to the shift. -/
theorem v34_apply (i : Fin 1024) :
    (val_main_v34 (F := Ideal) x0 x1 x2 x3 x4 : S1x1024.Idx → EReal) (ix2 0 i) = ∑ a, Conv.dnr (fz x0) (fr x1) (fr x2) (fw x3) (fz x4) a i := by
  unfold val_main_v34 val_main_v33 val_main_cst_6
  simp only [← v32_apply]
  generalize val_main_v32 (F := Ideal) x0 x1 x2 x3 x4 = C
  pointwise

/-- The gradient with respect to the weight. -/
theorem v65_apply (k j : Fin 1024) :
    (val_main_v65 (F := Ideal) x0 x1 x2 x4 : S1x1024x1024.Idx → EReal) (ix3 0 k j) = Conv.dw (fz x0) (fr x1) (fr x2) (fz x4) k j := by
  unfold val_main_v65 val_main_v64 val_main_v30 val_main_v29 Conv.dw
  simp only [← act_apply]
  generalize val_main_v27_0 (F := Ideal) x0 x1 x2 = C
  pointwise
  exact Finset.sum_congr rfl fun a _ => mul_comm _ _

/-- The gradient with respect to the token, by the chain rule. -/
theorem v63_apply (a : Fin 4096) (i : Fin 1024) :
    (val_main_v63 (F := Ideal) x0 x1 x2 x3 x4 : S4096x1024.Idx → EReal) (ix2 a i)
      = chain Ple.len Ple.eps (Ideal.ofBits FTy.f32 3204448256#32) (Ideal.ofBits FTy.f32 1073741824#32) (fz x0 a)
          (Conv.dnr (fz x0) (fr x1) (fr x2) (fw x3) (fz x4) a) (fr x1) i := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_cst_14 val_main_cst_13 val_main_cst_12 val_main_cst_11 val_main_cst_10 val_main_cst_9 val_main_cst_8 val_main_v20 val_main_v19 val_main_v18 val_main_v8 val_main_v7 val_main_cst_5 val_main_cst_1
  unfold chain thru vari
  have e1 : ∀ j, cen Ple.len (fz x0 a) j = (val_main_v14 (F := Ideal) x0 : S4096x1024.Idx → EReal) (ix2 a j) := fun j => (v14_apply x0 a j).symm
  have e5 : (val_main_v5 (F := Ideal) x0) = (val_main_v14 (F := Ideal) x0) := by
    funext j
    change S4096x1024.Idx at j
    idx_vars j
    exact (v5_apply ..).trans (v14_apply ..).symm
  rw [e5]
  simp only [e1, ← v32_apply, ← v17_apply x0 a 0, ← v16_apply x0 a 0]
  generalize val_main_v32 (F := Ideal) x0 x1 x2 x3 x4 = C
  generalize val_main_v14 (F := Ideal) x0 = D
  generalize val_main_v17 (F := Ideal) x0 = E
  generalize val_main_v16 (F := Ideal) x0 = G
  pointwise
  simp only [Fin.sum_univ_one]

end Cert.Reference6Ideal.Sums
-- ==== Proof.ConvDsClaim.lean ====
/- The convolution block's normalised middle part's gradient kernel and its reference end holding the same arrays, from finite arguments. -/
module

public import proofs.«01_k».proof.Defs
public import proofs.«01_k».proof.Proof.ConvDsValue
public import proofs.«01_k».proof.Proof.Gen.Reference6Ideal.Read
public import proofs.«01_k».proof.Proof.ConvDsRef
public import Idealize.ShloMosaic.Lib.Tactic

@[expose] public section

set_option maxRecDepth 16384

noncomputable section

namespace Cert.Proof

open Idealize.ShloMosaic Idealize.ShloMosaic.TcCoe Idealize.SL.Sem Cert.Kernel6Ideal.Block Cert.LayerNorm Cert.Reference6Ideal.Read

section
variable [Cert.Pre_finite6.Facts]
/-- What the precondition says: every argument but the shift holds real numbers. -/
theorem conv_ds_pre (x0 : Cert.Pre_finite6.S4096x1024.Idx → EReal) (x1 x2 : Cert.Pre_finite6.S1x1024.Idx → EReal)
    (x3 : Cert.Pre_finite6.S1024x1024.Idx → EReal) (x4 : Cert.Pre_finite6.S4096x1024.Idx → EReal)
    (h : Cert.Pre_finite6.fn (F := Ideal) x0 x1 x2 x3 x4 = fun _ => 1#1) :
    (∀ a b, IsReal (x0 (ix2 a b))) ∧ (∀ a b, IsReal (x1 (ix2 a b)))
      ∧ (∀ a b, IsReal (x3 (ix2 a b))) ∧ (∀ a b, IsReal (x4 (ix2 a b))) := by
  have h0 := congrFun h (fun a => a.elim0)
  unfold Cert.Pre_finite6.fn Cert.Pre_finite6.fn_part1 at h0
  pointwise at h0
  obtain ⟨h0, e4⟩ := IntOp.andi_eq_one.mp h0
  obtain ⟨h0, e3⟩ := IntOp.andi_eq_one.mp h0
  obtain ⟨e0, e1⟩ := IntOp.andi_eq_one.mp h0
  exact ⟨fun a b => real_of_all (fun k : _ × _ => x0 (ix2 k.1 k.2)) e0 (a, b), fun a b => real_of_all (fun k : _ × _ => x1 (ix2 k.1 k.2)) e1 (a, b),
    fun a b => real_of_all (fun k : _ × _ => x3 (ix2 k.1 k.2)) e3 (a, b),
    fun a b => real_of_all (fun k : _ × _ => x4 (ix2 k.1 k.2)) e4 (a, b)⟩
end

variable (m : (ℓ : Loc Cert.Kernel6Ideal.nD Cert.Kernel6Ideal.τ Cert.Kernel6Ideal.sig) → Buf (Elt Ideal) ℓ)

/-- On finite arguments the product rule's gradient is the kernel's. -/
theorem conv_ds_dn (c : Dev Cert.Kernel6Ideal.nD) (hz : ∀ a b, IsReal (aZ m c (ix2 a b))) (hg : ∀ a b, IsReal (aG m c (ix2 a b))) (hw : ∀ a b, IsReal (aW m c (ix2 a b))) (hd : ∀ a b, IsReal (aD m c (ix2 a b))) :
    Cert.Conv.dnr (rZ m c) (rG m c) (rB m c) (rW m c) (rD m c) = sDn m c :=
  funext fun a => funext fun i => Cert.Conv.dnr_eq _ _ _ _ _ (fun k j => hw k j) (fun a j => hd a j) a i

/-- The first results agree: on finite arguments the chain rule's gradient is the two means' one. -/
theorem conv_ds_eq0 (c : Dev Cert.Kernel6Ideal.nD) (hz : ∀ a b, IsReal (aZ m c (ix2 a b))) (hg : ∀ a b, IsReal (aG m c (ix2 a b))) (hw : ∀ a b, IsReal (aW m c (ix2 a b))) (hd : ∀ a b, IsReal (aD m c (ix2 a b))) :
    val_main_v63 (F := Ideal) (aZ m c) (aG m c) (aB m c) (aW m c) (aD m c) = G6 m c := by
  funext i
  change Cert.Kernel6Ideal.S4096x1024.Idx at i
  idx_vars i
  refine (Cert.Reference6Ideal.Sums.v63_apply ..).trans ?_
  refine (congrArg (fun d => chain Ple.len Ple.eps _ _ (rZ m c i0) (d i0) (rG m c) i1) (conv_ds_dn m c hz hg hw hd)).trans ?_
  exact chain_eq_back_1024 _ _ _ (fun j => hz _ j) (fun j => Cert.Conv.dn_real _ _ _ _ _ (fun k j => hw k j) (fun a j => hd a j) _ j)
      (fun j => hg 0 j) _

/-- The second results agree. -/
theorem conv_ds_eq1 (c : Dev Cert.Kernel6Ideal.nD) (hz : ∀ a b, IsReal (aZ m c (ix2 a b))) (hg : ∀ a b, IsReal (aG m c (ix2 a b))) (hw : ∀ a b, IsReal (aW m c (ix2 a b))) (hd : ∀ a b, IsReal (aD m c (ix2 a b))) :
    val_main_v37 (F := Ideal) (aZ m c) (aG m c) (aB m c) (aW m c) (aD m c) = G7 m c := by
  funext i
  change Cert.Kernel6Ideal.S1x1024.Idx at i
  idx_vars i
  obtain rfl : i0 = 0 := Subsingleton.elim _ _
  refine (Cert.Reference6Ideal.Sums.v37_apply ..).trans ?_
  exact congrArg (fun d : Fin 4096 → Fin 1024 → EReal => ∑ a, d a i1 * nrm Ple.len Ple.eps (rZ m c a) i1) (conv_ds_dn m c hz hg hw hd)

/-- The third results agree. -/
theorem conv_ds_eq2 (c : Dev Cert.Kernel6Ideal.nD) (hz : ∀ a b, IsReal (aZ m c (ix2 a b))) (hg : ∀ a b, IsReal (aG m c (ix2 a b))) (hw : ∀ a b, IsReal (aW m c (ix2 a b))) (hd : ∀ a b, IsReal (aD m c (ix2 a b))) :
    val_main_v34 (F := Ideal) (aZ m c) (aG m c) (aB m c) (aW m c) (aD m c) = G8 m c := by
  funext i
  change Cert.Kernel6Ideal.S1x1024.Idx at i
  idx_vars i
  obtain rfl : i0 = 0 := Subsingleton.elim _ _
  refine (Cert.Reference6Ideal.Sums.v34_apply ..).trans ?_
  exact congrArg (fun d : Fin 4096 → Fin 1024 → EReal => ∑ a, d a i1) (conv_ds_dn m c hz hg hw hd)

/-- The fourth results agree. -/
theorem conv_ds_eq3 (c : Dev Cert.Kernel6Ideal.nD) :
    val_main_v65 (F := Ideal) (aZ m c) (aG m c) (aB m c) (aD m c) = G9 m c := by
  funext i
  change Cert.Kernel6Ideal.S1x1024x1024.Idx at i
  idx_vars i
  obtain rfl : i0 = 0 := Subsingleton.elim _ _
  exact Cert.Reference6Ideal.Sums.v65_apply ..

/-- The value claim of the convolution block's normalised middle part's gradient kernel. -/
theorem conv_ds [Cert.Pre_finite6.Facts] : algebraic_Kernel6Ideal_Reference6Ideal_pre_finite6 := by
  intro m g m' g' hpre hin
  refine ⟨fun c => G6 m c, fun c => G7 m c, fun c => G8 m c, fun c => G9 m c, ?_, ?_⟩
  · refine (θ_run Cert.Kernel6Ideal.defs _ _).mono (fun r h c => ?_) (Cert.Kernel6Ideal.Value.run_blocks m g)
    obtain ⟨h0, h1, h2, h3, hk⟩ := h c
    exact ⟨h0.trans (res6 m c), h1.trans (res7 m c), h2.trans (res8 m c), h3.trans (res9 m c), hk⟩
  refine (θ_run Cert.Reference6Ideal.defs _ _).mono (fun r h c => ?_) (Cert.Reference6Ideal.Value.run m' g')
  obtain ⟨h0, h1, h2, h3, hk⟩ := h c
  obtain ⟨e0, e1, e2, e3, e4⟩ := hin c
  obtain ⟨hz, hg, hw, hd⟩ := conv_ds_pre _ _ _ _ _ (hpre c)
  refine ⟨?_, ?_, ?_, ?_, hk⟩
  · refine h0.trans ((val_main_v63_eq m' c).trans ?_)
    rw [e0, e1, e2, e3, e4]
    exact conv_ds_eq0 m c hz hg hw hd
  · refine h1.trans ((val_main_v37_eq m' c).trans ?_)
    rw [e0, e1, e2, e3, e4]
    exact conv_ds_eq1 m c hz hg hw hd
  · refine h2.trans ((val_main_v34_eq m' c).trans ?_)
    rw [e0, e1, e2, e3, e4]
    exact conv_ds_eq2 m c hz hg hw hd
  · refine h3.trans ((val_main_v65_eq m' c).trans ?_)
    rw [e0, e1, e2, e4]
    exact conv_ds_eq3 m c

end Cert.Proof
-- ==== Proof.AttnDoValue.lean ====
/- What the attention output projection's backward call leaves in its two result arrays. -/
module

public import proofs.«01_k».proof.Proof.Gen.Kernel7Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel7Ideal.Block

open Cert.Kernel7Ideal Cert.Kernel7Ideal.Gen Idealize.ShloMosaic Idealize.ShloMosaic.TcCoe Idealize.SL.Sem Cert.LayerNorm

variable (m : (ℓ : Loc nD τ sig) → Buf (Elt Ideal) ℓ)

/-- The tokens the product took. -/
abbrev aO (c : Dev nD) : S4096x1024.Idx → EReal := m ((c : Thread nD τ).loc main_arg0)
/-- The weight. -/
abbrev aW (c : Dev nD) : S1024x1024.Idx → EReal := m ((c : Thread nD τ).loc main_arg1)
/-- The cotangent. -/
abbrev aZ (c : Dev nD) : S4096x1024.Idx → EReal := m ((c : Thread nD τ).loc main_arg2)

/-- The gradient with respect to the tokens, as an array. -/
def G3 (c : Dev nD) : S4096x1024.Idx → EReal := fun i => ∑ k : Fin 1024, aZ m c (ix2 (i 0) k) * aW m c (ix2 (i 1) k)
/-- The gradient with respect to the weight, as an array. -/
def G4 (c : Dev nD) : S1x1024x1024.Idx → EReal := fun i => ∑ k : Fin 4096, aO m c (ix2 k (i 1)) * aZ m c (ix2 k (i 2))

/-- The point before. -/
abbrev prev (c : Dev nD) (t : Fin cfg0.N) := outsAt0 m c (t.val - 1) (Nat.lt_of_le_of_lt (Nat.sub_le _ _) t.isLt)

/-- What the first point leaves. -/
theorem outs_A (c : Dev nD) (t : Fin cfg0.N) (h : t.val = 0) :
    (outsAt0 m c t.val t.isLt).1 = k0_pay1 (iblk m c 0 t) (iblk m c 1 t)
      ∧ (outsAt0 m c t.val t.isLt).2.2 = k0_pay3 (iblk m c 0 t) (iblk m c 2 t) := by
  rw [outsAt0_A m c t (by omega) (by omega) (by omega)]
  frame_out
  simp only [and_self]

/-- What a middle point leaves. -/
theorem outs_B (c : Dev nD) (t : Fin cfg0.N) (h : t.val ≠ 0) (h7 : t.val ≠ 7) :
    (outsAt0 m c t.val t.isLt).1 = k0_pay1 (iblk m c 0 t) (iblk m c 1 t)
      ∧ (outsAt0 m c t.val t.isLt).2.2 = k0_pay4 (iblk m c 0 t) (iblk m c 2 t) (prev m c t).2.2 := by
  have : t.val < 8 := t.isLt
  rw [outsAt0_B m c t (by omega) (by omega) (by omega)]
  frame_out
  simp only [read_unread_whole, and_self]

/-- What the last point leaves. -/
theorem outs_C (c : Dev nD) (t : Fin cfg0.N) (h7 : t.val = 7) :
    (outsAt0 m c t.val t.isLt).1 = k0_pay1 (iblk m c 0 t) (iblk m c 1 t)
      ∧ (outsAt0 m c t.val t.isLt).2.2 = k0_pay4 (iblk m c 0 t) (iblk m c 2 t) (prev m c t).2.2
      ∧ (outsAt0 m c t.val t.isLt).2.1 = k0_pay5 (k0_pay4 (iblk m c 0 t) (iblk m c 2 t) (prev m c t).2.2) := by
  rw [outsAt0_C m c t (by omega) (by omega) (by omega)]
  frame_out
  simp only [read_unread_whole, and_self]

theorem pay_do (z : Vec Ideal S512x1024 .bf16) (W : Vec Ideal S1x1024x1024 .bf16) (p : Fin 512) (q : Fin 1024) :
    k0_pay1 z W (ix2 p q) = ∑ k : Fin 1024, z (ix2 p k) * W (ix3 0 q k) := by
  unfold k0_pay1
  pointwise

theorem pay_dw_first (z o : Vec Ideal S512x1024 .bf16) (p q : Fin 1024) :
    k0_pay3 z o (ix2 p q) = ∑ k : Fin 512, o (ix2 k p) * z (ix2 k q) := by
  unfold k0_pay3 k0_pay2
  pointwise

theorem pay_dw (z o : Vec Ideal S512x1024 .bf16) (s : Vec Ideal S1024x1024 .f32) (p q : Fin 1024) :
    k0_pay4 z o s (ix2 p q) = s (ix2 p q) + ∑ k : Fin 512, o (ix2 k p) * z (ix2 k q) := by
  unfold k0_pay4 k0_pay2
  pointwise

theorem pay_dw_out (s : Vec Ideal S1024x1024 .f32) (p q : Fin 1024) : k0_pay5 (F := Ideal) s (ix3 0 p q) = s (ix2 p q) := by
  unfold k0_pay5
  pointwise

/-- Which block of each window a point has. -/
theorem idx0 : ∀ t : Fin cfg0.N, win0_0.index t = ![t.val, 0] ∧ win0_1.index t = ![0, 0, 0] ∧ win0_2.index t = ![t.val, 0]
    ∧ win0_3.index t = ![t.val, 0] ∧ win0_4.index t = ![0, 0, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (a : Fin 4096) (b : Fin 1024) :
    (V m c (Pipeline.arrRef spec0 0) : S4096x1024.Idx → EReal) (ix2 a b) = aZ m c (ix2 a b) := by
  unfold V
  entry_read
  pointwise
theorem in0 (c : Dev nD) (t : Fin cfg0.N) (p : Fin 512) (q : Fin 1024) : iblk m c 0 t (ix2 p q) = aZ m c (ix2 (tok t p) q) := by
  rw [← entry0]
  blk_ext [iblk, idx0 t]
theorem entry1 (c : Dev nD) (k : Fin 1024) (q : Fin 1024) :
    (V m c (Pipeline.arrRef spec0 1) : S1x1024x1024.Idx → EReal) (ix3 0 k q) = aW m c (ix2 k q) := by
  unfold V
  entry_read
  pointwise
theorem in1 (c : Dev nD) (t : Fin cfg0.N) (k : Fin 1024) (q : Fin 1024) : iblk m c 1 t (ix3 0 k q) = aW m c (ix2 k q) := by
  rw [← entry1]
  blk_ext [iblk, idx0 t]
theorem entry2 (c : Dev nD) (a : Fin 4096) (b : Fin 1024) :
    (V m c (Pipeline.arrRef spec0 2) : S4096x1024.Idx → EReal) (ix2 a b) = aO m c (ix2 a b) := by
  unfold V
  entry_read
  pointwise
theorem in2 (c : Dev nD) (t : Fin cfg0.N) (p : Fin 512) (q : Fin 1024) : iblk m c 2 t (ix2 p q) = aO m c (ix2 (tok t p) q) := by
  rw [← entry2]
  blk_ext [iblk, idx0 t]

/-- After every point the first output block holds the gradient of its tokens. -/
theorem do_at (c : Dev nD) (t : Fin cfg0.N) : (outsAt0 m c t.val t.isLt).1 = k0_pay1 (iblk m c 0 t) (iblk m c 1 t) := by
  by_cases h : t.val = 0
  · exact (outs_A m c t h).1
  · by_cases h7 : t.val = 7
    · exact (outs_C m c t h7).1
    · exact (outs_B m c t h h7).1

theorem later (c : Dev nD) (t : Fin cfg0.N) (h : t.val ≠ 0) :
    (outsAt0 m c t.val t.isLt).2.2 = k0_pay4 (iblk m c 0 t) (iblk m c 2 t) (prev m c t).2.2 := by
  by_cases h7 : t.val = 7
  · exact (outs_C m c t h7).2.1
  · exact (outs_B m c t h h7).2

theorem do_pt (c : Dev nD) (t : Fin cfg0.N) (p : Fin 512) (q : Fin 1024) :
    k0_pay1 (iblk m c 0 t) (iblk m c 1 t) (ix2 p q) = G3 m c (ix2 (tok t p) q) := by
  rw [pay_do]
  simp only [in0, in1]
  rfl

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem dw_at (c : Dev nD) (t : Fin cfg0.N) (h7 : t.val = 7) (p q : Fin 1024) :
    (outsAt0 m c t.val t.isLt).2.2 (ix2 p q) = ∑ k : Fin 4096, aO m c (ix2 k p) * aZ m c (ix2 k q) := by
  refine run_sum (fun n h (i : Fin 1024 × Fin 1024) => (outsAt0 m c n h).2.2 (ix2 i.1 i.2)) (fun a i => aO m c (ix2 a i.1) * aZ m c (ix2 a i.2)) ?_ ?_ t h7 (p, q)
  · intro t h q
    rw [(outs_A m c t h).2, pay_dw_first]
    simp only [in0, in2]
  · intro t h q
    rw [later m c t h, pay_dw]
    simp only [in0, in2]

theorem dw_out_at (c : Dev nD) (t : Fin cfg0.N) (h7 : t.val = 7) (p q : Fin 1024) :
    (outsAt0 m c t.val t.isLt).2.1 (ix3 0 p q) = G4 m c (ix3 0 p q) := by
  rw [(outs_C m c t h7).2.2, pay_dw_out, ← (outs_C m c t h7).2.1, dw_at m c t h7]
  rfl

/-- The first result. -/
theorem res3 (c : Dev nD) : (dats m 0 c).arrAt 3 cfg0.N = G3 m c := by
  refine (dats m 0 c).arrAt_eq_of_covers 3 _ (by decide +kernel) fun t hf y => ?_
  blk_simp
  rw [after0_3, do_at]
  change S512x1024.Idx at y
  idx_vars y
  refine (do_pt m c t _ _).trans (congrArg (G3 m c) (?_ : _ = ix2 (tok t y0) y1)).symm
  blk_ext [idx0 t]

/-- The second result. -/
theorem res4 (c : Dev nD) : (dats m 0 c).arrAt 4 cfg0.N = G4 m c := by
  refine (dats m 0 c).arrAt_eq_of_covers 4 _ (by decide +kernel) fun t hf y => ?_
  have h7 : t.val = 7 := by have := tlt t; have := (flush0_4 t).mp hf; omega
  blk_simp
  rw [after0_4]
  change S1x1024x1024.Idx at y
  idx_vars y
  obtain rfl : y0 = 0 := Subsingleton.elim _ _
  refine (dw_out_at m c t h7 _ _).trans (congrArg (G4 m c) (?_ : _ = ix3 0 y1 y2)).symm
  blk_ext [idx0 t]

end Cert.Kernel7Ideal.Block
-- ==== Proof.AttnDoClaim.lean ====
/- The attention output projection's backward call and its reference end holding the same arrays. -/
module

public import proofs.«01_k».proof.Defs
public import proofs.«01_k».proof.Proof.AttnDoValue
public import proofs.«01_k».proof.Proof.Gen.Reference7Ideal.Read
public import Idealize.ShloMosaic.Lib.Tactic

@[expose] public section

set_option maxRecDepth 16384

noncomputable section

namespace Cert.Proof

open Idealize.ShloMosaic Idealize.ShloMosaic.TcCoe Idealize.SL.Sem Cert.Kernel7Ideal.Block Cert.LayerNorm Cert.Reference7Ideal.Read

variable (m : (ℓ : Loc Cert.Kernel7Ideal.nD Cert.Kernel7Ideal.τ Cert.Kernel7Ideal.sig) → Buf (Elt Ideal) ℓ)

/-- The gradients with respect to the tokens agree. -/
theorem attn_do_eq (c : Dev Cert.Kernel7Ideal.nD) : val_main_v4 (F := Ideal) (aW m c) (aZ m c) = G3 m c := by
  funext i
  change Cert.Kernel7Ideal.S4096x1024.Idx at i
  idx_vars i
  unfold val_main_v4 val_main_v3 G3
  pointwise

/-- The gradients with respect to the weight agree. -/
theorem attn_dw_eq (c : Dev Cert.Kernel7Ideal.nD) : val_main_v6 (F := Ideal) (aO m c) (aZ m c) = G4 m c := by
  funext i
  change Cert.Kernel7Ideal.S1x1024x1024.Idx at i
  idx_vars i
  unfold val_main_v6 val_main_v5 val_main_v2 val_main_v1 G4
  pointwise
  exact Finset.sum_congr rfl fun k _ => mul_comm _ _

/-- The value claim of the attention output projection's backward call. -/
theorem attn_do : algebraic_Kernel7Ideal_Reference7Ideal := by
  intro m g m' g' _ hin
  refine ⟨fun c => G3 m c, fun c => G4 m c, ?_, ?_⟩
  · refine (θ_run Cert.Kernel7Ideal.defs _ _).mono (fun r h c => ?_) (Cert.Kernel7Ideal.Value.run_blocks m g)
    obtain ⟨h0, h1, hk⟩ := h c
    exact ⟨h0.trans (res3 m c), h1.trans (res4 m c), hk⟩
  refine (θ_run Cert.Reference7Ideal.defs _ _).mono (fun r h c => ?_) (Cert.Reference7Ideal.Value.run m' g')
  obtain ⟨h0, h1, hk⟩ := h c
  obtain ⟨e0, e1, e2⟩ := hin c
  refine ⟨?_, ?_, hk⟩
  · rw [h0, e1, e2]
    exact (val_main_v4_eq ..).trans (attn_do_eq m c)
  · rw [h1, e0, e2]
    exact (val_main_v6_eq ..).trans (attn_dw_eq m c)

end Cert.Proof
-- ==== Proof.WinGradValue.lean ====
/- What the convolution input projection's weight-gradient call leaves in its result array. -/
module

public import proofs.«01_k».proof.Proof.Gen.Kernel8Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel8Ideal.Block

open Cert.Kernel8Ideal Cert.Kernel8Ideal.Gen Idealize.ShloMosaic Idealize.ShloMosaic.TcCoe Idealize.SL.Sem Cert.LayerNorm

variable (m : (ℓ : Loc nD τ sig) → Buf (Elt Ideal) ℓ)

/-- The tokens. -/
abbrev aX (c : Dev nD) : S4096x1024.Idx → EReal := m ((c : Thread nD τ).loc main_arg0)
/-- The cotangent of the projection. -/
abbrev aH (c : Dev nD) : S4096x2048.Idx → EReal := m ((c : Thread nD τ).loc main_arg2)

/-- The weight's gradient, in slabs of columns. -/
def G2 (c : Dev nD) : S8x1024x256.Idx → EReal := fun i => ∑ k : Fin 4096, aX m c (ix2 k (i 1)) * aH m c (ix2 k ⟨(i 0).val * 256 + (i 2).val, by have h0 : (i 0).val < 8 := (i 0).isLt; have h2 : (i 2).val < 256 := (i 2).isLt; omega⟩)

/-- Which block of each window a point has. -/
theorem idx0 : ∀ t : Fin cfg0.N, win0_0.index t = ![0, t.val / 4] ∧ win0_1.index t = ![0, t.val % 4] ∧ win0_2.index t = ![t.val % 4, t.val / 4, 0] := by decide +kernel

theorem tlt (t : Fin cfg0.N) : t.val < 8 := t.isLt

theorem entry0 (c : Dev nD) (a : Fin 4096) (b : Fin 1024) :
    (V m c (Pipeline.arrRef spec0 0) : S4096x1024.Idx → EReal) (ix2 a b) = aX m c (ix2 a b) := by
  unfold V
  entry_read
  pointwise

theorem entry1 (c : Dev nD) (a : Fin 4096) (b : Fin 2048) :
    (V m c (Pipeline.arrRef spec0 1) : S4096x2048.Idx → EReal) (ix2 a b) = aH m c (ix2 a b) := by
  unfold V
  entry_read
  pointwise

/-- Column `q` of the point's tile of tokens. -/
abbrev xcol (t : Fin cfg0.N) (q : Fin 512) : Fin 1024 := ⟨t.val / 4 * 512 + q.val, by have := tlt t; omega⟩
/-- Column `q` of the point's tile of cotangents. -/
abbrev hcol (t : Fin cfg0.N) (q : Fin 512) : Fin 2048 := ⟨t.val % 4 * 512 + q.val, by omega⟩

theorem in0 (c : Dev nD) (t : Fin cfg0.N) (p : Fin 4096) (q : Fin 512) : iblk m c 0 t (ix2 p q) = aX m c (ix2 p (xcol t q)) := by
  rw [← entry0]
  blk_ext [iblk, idx0 t]

theorem in1 (c : Dev nD) (t : Fin cfg0.N) (p : Fin 4096) (q : Fin 512) : iblk m c 1 t (ix2 p q) = aH m c (ix2 p (hcol t q)) := by
  rw [← entry1]
  blk_ext [iblk, idx0 t]

/-- The product of one point, read at an element of its tile. -/
theorem pay1 (x h : Vec Ideal S4096x512 .bf16) (p q : Fin 512) :
    k0_pay1 x h (ix2 p q) = ∑ k : Fin 4096, x (ix2 k p) * h (ix2 k q) := by
  unfold k0_pay1
  pointwise

theorem ld0 (X : Vec Ideal S4096x512 .bf16) : View.ld X r0_0 = X := View.ld_unit_lit _ X (by decide)

/-- The result. -/
theorem res2 (c : Dev nD) : (dats m 0 c).arrAt 2 cfg0.N = G2 m c := by
  refine (dats m 0 c).arrAt_eq_of_covers 2 _ (by decide +kernel) fun t hf y => ?_
  blk_simp
  rw [after0_2]
  change S2x512x256.Idx at y
  unfold out0_2
  rw [ld0, ld0, Value.canon2_eq]
  idx_vars y
  have hi : Value.ix2_0 (ix3 y0 y1 y2) = ix2 y1 ⟨y0.val * 256 + y2.val, by omega⟩ := by
    funext a
    match a with | ⟨0, _⟩ => rfl | ⟨1, _⟩ => rfl
  have hp : Value.E2 (iblk m c 0 t) (iblk m c 1 t) (ix3 y0 y1 y2) = ∑ k : Fin 4096, aX m c (ix2 k (xcol t y1)) * aH m c (ix2 k (hcol t ⟨y0.val * 256 + y2.val, by omega⟩)) := by
    show k0_pay1 (F := Ideal) (iblk m c 0 t) (iblk m c 1 t) (Value.ix2_0 (ix3 y0 y1 y2)) = _
    rw [hi, pay1]
    simp only [in0, in1]
  refine hp.trans (Eq.trans ?_ (congrArg (G2 m c) (?_ : _ = ix3 (⟨t.val % 4 * 2 + y0.val, by omega⟩ : Fin 8) (xcol t y1) y2)).symm)
  rotate_left
  · blk_ext [idx0 t]
  · symm
    refine Finset.sum_congr rfl fun k _ => congrArg (fun j => aX m c (ix2 k (xcol t y1)) * aH m c (ix2 k j)) (Fin.ext ?_)
    show (t.val % 4 * 2 + y0.val) * 256 + y2.val = t.val % 4 * 512 + (y0.val * 256 + y2.val)
    omega

end Cert.Kernel8Ideal.Block
-- ==== Proof.WinGradClaim.lean ====
/- The convolution input projection's weight-gradient call and its reference end holding the same array. -/
module

public import proofs.«01_k».proof.Defs
public import proofs.«01_k».proof.Proof.WinGradValue
public import proofs.«01_k».proof.Proof.Gen.Reference8Ideal.Read
public import Idealize.ShloMosaic.Lib.Tactic

@[expose] public section

set_option maxRecDepth 16384

noncomputable section

namespace Cert.Proof

open Idealize.ShloMosaic Idealize.ShloMosaic.TcCoe Idealize.SL.Sem Cert.Kernel8Ideal.Block Cert.LayerNorm Cert.Reference8Ideal.Read

variable (m : (ℓ : Loc Cert.Kernel8Ideal.nD Cert.Kernel8Ideal.τ Cert.Kernel8Ideal.sig) → Buf (Elt Ideal) ℓ)

/-- The results agree. -/
theorem win_eq (c : Dev Cert.Kernel8Ideal.nD) : val_main_v5 (F := Ideal) (aX m c) (aH m c) = G2 m c := by
  funext i
  change Cert.Kernel8Ideal.S8x1024x256.Idx at i
  idx_vars i
  unfold val_main_v5 val_main_v4 val_main_v3 val_main_v2 val_main_v1 G2
  pointwise
  exact Finset.sum_congr rfl fun k _ => mul_comm _ _

/-- The value claim of the convolution input projection's weight gradient. -/
theorem conv_dw : algebraic_Kernel8Ideal_Reference8Ideal := by
  intro m g m' g' _ hin
  refine ⟨fun c => G2 m c, ?_, ?_⟩
  · refine (θ_run Cert.Kernel8Ideal.defs _ _).mono (fun r h c => ?_) (Cert.Kernel8Ideal.Value.run_blocks m g)
    obtain ⟨h0, hk⟩ := h c
    exact ⟨h0.trans (res2 m c), hk⟩
  refine (θ_run Cert.Reference8Ideal.defs _ _).mono (fun r h c => ?_) (Cert.Reference8Ideal.Value.run m' g')
  obtain ⟨h0, hk⟩ := h c
  obtain ⟨e0, e1, e2⟩ := hin c
  refine ⟨?_, hk⟩
  · rw [h0, e0, e2]
    exact (val_main_v5_eq ..).trans (win_eq m c)

end Cert.Proof
-- ==== Proof.ConvDxValue.lean ====
/- What the convolution block's input-gradient call leaves in its result array. -/
module

public import proofs.«01_k».proof.Proof.Gen.Kernel9Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel9Ideal.Block

open Cert.Kernel9Ideal Cert.Kernel9Ideal.Gen Idealize.ShloMosaic Idealize.ShloMosaic.TcCoe Idealize.SL.Sem Cert.LayerNorm

variable (m : (ℓ : Loc nD τ sig) → Buf (Elt Ideal) ℓ)

/-- The weight. -/
abbrev aW (c : Dev nD) : S1024x2048.Idx → EReal := m ((c : Thread nD τ).loc main_arg1)
/-- The gradient that passes the block by. -/
abbrev aZ (c : Dev nD) : S4096x1024.Idx → EReal := m ((c : Thread nD τ).loc main_arg3)
/-- The gradient with respect to the projection. -/
abbrev aH (c : Dev nD) : S4096x2048.Idx → EReal := m ((c : Thread nD τ).loc main_arg4)

/-- The gradient with respect to the tokens, as an array. -/
def G3 (c : Dev nD) : S4096x1024.Idx → EReal := fun i =>
  (∑ k : Fin 2048, aH m c (ix2 (i 0) k) * aW m c (ix2 (i 1) k)) + Ideal.ofBits FTy.f32 0x3FB504F3#32 * aZ m c (ix2 (i 0) (i 1))

/-- The point before. -/
abbrev prev (c : Dev nD) (t : Fin cfg0.N) := outsAt0 m c (t.val - 1) (Nat.lt_of_le_of_lt (Nat.sub_le _ _) t.isLt)

/-- The product with four slabs of the weight, added to what is there. -/
abbrev accOf (S : Vec Ideal S512x1024 .f32) (A : Vec Ideal S512x1024 .bf16) (B : Vec Ideal S4x1024x256 .bf16) : Vec Ideal S512x1024 .f32 :=
  k0_pay4 S (View.ld A (Rect.unit ![0, 0] ![512, 256] inb_S512x1024_S512x256_0_0))
    (View.ld B (Rect.unit ![0, 0, 0] ![1, 1024, 256] inb_S4x1024x256_S1x1024x256_0_0_0))
    (View.ld A (Rect.unit ![0, 256] ![512, 256] inb_S512x1024_S512x256_0_256))
    (View.ld B (Rect.unit ![1, 0, 0] ![1, 1024, 256] inb_S4x1024x256_S1x1024x256_1_0_0))
    (View.ld A (Rect.unit ![0, 512] ![512, 256] inb_S512x1024_S512x256_0_512))
    (View.ld B (Rect.unit ![2, 0, 0] ![1, 1024, 256] inb_S4x1024x256_S1x1024x256_2_0_0))
    (View.ld A (Rect.unit ![0, 768] ![512, 256] inb_S512x1024_S512x256_0_768))
    (View.ld B (Rect.unit ![3, 0, 0] ![1, 1024, 256] inb_S4x1024x256_S1x1024x256_3_0_0))

/-- What the first of a tile's two points leaves. -/
theorem outs_A (c : Dev nD) (t : Fin cfg0.N) (h : t.val % 2 = 0) :
    (outsAt0 m c t.val t.isLt).2 = k0_pay1 (F := Ideal) (accOf (k0_pay3 (F := Ideal)) (iblk m c 0 t) (iblk m c 1 t)) := by
  rw [outsAt0_A m c t (by omega) (by omega)]
  frame_out

/-- What the second leaves. -/
theorem outs_B (c : Dev nD) (t : Fin cfg0.N) (h : t.val % 2 = 1) :
    (outsAt0 m c t.val t.isLt).1 = k0_pay2 (k0_pay1 (F := Ideal) (accOf (prev m c t).2 (iblk m c 0 t) (iblk m c 1 t))) (iblk m c 2 t) := by
  rw [outsAt0_B m c t (by omega) (by omega)]
  frame_out
  simp only [read_unread_whole]

theorem pay_acc (S : Vec Ideal S512x1024 .f32) (A : Vec Ideal S512x1024 .bf16) (B : Vec Ideal S4x1024x256 .bf16) (p : Fin 512) (q : Fin 1024) :
    k0_pay1 (F := Ideal) (accOf S A B) (ix2 p q) = S (ix2 p q) + ∑ s : Fin 4, ∑ k : Fin 256, A (ix2 p (⟨s.val * 256 + k.val, by omega⟩ : Fin 1024)) * B (ix3 s q k) := by
  unfold k0_pay1 accOf k0_pay4
  pointwise
  rw [Fin.sum_univ_four]
  rfl

theorem pay_zero (p : Fin 512) (q : Fin 1024) : k0_pay3 (F := Ideal) (ix2 p q) = (0 : EReal) := by
  unfold k0_pay3
  pointwise

theorem pay_out (S Z : Vec Ideal S512x1024 .f32) (p : Fin 512) (q : Fin 1024) :
    k0_pay2 S Z (ix2 p q) = S (ix2 p q) + Ideal.ofBits FTy.f32 0x3FB504F3#32 * Z (ix2 p q) := by
  unfold k0_pay2
  pointwise

/-- Which block of each window a point has. -/
theorem idx0 : ∀ t : Fin cfg0.N, win0_0.index t = ![t.val / 2, t.val % 2] ∧ win0_1.index t = ![t.val % 2, 0, 0] ∧ win0_2.index t = ![t.val / 2, 0]
    ∧ win0_3.index t = ![t.val / 2, 0] := by decide +kernel

/-- The grid has sixteen points. -/
theorem tlt (t : Fin cfg0.N) : t.val < 16 := t.isLt
/-- Token row `p` of the point's token tile. -/
abbrev tok (t : Fin cfg0.N) (p : Fin 512) : Fin 4096 := ⟨t.val / 2 * 512 + p.val, by have := tlt t; omega⟩

theorem entry0 (c : Dev nD) (a : Fin 4096) (b : Fin 2048) :
    (V m c (Pipeline.arrRef spec0 0) : S4096x2048.Idx → EReal) (ix2 a b) = aH m c (ix2 a b) := by
  unfold V
  entry_read
  pointwise
theorem in0 (c : Dev nD) (t : Fin cfg0.N) (p : Fin 512) (q : Fin 1024) :
    iblk m c 0 t (ix2 p q) = aH m c (ix2 (tok t p) (⟨t.val % 2 * 1024 + q.val, by omega⟩ : Fin 2048)) := by
  rw [← entry0]
  blk_ext [iblk, idx0 t]
theorem entry1 (c : Dev nD) (s : Fin 8) (q : Fin 1024) (k : Fin 256) :
    (V m c (Pipeline.arrRef spec0 1) : S8x1024x256.Idx → EReal) (ix3 s q k) = aW m c (ix2 q (⟨s.val * 256 + k.val, by omega⟩ : Fin 2048)) := by
  unfold V
  entry_read
  pointwise
theorem in1 (c : Dev nD) (t : Fin cfg0.N) (s : Fin 4) (q : Fin 1024) (k : Fin 256) :
    iblk m c 1 t (ix3 s q k) = aW m c (ix2 q (⟨t.val % 2 * 1024 + (s.val * 256 + k.val), by omega⟩ : Fin 2048)) := by
  have h := entry1 m c ⟨t.val % 2 * 4 + s.val, by omega⟩ q k
  refine Eq.trans ?_ (h.trans (congrArg (fun j => aW m c (ix2 q j)) (Fin.ext ?_)))
  · blk_ext [iblk, idx0 t]
  · show (t.val % 2 * 4 + s.val) * 256 + k.val = t.val % 2 * 1024 + (s.val * 256 + k.val)
    omega
theorem in2 (c : Dev nD) (t : Fin cfg0.N) (p : Fin 512) (q : Fin 1024) : iblk m c 2 t (ix2 p q) = aZ m c (ix2 (tok t p) q) := by
  blk_point [iblk, V, idx0 t]

/-- One point's share of the product. -/
theorem acc_pt (c : Dev nD) (t : Fin cfg0.N) (S : Vec Ideal S512x1024 .f32) (p : Fin 512) (q : Fin 1024) :
    k0_pay1 (F := Ideal) (accOf S (iblk m c 0 t) (iblk m c 1 t)) (ix2 p q) = S (ix2 p q)
      + ∑ k : Fin 1024, aH m c (ix2 (tok t p) (⟨t.val % 2 * 1024 + k.val, by omega⟩ : Fin 2048)) * aW m c (ix2 q (⟨t.val % 2 * 1024 + k.val, by omega⟩ : Fin 2048)) := by
  rw [pay_acc]
  congr 1
  simp only [in0, in1]
  exact Fin.sum_mul_add_congr (f := fun k : Fin 1024 => aH m c (ix2 (tok t p) (⟨t.val % 2 * 1024 + k.val, by omega⟩ : Fin 2048)) * aW m c (ix2 q (⟨t.val % 2 * 1024 + k.val, by omega⟩ : Fin 2048))) fun s k hl => rfl

theorem half (f : Fin 2048 → EReal) : (∑ k : Fin 1024, f ⟨k.val, by omega⟩) + ∑ k : Fin 1024, f ⟨1024 + k.val, by omega⟩ = ∑ k, f k := by
  rw [show (∑ k, f k) = ∑ k : Fin (1024 + 1024), f k from rfl, Fin.sum_univ_add]
  rfl

/-- What a tile's second point leaves in the output block. -/
theorem out_pt (c : Dev nD) (t : Fin cfg0.N) (h : t.val % 2 = 1) (p : Fin 512) (q : Fin 1024) :
    (outsAt0 m c t.val t.isLt).1 (ix2 p q) = G3 m c (ix2 (tok t p) q) := by
  have hl := tlt t
  have ha := outs_A m c ⟨t.val - 1, Nat.lt_of_le_of_lt (Nat.sub_le _ _) t.isLt⟩ (by show (t.val - 1) % 2 = 0; omega)
  have hp : (prev m c t).2 (ix2 p q) = ∑ k : Fin 1024, aH m c (ix2 (tok t p) (⟨k.val, by omega⟩ : Fin 2048)) * aW m c (ix2 q (⟨k.val, by omega⟩ : Fin 2048)) := by
    refine (congrFun ha (ix2 p q)).trans ?_
    rw [acc_pt, pay_zero, zero_add]
    refine Finset.sum_congr rfl fun k _ => ?_
    have e1 : tok ⟨t.val - 1, Nat.lt_of_le_of_lt (Nat.sub_le _ _) t.isLt⟩ p = tok t p := Fin.ext (by show (t.val - 1) / 2 * 512 + p.val = t.val / 2 * 512 + p.val; omega)
    have e2 : (⟨(t.val - 1) % 2 * 1024 + k.val, by omega⟩ : Fin 2048) = ⟨k.val, by omega⟩ := Fin.ext (by show (t.val - 1) % 2 * 1024 + k.val = k.val; omega)
    rw [e1]
    exact congrArg (fun j => aH m c (ix2 (tok t p) j) * aW m c (ix2 q j)) e2
  rw [outs_B m c t h, pay_out, acc_pt, hp, in2]
  show _ = _ + _
  congr 1
  rw [← half]
  congr 1
  refine Finset.sum_congr rfl fun k _ => congrArg (fun j => aH m c (ix2 (tok t p) j) * aW m c (ix2 q j)) (Fin.ext ?_)
  show t.val % 2 * 1024 + k.val = 1024 + k.val
  omega

/-- The result. -/
theorem res3 (c : Dev nD) : (dats m 0 c).arrAt 3 cfg0.N = G3 m c := by
  refine (dats m 0 c).arrAt_eq_of_covers 3 _ (by decide +kernel) fun t hf y => ?_
  have h1 : t.val % 2 = 1 := (flush0_3 t).mp hf
  blk_simp
  rw [after0_3]
  change S512x1024.Idx at y
  idx_vars y
  refine (out_pt m c t h1 _ _).trans (congrArg (G3 m c) (?_ : _ = ix2 (tok t y0) y1)).symm
  blk_ext [idx0 t]

end Cert.Kernel9Ideal.Block
-- ==== Proof.ConvDxClaim.lean ====
/- The convolution block's input-gradient call and its reference end holding the same array. -/
module

public import proofs.«01_k».proof.Defs
public import proofs.«01_k».proof.Proof.ConvDxValue
public import proofs.«01_k».proof.Proof.Gen.Reference9Ideal.Read
public import Idealize.ShloMosaic.Lib.Tactic

@[expose] public section

set_option maxRecDepth 16384

noncomputable section

namespace Cert.Proof

open Idealize.ShloMosaic Idealize.ShloMosaic.TcCoe Idealize.SL.Sem Cert.Kernel9Ideal.Block Cert.LayerNorm Cert.Reference9Ideal.Read

variable (m : (ℓ : Loc Cert.Kernel9Ideal.nD Cert.Kernel9Ideal.τ Cert.Kernel9Ideal.sig) → Buf (Elt Ideal) ℓ)

/-- The results agree. -/
theorem conv_dx_eq (c : Dev Cert.Kernel9Ideal.nD) : val_main_v8 (F := Ideal) (aW m c) (aZ m c) (aH m c) = G3 m c := by
  funext i
  change Cert.Kernel9Ideal.S4096x1024.Idx at i
  idx_vars i
  unfold val_main_v8 val_main_v7 val_main_v6 val_main_cst_0 val_main_v5 G3
  pointwise

/-- The value claim of the convolution block's input gradient. -/
theorem conv_dx : algebraic_Kernel9Ideal_Reference9Ideal := by
  intro m g m' g' _ hin
  refine ⟨fun c => G3 m c, ?_, ?_⟩
  · refine (θ_run Cert.Kernel9Ideal.defs _ _).mono (fun r h c => ?_) (Cert.Kernel9Ideal.Value.run_blocks m g)
    obtain ⟨h0, hk⟩ := h c
    exact ⟨h0.trans (res3 m c), hk⟩
  refine (θ_run Cert.Reference9Ideal.defs _ _).mono (fun r h c => ?_) (Cert.Reference9Ideal.Value.run m' g')
  obtain ⟨h0, hk⟩ := h c
  obtain ⟨e0, e1, e2, e3, e4⟩ := hin c
  refine ⟨?_, hk⟩
  · rw [h0, e1, e3, e4]
    exact (val_main_v8_eq ..).trans (conv_dx_eq m c)

end Cert.Proof
-- ==== Proof.ConvOutValue.lean ====
/- What the convolution output projection with its normalisation leaves in its three result arrays. -/
module

public import proofs.«01_k».proof.Proof.Gen.Kernel10Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel10Ideal.Block

open Cert.Kernel10Ideal Cert.Kernel10Ideal.Gen Idealize.ShloMosaic Idealize.ShloMosaic.TcCoe Idealize.SL.Sem Cert.LayerNorm

variable (m : (ℓ : Loc nD τ sig) → Buf (Elt Ideal) ℓ)

/-- The tokens the product takes. -/
abbrev aS (c : Dev nD) : S4096x1024.Idx → EReal := m ((c : Thread nD τ).loc main_arg0)
/-- The weight. -/
abbrev aW (c : Dev nD) : S1024x1024.Idx → EReal := m ((c : Thread nD τ).loc main_arg1)
/-- The bias. -/
abbrev aC (c : Dev nD) : S1x1024.Idx → EReal := m ((c : Thread nD τ).loc main_arg2)
/-- The residual. -/
abbrev aX (c : Dev nD) : S4096x1024.Idx → EReal := m ((c : Thread nD τ).loc main_arg3)
/-- The scale. -/
abbrev aG (c : Dev nD) : S1x1024.Idx → EReal := m ((c : Thread nD τ).loc main_arg4)
/-- The shift. -/
abbrev aB (c : Dev nD) : S1x1024.Idx → EReal := m ((c : Thread nD τ).loc main_arg5)

theorem pay_z (s : Vec Ideal S512x1024 .bf16) (W : Vec Ideal S1x1024x1024 .bf16) (x : Vec Ideal S512x1024 .f32) (e : Vec Ideal S1x1024 .f32) (p : Fin 512) (q : Fin 1024) :
    k0_pay3 s W x e (ix2 p q) = Ideal.ofBits FTy.f32 0x3FB504F3#32 * x (ix2 p q) + ((∑ k : Fin 1024, s (ix2 p k) * W (ix3 0 k q)) + e (ix2 0 q)) := by
  unfold k0_pay3
  pointwise
  rw [add_assoc]

theorem pay_xo (s : Vec Ideal S512x1024 .bf16) (W : Vec Ideal S1x1024x1024 .bf16) (x : Vec Ideal S512x1024 .f32) (e : Vec Ideal S1x1024 .f32) (g b : Vec Ideal S1x1024 .f32) (p : Fin 512) (q : Fin 1024) :
    k0_pay1 (k0_pay4 s W x e g) (k0_pay5 b) (ix2 p q) = nrm Ple.len Ple.eps (fun i => k0_pay3 s W x e (ix2 p i)) q * g (ix2 0 q) + b (ix2 0 q) := by
  unfold k0_pay1 k0_pay4 k0_pay5 nrm rstd var cen mean
  generalize k0_pay3 s W x e = Y
  pointwise

theorem pay_xo16 (u y : Vec Ideal S512x1024 .f32) (p : Fin 512) (q : Fin 1024) :
    k0_pay2 (F := Ideal) u y (ix2 p q) = k0_pay1 (F := Ideal) u y (ix2 p q) := by
  unfold k0_pay2
  generalize k0_pay1 (F := Ideal) u y = Y
  pointwise

/-- Which block of each window a point has. -/
theorem idx0 : ∀ t : Fin cfg0.N, win0_0.index t = ![t.val, 0] ∧ win0_1.index t = ![0, 0, 0] ∧ win0_2.index t = ![0, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (a : Fin 4096) (b : Fin 1024) :
    (V m c (Pipeline.arrRef spec0 0) : S4096x1024.Idx → EReal) (ix2 a b) = aS m c (ix2 a b) := by
  unfold V
  entry_read
  pointwise
theorem in0 (c : Dev nD) (t : Fin cfg0.N) (p : Fin 512) (q : Fin 1024) : iblk m c 0 t (ix2 p q) = aS m c (ix2 (tok t p) q) := by
  rw [← entry0]
  blk_ext [iblk, idx0 t]
theorem entry1 (c : Dev nD) (k : Fin 1024) (q : Fin 1024) :
    (V m c (Pipeline.arrRef spec0 1) : S1x1024x1024.Idx → EReal) (ix3 0 k q) = aW m c (ix2 k q) := by
  unfold V
  entry_read
  pointwise
theorem in1 (c : Dev nD) (t : Fin cfg0.N) (k : Fin 1024) (q : Fin 1024) : iblk m c 1 t (ix3 0 k q) = aW m c (ix2 k q) := by
  rw [← entry1]
  blk_ext [iblk, idx0 t]
theorem in3 (c : Dev nD) (t : Fin cfg0.N) (p : Fin 512) (q : Fin 1024) : iblk m c 3 t (ix2 p q) = aX m c (ix2 (tok t p) q) := by
  blk_point [iblk, V, idx0 t]
theorem in2 (c : Dev nD) (t : Fin cfg0.N) (q : Fin 1024) : iblk m c 2 t (ix2 0 q) = aC m c (ix2 0 q) := by
  blk_point [iblk, V, idx0 t]
theorem in4 (c : Dev nD) (t : Fin cfg0.N) (q : Fin 1024) : iblk m c 4 t (ix2 0 q) = aG m c (ix2 0 q) := by
  blk_point [iblk, V, idx0 t]
theorem in5 (c : Dev nD) (t : Fin cfg0.N) (q : Fin 1024) : iblk m c 5 t (ix2 0 q) = aB m c (ix2 0 q) := by
  blk_point [iblk, V, idx0 t]

/-- The residual and the product. -/
def zz (c : Dev nD) (a : Fin 4096) (i : Fin 1024) : EReal :=
  Ideal.ofBits FTy.f32 0x3FB504F3#32 * aX m c (ix2 a i) + ((∑ k : Fin 1024, aS m c (ix2 a k) * aW m c (ix2 k i)) + aC m c (ix2 0 i))
/-- Its normalisation. -/
def oo (c : Dev nD) (a : Fin 4096) (i : Fin 1024) : EReal := nrm Ple.len Ple.eps (zz m c a) i * aG m c (ix2 0 i) + aB m c (ix2 0 i)

/-- The first result, as an array. -/
def Gz (c : Dev nD) : S4096x1024.Idx → EReal := fun i => zz m c (i 0) (i 1)
/-- The second and third result, as an array. -/
def Go (c : Dev nD) : S4096x1024.Idx → EReal := fun i => oo m c (i 0) (i 1)

theorem z_pt (c : Dev nD) (t : Fin cfg0.N) (p : Fin 512) (q : Fin 1024) :
    k0_pay3 (iblk m c 0 t) (iblk m c 1 t) (iblk m c 3 t) (iblk m c 2 t) (ix2 p q) = zz m c (tok t p) q := by
  rw [pay_z]
  simp only [in0, in1, in3, in2]
  rfl
theorem o_pt (c : Dev nD) (t : Fin cfg0.N) (p : Fin 512) (q : Fin 1024) :
    k0_pay1 (k0_pay4 (iblk m c 0 t) (iblk m c 1 t) (iblk m c 3 t) (iblk m c 2 t) (iblk m c 4 t)) (k0_pay5 (iblk m c 5 t)) (ix2 p q) = oo m c (tok t p) q := by
  rw [pay_xo]
  simp only [z_pt, in4, in5]
  rfl

theorem pay6_eq (s : Vec Ideal S512x1024 .bf16) (W : Vec Ideal S1x1024x1024 .bf16) (e : Vec Ideal S1x1024 .f32) (x : Vec Ideal S512x1024 .f32) (g b : Vec Ideal S1x1024 .f32) :
    k0_pay6 s W e x g b = k0_pay4 s W x e g := by
  unfold k0_pay6
  frame_out
theorem pay7_eq (s : Vec Ideal S512x1024 .bf16) (W : Vec Ideal S1x1024x1024 .bf16) (e : Vec Ideal S1x1024 .f32) (x : Vec Ideal S512x1024 .f32) (g b : Vec Ideal S1x1024 .f32) :
    k0_pay7 s W e x g b = k0_pay5 b := by
  unfold k0_pay7
  frame_out

/-- Result array 6. -/
theorem res6 (c : Dev nD) : (dats m 0 c).arrAt 6 cfg0.N = Gz m c := by
  refine (dats m 0 c).arrAt_eq_of_covers 6 _ (by decide +kernel) fun t hf y => ?_
  blk_simp
  rw [after0_6]
  frame_out
  change S512x1024.Idx at y
  idx_vars y
  refine (z_pt m c t _ _).trans (congrArg (Gz m c) (?_ : _ = ix2 (tok t y0) y1)).symm
  blk_ext [idx0 t]

/-- Result array 7. -/
theorem res7 (c : Dev nD) : (dats m 0 c).arrAt 7 cfg0.N = Go m c := by
  refine (dats m 0 c).arrAt_eq_of_covers 7 _ (by decide +kernel) fun t hf y => ?_
  blk_simp
  rw [after0_7]
  frame_out
  rw [pay6_eq, pay7_eq]
  change S512x1024.Idx at y
  idx_vars y
  refine (o_pt m c t _ _).trans (congrArg (Go m c) (?_ : _ = ix2 (tok t y0) y1)).symm
  blk_ext [idx0 t]

/-- Result array 8. -/
theorem res8 (c : Dev nD) : (dats m 0 c).arrAt 8 cfg0.N = Go m c := by
  refine (dats m 0 c).arrAt_eq_of_covers 8 _ (by decide +kernel) fun t hf y => ?_
  blk_simp
  rw [after0_8]
  frame_out
  rw [pay6_eq, pay7_eq]
  change S512x1024.Idx at y
  idx_vars y
  refine ((pay_xo16 _ _ _ _).trans (o_pt m c t _ _)).trans (congrArg (Go m c) (?_ : _ = ix2 (tok t y0) y1)).symm
  blk_ext [idx0 t]

end Cert.Kernel10Ideal.Block
-- ==== Proof.ConvOutClaim.lean ====
/- The convolution output projection with its normalisation and its reference end holding the same arrays. -/
module

public import proofs.«01_k».proof.Defs
public import proofs.«01_k».proof.Proof.ConvOutValue
public import proofs.«01_k».proof.Proof.Gen.Reference10Ideal.Read
public import Idealize.ShloMosaic.Lib.Tactic

@[expose] public section

set_option maxRecDepth 16384

noncomputable section

namespace Cert.Proof

open Idealize.ShloMosaic Idealize.ShloMosaic.TcCoe Idealize.SL.Sem Cert.Kernel10Ideal.Block Cert.LayerNorm Cert.Reference10Ideal.Read

variable (m : (ℓ : Loc Cert.Kernel10Ideal.nD Cert.Kernel10Ideal.τ Cert.Kernel10Ideal.sig) → Buf (Elt Ideal) ℓ)

theorem convOut_z (c : Dev Cert.Kernel10Ideal.nD) (a : Fin 4096) (i : Fin 1024) :
    (val_main_v5 (F := Ideal) (aS m c) (aW m c) (aC m c) (aX m c) : Cert.Kernel10Ideal.S4096x1024.Idx → EReal) (ix2 a i) = zz m c a i := by
  unfold val_main_v5 val_main_v4 val_main_v3 val_main_v2 val_main_v1 val_main_v0 val_main_cst zz
  pointwise

theorem convOut_o (c : Dev Cert.Kernel10Ideal.nD) (a : Fin 4096) (i : Fin 1024) :
    (val_main_v27 (F := Ideal) (aS m c) (aW m c) (aC m c) (aX m c) (aG m c) (aB m c) : Cert.Kernel10Ideal.S4096x1024.Idx → EReal) (ix2 a i) = oo m c a i := by
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_0 val_main_cst_1 val_main_cst_2 val_main_cst_3 val_main_cst_4 oo nrm rstd var cen mean
  simp only [← convOut_z]
  generalize val_main_v5 (F := Ideal) (aS m c) (aW m c) (aC m c) (aX m c) = C
  pointwise

/-- The first results agree. -/
theorem convOut_eq0 (c : Dev Cert.Kernel10Ideal.nD) : val_main_v5 (F := Ideal) (aS m c) (aW m c) (aC m c) (aX m c) = Gz m c := by
  funext i
  change Cert.Kernel10Ideal.S4096x1024.Idx at i
  idx_vars i
  exact convOut_z ..

/-- The second results agree. -/
theorem convOut_eq1 (c : Dev Cert.Kernel10Ideal.nD) : val_main_v27 (F := Ideal) (aS m c) (aW m c) (aC m c) (aX m c) (aG m c) (aB m c) = Go m c := by
  funext i
  change Cert.Kernel10Ideal.S4096x1024.Idx at i
  idx_vars i
  exact convOut_o ..

/-- The third results agree. -/
theorem convOut_eq2 (c : Dev Cert.Kernel10Ideal.nD) : val_main_v28 (F := Ideal) (aS m c) (aW m c) (aC m c) (aX m c) (aG m c) (aB m c) = Go m c := by
  rw [← convOut_eq1]
  unfold val_main_v28
  generalize val_main_v27 (F := Ideal) (aS m c) (aW m c) (aC m c) (aX m c) (aG m c) (aB m c) = C
  funext i
  change Cert.Kernel10Ideal.S4096x1024.Idx at i
  idx_vars i
  pointwise

/-- The value claim of the convolution output projection with its normalisation. -/
theorem conv_out : algebraic_Kernel10Ideal_Reference10Ideal := by
  intro m g m' g' _ hin
  refine ⟨fun c => Gz m c, fun c => Go m c, fun c => Go m c, ?_, ?_⟩
  · refine (θ_run Cert.Kernel10Ideal.defs _ _).mono (fun r h c => ?_) (Cert.Kernel10Ideal.Value.run_blocks m g)
    obtain ⟨h0, h1, h2, hk⟩ := h c
    exact ⟨h0.trans (res6 m c), h1.trans (res7 m c), h2.trans (res8 m c), hk⟩
  refine (θ_run Cert.Reference10Ideal.defs _ _).mono (fun r h c => ?_) (Cert.Reference10Ideal.Value.run m' g')
  obtain ⟨h0, h1, h2, hk⟩ := h c
  obtain ⟨e0, e1, e2, e3, e4, e5⟩ := hin c
  refine ⟨?_, ?_, ?_, hk⟩
  · rw [h0, e0, e1, e2, e3]
    exact (val_main_v5_eq ..).trans (convOut_eq0 m c)
  · rw [h1, e0, e1, e2, e3, e4, e5]
    exact (val_main_v27_eq ..).trans (convOut_eq1 m c)
  · rw [h2, e0, e1, e2, e3, e4, e5]
    exact (val_main_v28_eq ..).trans (convOut_eq2 m c)

end Cert.Proof
-- ==== Proof.AttnOutValue.lean ====
/- What the attention output projection with its normalisation leaves in its three result arrays. -/
module

public import proofs.«01_k».proof.Proof.Gen.Kernel11Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel11Ideal.Block

open Cert.Kernel11Ideal Cert.Kernel11Ideal.Gen Idealize.ShloMosaic Idealize.ShloMosaic.TcCoe Idealize.SL.Sem Cert.LayerNorm

variable (m : (ℓ : Loc nD τ sig) → Buf (Elt Ideal) ℓ)

/-- The tokens the product takes. -/
abbrev aS (c : Dev nD) : S4096x1024.Idx → EReal := m ((c : Thread nD τ).loc main_arg0)
/-- The weight. -/
abbrev aW (c : Dev nD) : S1024x1024.Idx → EReal := m ((c : Thread nD τ).loc main_arg1)
/-- The residual. -/
abbrev aX (c : Dev nD) : S4096x1024.Idx → EReal := m ((c : Thread nD τ).loc main_arg2)
/-- The scale. -/
abbrev aG (c : Dev nD) : S1x1024.Idx → EReal := m ((c : Thread nD τ).loc main_arg3)
/-- The shift. -/
abbrev aB (c : Dev nD) : S1x1024.Idx → EReal := m ((c : Thread nD τ).loc main_arg4)

theorem pay_z (s : Vec Ideal S512x1024 .bf16) (W : Vec Ideal S1x1024x1024 .bf16) (x : Vec Ideal S512x1024 .f32) (p : Fin 512) (q : Fin 1024) :
    k0_pay2 s W x (ix2 p q) = Ideal.ofBits FTy.f32 0x3FB504F3#32 * x (ix2 p q) + ∑ k : Fin 1024, s (ix2 p k) * W (ix3 0 k q) := by
  unfold k0_pay2
  pointwise

theorem pay_xo (s : Vec Ideal S512x1024 .bf16) (W : Vec Ideal S1x1024x1024 .bf16) (x : Vec Ideal S512x1024 .f32) (g b : Vec Ideal S1x1024 .f32) (p : Fin 512) (q : Fin 1024) :
    k0_pay3 s W x g b (ix2 p q) = nrm Ple.len Ple.eps (fun i => k0_pay2 s W x (ix2 p i)) q * g (ix2 0 q) + b (ix2 0 q) := by
  unfold k0_pay3 nrm rstd var cen mean
  generalize k0_pay2 s W x = Y
  pointwise

theorem pay_xo16 (y : Vec Ideal S512x1024 .f32) (p : Fin 512) (q : Fin 1024) :
    k0_pay1 (F := Ideal) y (ix2 p q) = y (ix2 p q) := by
  unfold k0_pay1
  pointwise

/-- Which block of each window a point has. -/
theorem idx0 : ∀ t : Fin cfg0.N, win0_0.index t = ![t.val, 0] ∧ win0_1.index t = ![0, 0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (a : Fin 4096) (b : Fin 1024) :
    (V m c (Pipeline.arrRef spec0 0) : S4096x1024.Idx → EReal) (ix2 a b) = aS m c (ix2 a b) := by
  unfold V
  entry_read
  pointwise
theorem in0 (c : Dev nD) (t : Fin cfg0.N) (p : Fin 512) (q : Fin 1024) : iblk m c 0 t (ix2 p q) = aS m c (ix2 (tok t p) q) := by
  rw [← entry0]
  blk_ext [iblk, idx0 t]
theorem entry1 (c : Dev nD) (k : Fin 1024) (q : Fin 1024) :
    (V m c (Pipeline.arrRef spec0 1) : S1x1024x1024.Idx → EReal) (ix3 0 k q) = aW m c (ix2 k q) := by
  unfold V
  entry_read
  pointwise
theorem in1 (c : Dev nD) (t : Fin cfg0.N) (k : Fin 1024) (q : Fin 1024) : iblk m c 1 t (ix3 0 k q) = aW m c (ix2 k q) := by
  rw [← entry1]
  blk_ext [iblk, idx0 t]
theorem in2 (c : Dev nD) (t : Fin cfg0.N) (p : Fin 512) (q : Fin 1024) : iblk m c 2 t (ix2 p q) = aX m c (ix2 (tok t p) q) := by
  blk_point [iblk, V, idx0 t]
theorem in3 (c : Dev nD) (t : Fin cfg0.N) (q : Fin 1024) : iblk m c 3 t (ix2 0 q) = aG m c (ix2 0 q) := by
  blk_point [iblk, V, idx0 t]
theorem in4 (c : Dev nD) (t : Fin cfg0.N) (q : Fin 1024) : iblk m c 4 t (ix2 0 q) = aB m c (ix2 0 q) := by
  blk_point [iblk, V, idx0 t]

/-- The residual and the product. -/
def zz (c : Dev nD) (a : Fin 4096) (i : Fin 1024) : EReal :=
  Ideal.ofBits FTy.f32 0x3FB504F3#32 * aX m c (ix2 a i) + ∑ k : Fin 1024, aS m c (ix2 a k) * aW m c (ix2 k i)
/-- Its normalisation. -/
def oo (c : Dev nD) (a : Fin 4096) (i : Fin 1024) : EReal := nrm Ple.len Ple.eps (zz m c a) i * aG m c (ix2 0 i) + aB m c (ix2 0 i)

/-- The first result, as an array. -/
def Gz (c : Dev nD) : S4096x1024.Idx → EReal := fun i => zz m c (i 0) (i 1)
/-- The second and third result, as an array. -/
def Go (c : Dev nD) : S4096x1024.Idx → EReal := fun i => oo m c (i 0) (i 1)

theorem z_pt (c : Dev nD) (t : Fin cfg0.N) (p : Fin 512) (q : Fin 1024) :
    k0_pay2 (iblk m c 0 t) (iblk m c 1 t) (iblk m c 2 t) (ix2 p q) = zz m c (tok t p) q := by
  rw [pay_z]
  simp only [in0, in1, in2]
  rfl
theorem o_pt (c : Dev nD) (t : Fin cfg0.N) (p : Fin 512) (q : Fin 1024) :
    k0_pay3 (iblk m c 0 t) (iblk m c 1 t) (iblk m c 2 t) (iblk m c 3 t) (iblk m c 4 t) (ix2 p q) = oo m c (tok t p) q := by
  rw [pay_xo]
  simp only [z_pt, in3, in4]
  rfl

/-- Result array 5. -/
theorem res5 (c : Dev nD) : (dats m 0 c).arrAt 5 cfg0.N = Gz m c := by
  refine (dats m 0 c).arrAt_eq_of_covers 5 _ (by decide +kernel) fun t hf y => ?_
  blk_simp
  rw [after0_5]
  frame_out
  change S512x1024.Idx at y
  idx_vars y
  refine (z_pt m c t _ _).trans (congrArg (Gz m c) (?_ : _ = ix2 (tok t y0) y1)).symm
  blk_ext [idx0 t]

/-- Result array 6. -/
theorem res6 (c : Dev nD) : (dats m 0 c).arrAt 6 cfg0.N = Go m c := by
  refine (dats m 0 c).arrAt_eq_of_covers 6 _ (by decide +kernel) fun t hf y => ?_
  blk_simp
  rw [after0_6]
  frame_out
  change S512x1024.Idx at y
  idx_vars y
  refine (o_pt m c t _ _).trans (congrArg (Go m c) (?_ : _ = ix2 (tok t y0) y1)).symm
  blk_ext [idx0 t]

/-- Result array 7. -/
theorem res7 (c : Dev nD) : (dats m 0 c).arrAt 7 cfg0.N = Go m c := by
  refine (dats m 0 c).arrAt_eq_of_covers 7 _ (by decide +kernel) fun t hf y => ?_
  blk_simp
  rw [after0_7]
  frame_out
  change S512x1024.Idx at y
  idx_vars y
  refine ((pay_xo16 _ _ _).trans (o_pt m c t _ _)).trans (congrArg (Go m c) (?_ : _ = ix2 (tok t y0) y1)).symm
  blk_ext [idx0 t]

end Cert.Kernel11Ideal.Block
-- ==== Proof.AttnOutClaim.lean ====
/- The attention output projection with its normalisation and its reference end holding the same arrays. -/
module

public import proofs.«01_k».proof.Defs
public import proofs.«01_k».proof.Proof.AttnOutValue
public import proofs.«01_k».proof.Proof.Gen.Reference11Ideal.Read
public import Idealize.ShloMosaic.Lib.Tactic

@[expose] public section

set_option maxRecDepth 16384

noncomputable section

namespace Cert.Proof

open Idealize.ShloMosaic Idealize.ShloMosaic.TcCoe Idealize.SL.Sem Cert.Kernel11Ideal.Block Cert.LayerNorm Cert.Reference11Ideal.Read

variable (m : (ℓ : Loc Cert.Kernel11Ideal.nD Cert.Kernel11Ideal.τ Cert.Kernel11Ideal.sig) → Buf (Elt Ideal) ℓ)

theorem attnOut_z (c : Dev Cert.Kernel11Ideal.nD) (a : Fin 4096) (i : Fin 1024) :
    (val_main_v3 (F := Ideal) (aS m c) (aW m c) (aX m c) : Cert.Kernel11Ideal.S4096x1024.Idx → EReal) (ix2 a i) = zz m c a i := by
  unfold val_main_v3 val_main_v2 val_main_v1 val_main_v0 val_main_cst zz
  pointwise

theorem attnOut_o (c : Dev Cert.Kernel11Ideal.nD) (a : Fin 4096) (i : Fin 1024) :
    (val_main_v25 (F := Ideal) (aS m c) (aW m c) (aX m c) (aG m c) (aB m c) : Cert.Kernel11Ideal.S4096x1024.Idx → EReal) (ix2 a i) = oo m c a i := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_cst_0 val_main_cst_1 val_main_cst_2 val_main_cst_3 val_main_cst_4 oo nrm rstd var cen mean
  simp only [← attnOut_z]
  generalize val_main_v3 (F := Ideal) (aS m c) (aW m c) (aX m c) = C
  pointwise

/-- The first results agree. -/
theorem attnOut_eq0 (c : Dev Cert.Kernel11Ideal.nD) : val_main_v3 (F := Ideal) (aS m c) (aW m c) (aX m c) = Gz m c := by
  funext i
  change Cert.Kernel11Ideal.S4096x1024.Idx at i
  idx_vars i
  exact attnOut_z ..

/-- The second results agree. -/
theorem attnOut_eq1 (c : Dev Cert.Kernel11Ideal.nD) : val_main_v25 (F := Ideal) (aS m c) (aW m c) (aX m c) (aG m c) (aB m c) = Go m c := by
  funext i
  change Cert.Kernel11Ideal.S4096x1024.Idx at i
  idx_vars i
  exact attnOut_o ..

/-- The third results agree. -/
theorem attnOut_eq2 (c : Dev Cert.Kernel11Ideal.nD) : val_main_v26 (F := Ideal) (aS m c) (aW m c) (aX m c) (aG m c) (aB m c) = Go m c := by
  rw [← attnOut_eq1]
  unfold val_main_v26
  generalize val_main_v25 (F := Ideal) (aS m c) (aW m c) (aX m c) (aG m c) (aB m c) = C
  funext i
  change Cert.Kernel11Ideal.S4096x1024.Idx at i
  idx_vars i
  pointwise

/-- The value claim of the attention output projection with its normalisation. -/
theorem attn_out : algebraic_Kernel11Ideal_Reference11Ideal := by
  intro m g m' g' _ hin
  refine ⟨fun c => Gz m c, fun c => Go m c, fun c => Go m c, ?_, ?_⟩
  · refine (θ_run Cert.Kernel11Ideal.defs _ _).mono (fun r h c => ?_) (Cert.Kernel11Ideal.Value.run_blocks m g)
    obtain ⟨h0, h1, h2, hk⟩ := h c
    exact ⟨h0.trans (res5 m c), h1.trans (res6 m c), h2.trans (res7 m c), hk⟩
  refine (θ_run Cert.Reference11Ideal.defs _ _).mono (fun r h c => ?_) (Cert.Reference11Ideal.Value.run m' g')
  obtain ⟨h0, h1, h2, hk⟩ := h c
  obtain ⟨e0, e1, e2, e3, e4⟩ := hin c
  refine ⟨?_, ?_, ?_, hk⟩
  · rw [h0, e0, e1, e2]
    exact (val_main_v3_eq ..).trans (attnOut_eq0 m c)
  · rw [h1, e0, e1, e2, e3, e4]
    exact (val_main_v25_eq ..).trans (attnOut_eq1 m c)
  · rw [h2, e0, e1, e2, e3, e4]
    exact (val_main_v26_eq ..).trans (attnOut_eq2 m c)

end Cert.Proof
-- ==== Proof.GateValue.lean ====
/- What the per-layer embedding's forward call leaves in its four result arrays. -/
module

public import proofs.«01_k».proof.Proof.Gen.Kernel12Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel12Ideal.Block

open Cert.Kernel12Ideal Cert.Kernel12Ideal.Gen Idealize.ShloMosaic Idealize.ShloMosaic.TcCoe Idealize.SL.Sem Cert.LayerNorm

variable (m : (ℓ : Loc nD τ sig) → Buf (Elt Ideal) ℓ)

/-- The embeddings. -/
abbrev aP (c : Dev nD) : S4096x256.Idx → EReal := m ((c : Thread nD τ).loc main_arg0)
/-- The projection. -/
abbrev aWp (c : Dev nD) : S256x1024.Idx → EReal := m ((c : Thread nD τ).loc main_arg1)
/-- The tokens. -/
abbrev aX (c : Dev nD) : S4096x1024.Idx → EReal := m ((c : Thread nD τ).loc main_arg2)
/-- The gate's weight. -/
abbrev aWg (c : Dev nD) : S1024x1024.Idx → EReal := m ((c : Thread nD τ).loc main_arg3)

theorem pay_p (x : Vec Ideal S512x256 .bf16) (W : Vec Ideal S1x256x1024 .bf16) (p : Fin 512) (q : Fin 1024) :
    k0_pay1 x W (ix2 p q) = ∑ k : Fin 256, x (ix2 p k) * W (ix3 0 k q) := by
  unfold k0_pay1
  pointwise

theorem pay_g (x : Vec Ideal S512x1024 .bf16) (W : Vec Ideal S1x1024x1024 .bf16) (p : Fin 512) (q : Fin 1024) :
    k0_pay2 x W (ix2 p q) = ∑ k : Fin 1024, x (ix2 p k) * W (ix3 0 k q) := by
  unfold k0_pay2
  pointwise

theorem pay_x (a : Vec Ideal S512x256 .bf16) (A : Vec Ideal S1x256x1024 .bf16) (x : Vec Ideal S512x1024 .bf16) (W : Vec Ideal S1x1024x1024 .bf16)
    (r : Vec Ideal S512x1024 .f32) (p : Fin 512) (q : Fin 1024) :
    k0_pay3 a A x W r (ix2 p q) = r (ix2 p q) + k0_pay1 a A (ix2 p q) * Ideal.div 1 (1 + Ideal.exp (-k0_pay2 x W (ix2 p q))) := by
  unfold k0_pay3
  generalize k0_pay1 a A = Y
  generalize k0_pay2 x W = Z
  pointwise
  rw [zero_sub]

theorem pay_p16 (a : Vec Ideal S512x256 .bf16) (A : Vec Ideal S1x256x1024 .bf16) (p : Fin 512) (q : Fin 1024) :
    k0_pay4 a A (ix2 p q) = k0_pay1 a A (ix2 p q) := by
  unfold k0_pay4
  generalize k0_pay1 a A = Y
  pointwise

theorem pay_g16 (x : Vec Ideal S512x1024 .bf16) (W : Vec Ideal S1x1024x1024 .bf16) (p : Fin 512) (q : Fin 1024) :
    k0_pay5 x W (ix2 p q) = k0_pay2 x W (ix2 p q) := by
  unfold k0_pay5
  generalize k0_pay2 x W = Z
  pointwise

theorem pay_x16 (a : Vec Ideal S512x256 .bf16) (A : Vec Ideal S1x256x1024 .bf16) (x : Vec Ideal S512x1024 .bf16) (W : Vec Ideal S1x1024x1024 .bf16)
    (r : Vec Ideal S512x1024 .f32) (p : Fin 512) (q : Fin 1024) :
    k0_pay6 a A x W r (ix2 p q) = k0_pay3 a A x W r (ix2 p q) := by
  unfold k0_pay6
  generalize k0_pay3 a A x W r = Z
  pointwise

/-- Which block of each window a point has. -/
theorem idx0 : ∀ t : Fin cfg0.N, win0_0.index t = ![t.val, 0] ∧ win0_1.index t = ![0, 0, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (a : Fin 4096) (b : Fin 256) :
    (V m c (Pipeline.arrRef spec0 0) : S4096x256.Idx → EReal) (ix2 a b) = aP m c (ix2 a b) := by
  unfold V
  entry_read
  pointwise
theorem in0 (c : Dev nD) (t : Fin cfg0.N) (p : Fin 512) (q : Fin 256) : iblk m c 0 t (ix2 p q) = aP m c (ix2 (tok t p) q) := by
  rw [← entry0]
  blk_ext [iblk, idx0 t]
theorem entry1 (c : Dev nD) (k : Fin 256) (q : Fin 1024) :
    (V m c (Pipeline.arrRef spec0 1) : S1x256x1024.Idx → EReal) (ix3 0 k q) = aWp m c (ix2 k q) := by
  unfold V
  entry_read
  pointwise
theorem in1 (c : Dev nD) (t : Fin cfg0.N) (k : Fin 256) (q : Fin 1024) : iblk m c 1 t (ix3 0 k q) = aWp m c (ix2 k q) := by
  rw [← entry1]
  blk_ext [iblk, idx0 t]
theorem entry2 (c : Dev nD) (a : Fin 4096) (b : Fin 1024) :
    (V m c (Pipeline.arrRef spec0 2) : S4096x1024.Idx → EReal) (ix2 a b) = aX m c (ix2 a b) := by
  unfold V
  entry_read
  pointwise
theorem in2 (c : Dev nD) (t : Fin cfg0.N) (p : Fin 512) (q : Fin 1024) : iblk m c 2 t (ix2 p q) = aX m c (ix2 (tok t p) q) := by
  rw [← entry2]
  blk_ext [iblk, idx0 t]
theorem entry3 (c : Dev nD) (k : Fin 1024) (q : Fin 1024) :
    (V m c (Pipeline.arrRef spec0 3) : S1x1024x1024.Idx → EReal) (ix3 0 k q) = aWg m c (ix2 k q) := by
  unfold V
  entry_read
  pointwise
theorem in3 (c : Dev nD) (t : Fin cfg0.N) (k : Fin 1024) (q : Fin 1024) : iblk m c 3 t (ix3 0 k q) = aWg m c (ix2 k q) := by
  rw [← entry3]
  blk_ext [iblk, idx0 t]
theorem in4 (c : Dev nD) (t : Fin cfg0.N) (p : Fin 512) (q : Fin 1024) : iblk m c 4 t (ix2 p q) = aX m c (ix2 (tok t p) q) := by
  blk_point [iblk, V, idx0 t]

/-- The projected embedding, as an array. -/
def G6 (c : Dev nD) : S4096x1024.Idx → EReal := fun i => ∑ k : Fin 256, aP m c (ix2 (i 0) k) * aWp m c (ix2 k (i 1))
/-- The gate before the logistic function, as an array. -/
def G7 (c : Dev nD) : S4096x1024.Idx → EReal := fun i => ∑ k : Fin 1024, aX m c (ix2 (i 0) k) * aWg m c (ix2 k (i 1))
/-- The token with the gated embedding added, as an array. -/
def G5 (c : Dev nD) : S4096x1024.Idx → EReal := fun i => aX m c i + G6 m c i * Ideal.div 1 (1 + Ideal.exp (-G7 m c i))

theorem p_pt (c : Dev nD) (t : Fin cfg0.N) (p : Fin 512) (q : Fin 1024) :
    k0_pay1 (iblk m c 0 t) (iblk m c 1 t) (ix2 p q) = G6 m c (ix2 (tok t p) q) := by
  rw [pay_p]
  simp only [in0, in1]
  rfl
theorem g_pt (c : Dev nD) (t : Fin cfg0.N) (p : Fin 512) (q : Fin 1024) :
    k0_pay2 (iblk m c 2 t) (iblk m c 3 t) (ix2 p q) = G7 m c (ix2 (tok t p) q) := by
  rw [pay_g]
  simp only [in2, in3]
  rfl
theorem x_pt (c : Dev nD) (t : Fin cfg0.N) (p : Fin 512) (q : Fin 1024) :
    k0_pay3 (iblk m c 0 t) (iblk m c 1 t) (iblk m c 2 t) (iblk m c 3 t) (iblk m c 4 t) (ix2 p q) = G5 m c (ix2 (tok t p) q) := by
  rw [pay_x, p_pt, g_pt, in4]
  rfl
theorem p16_pt (c : Dev nD) (t : Fin cfg0.N) (p : Fin 512) (q : Fin 1024) :
    k0_pay4 (iblk m c 0 t) (iblk m c 1 t) (ix2 p q) = G6 m c (ix2 (tok t p) q) := (pay_p16 ..).trans (p_pt ..)
theorem g16_pt (c : Dev nD) (t : Fin cfg0.N) (p : Fin 512) (q : Fin 1024) :
    k0_pay5 (iblk m c 2 t) (iblk m c 3 t) (ix2 p q) = G7 m c (ix2 (tok t p) q) := (pay_g16 ..).trans (g_pt ..)
theorem x16_pt (c : Dev nD) (t : Fin cfg0.N) (p : Fin 512) (q : Fin 1024) :
    k0_pay6 (iblk m c 0 t) (iblk m c 1 t) (iblk m c 2 t) (iblk m c 3 t) (iblk m c 4 t) (ix2 p q) = G5 m c (ix2 (tok t p) q) := (pay_x16 ..).trans (x_pt ..)

/-- Result array 5. -/
theorem res5 (c : Dev nD) : (dats m 0 c).arrAt 5 cfg0.N = G5 m c := by
  refine (dats m 0 c).arrAt_eq_of_covers 5 _ (by decide +kernel) fun t hf y => ?_
  blk_simp
  rw [after0_5]
  frame_out
  change S512x1024.Idx at y
  idx_vars y
  refine (x_pt m c t _ _).trans (congrArg (G5 m c) (?_ : _ = ix2 (tok t y0) y1)).symm
  blk_ext [idx0 t]

/-- Result array 6. -/
theorem res6 (c : Dev nD) : (dats m 0 c).arrAt 6 cfg0.N = G6 m c := by
  refine (dats m 0 c).arrAt_eq_of_covers 6 _ (by decide +kernel) fun t hf y => ?_
  blk_simp
  rw [after0_6]
  frame_out
  change S512x1024.Idx at y
  idx_vars y
  refine (p16_pt m c t _ _).trans (congrArg (G6 m c) (?_ : _ = ix2 (tok t y0) y1)).symm
  blk_ext [idx0 t]

/-- Result array 7. -/
theorem res7 (c : Dev nD) : (dats m 0 c).arrAt 7 cfg0.N = G7 m c := by
  refine (dats m 0 c).arrAt_eq_of_covers 7 _ (by decide +kernel) fun t hf y => ?_
  blk_simp
  rw [after0_7]
  frame_out
  change S512x1024.Idx at y
  idx_vars y
  refine (g16_pt m c t _ _).trans (congrArg (G7 m c) (?_ : _ = ix2 (tok t y0) y1)).symm
  blk_ext [idx0 t]

/-- Result array 8. -/
theorem res8 (c : Dev nD) : (dats m 0 c).arrAt 8 cfg0.N = G5 m c := by
  refine (dats m 0 c).arrAt_eq_of_covers 8 _ (by decide +kernel) fun t hf y => ?_
  blk_simp
  rw [after0_8]
  frame_out
  change S512x1024.Idx at y
  idx_vars y
  refine (x16_pt m c t _ _).trans (congrArg (G5 m c) (?_ : _ = ix2 (tok t y0) y1)).symm
  blk_ext [idx0 t]

end Cert.Kernel12Ideal.Block
-- ==== Proof.GateClaim.lean ====
/- The per-layer embedding's forward call and its reference end holding the same arrays. -/
module

public import proofs.«01_k».proof.Defs
public import proofs.«01_k».proof.Proof.GateValue
public import proofs.«01_k».proof.Proof.Gen.Reference12Ideal.Read
public import Idealize.ShloMosaic.Lib.Tactic

@[expose] public section

set_option maxRecDepth 16384

noncomputable section

namespace Cert.Proof

open Idealize.ShloMosaic Idealize.ShloMosaic.TcCoe Idealize.SL.Sem Cert.Kernel12Ideal.Block Cert.LayerNorm Cert.Reference12Ideal.Read

variable (m : (ℓ : Loc Cert.Kernel12Ideal.nD Cert.Kernel12Ideal.τ Cert.Kernel12Ideal.sig) → Buf (Elt Ideal) ℓ)

theorem gate_p (c : Dev Cert.Kernel12Ideal.nD) : val_main_v0 (F := Ideal) (aP m c) (aWp m c) = G6 m c := by
  funext i
  change Cert.Kernel12Ideal.S4096x1024.Idx at i
  idx_vars i
  unfold val_main_v0 G6
  pointwise

theorem gate_g (c : Dev Cert.Kernel12Ideal.nD) : val_main_v1 (F := Ideal) (aX m c) (aWg m c) = G7 m c := by
  funext i
  change Cert.Kernel12Ideal.S4096x1024.Idx at i
  idx_vars i
  unfold val_main_v1 G7
  pointwise

theorem gate_x (c : Dev Cert.Kernel12Ideal.nD) : val_main_v9 (F := Ideal) (aP m c) (aWp m c) (aX m c) (aWg m c) = G5 m c := by
  funext i
  change Cert.Kernel12Ideal.S4096x1024.Idx at i
  idx_vars i
  unfold val_main_v9 val_main_v8 val_main_v7 val_main_v6 val_main_cst_0 val_main_v5 val_main_v4 val_main_cst val_main_v3 val_main_v2 G5
  rw [gate_p, gate_g]
  generalize G6 m c = P
  generalize G7 m c = G
  pointwise

theorem gate_p16 (c : Dev Cert.Kernel12Ideal.nD) : val_main_v10 (F := Ideal) (aP m c) (aWp m c) = G6 m c := by
  funext i
  change Cert.Kernel12Ideal.S4096x1024.Idx at i
  idx_vars i
  unfold val_main_v10
  rw [gate_p]
  generalize G6 m c = P
  pointwise

theorem gate_g16 (c : Dev Cert.Kernel12Ideal.nD) : val_main_v11 (F := Ideal) (aX m c) (aWg m c) = G7 m c := by
  funext i
  change Cert.Kernel12Ideal.S4096x1024.Idx at i
  idx_vars i
  unfold val_main_v11
  rw [gate_g]
  generalize G7 m c = P
  pointwise

theorem gate_x16 (c : Dev Cert.Kernel12Ideal.nD) : val_main_v12 (F := Ideal) (aP m c) (aWp m c) (aX m c) (aWg m c) = G5 m c := by
  funext i
  change Cert.Kernel12Ideal.S4096x1024.Idx at i
  idx_vars i
  unfold val_main_v12
  rw [gate_x]
  generalize G5 m c = P
  pointwise

/-- The value claim of the per-layer embedding's forward call. -/
theorem ple_gate : algebraic_Kernel12Ideal_Reference12Ideal := by
  intro m g m' g' _ hin
  refine ⟨fun c => G5 m c, fun c => G6 m c, fun c => G7 m c, fun c => G5 m c, ?_, ?_⟩
  · refine (θ_run Cert.Kernel12Ideal.defs _ _).mono (fun r h c => ?_) (Cert.Kernel12Ideal.Value.run_blocks m g)
    obtain ⟨h0, h1, h2, h3, hk⟩ := h c
    exact ⟨h0.trans (res5 m c), h1.trans (res6 m c), h2.trans (res7 m c), h3.trans (res8 m c), hk⟩
  refine (θ_run Cert.Reference12Ideal.defs _ _).mono (fun r h c => ?_) (Cert.Reference12Ideal.Value.run m' g')
  obtain ⟨h0, h1, h2, h3, hk⟩ := h c
  obtain ⟨e0, e1, e2, e3⟩ := hin c
  refine ⟨?_, ?_, ?_, ?_, hk⟩
  · rw [h0, e0, e1, e2, e3]
    exact (val_main_v9_eq ..).trans (gate_x m c)
  · rw [h1, e0, e1]
    exact (val_main_v10_eq ..).trans (gate_p16 m c)
  · rw [h2, e2, e3]
    exact (val_main_v11_eq ..).trans (gate_g16 m c)
  · rw [h3, e0, e1, e2, e3]
    exact (val_main_v12_eq ..).trans (gate_x16 m c)

end Cert.Proof
-- ==== Proof.GluValue.lean ====
/- What the convolution block's input projection with its gate leaves in its three result arrays. -/
module

public import proofs.«01_k».proof.Proof.Gen.Kernel13Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel13Ideal.Block

open Cert.Kernel13Ideal Cert.Kernel13Ideal.Gen Idealize.ShloMosaic Idealize.ShloMosaic.TcCoe Idealize.SL.Sem Cert.LayerNorm

variable (m : (ℓ : Loc nD τ sig) → Buf (Elt Ideal) ℓ)

/-- The tokens. -/
abbrev aX (c : Dev nD) : S4096x1024.Idx → EReal := m ((c : Thread nD τ).loc main_arg0)
/-- The weight. -/
abbrev aW (c : Dev nD) : S1024x2048.Idx → EReal := m ((c : Thread nD τ).loc main_arg1)
/-- The bias. -/
abbrev aB (c : Dev nD) : S1x2048.Idx → EReal := m ((c : Thread nD τ).loc main_arg2)

/-- The projection. -/
def hh (c : Dev nD) (a : Fin 4096) (j : Fin 2048) : EReal := (∑ k : Fin 1024, aX m c (ix2 a k) * aW m c (ix2 k j)) + aB m c (ix2 0 j)

theorem pay4_lo (x : Vec Ideal S512x1024 .f32) (A B : Vec Ideal S1x1024x256 .bf16) (b : Vec Ideal S1x512 .f32) (p : Fin 512) (q : Fin 256) :
    k0_pay4 x A B b (ix2 p (⟨q.val, by omega⟩ : Fin 512)) = (∑ k : Fin 1024, x (ix2 p k) * A (ix3 0 k q)) + b (ix2 0 (⟨q.val, by omega⟩ : Fin 512)) := by
  unfold k0_pay4 k0_pay3
  pointwise

theorem pay4_hi (x : Vec Ideal S512x1024 .f32) (A B : Vec Ideal S1x1024x256 .bf16) (b : Vec Ideal S1x512 .f32) (p : Fin 512) (q : Fin 256) :
    k0_pay4 x A B b (ix2 p (⟨256 + q.val, by omega⟩ : Fin 512)) = (∑ k : Fin 1024, x (ix2 p k) * B (ix3 0 k q)) + b (ix2 0 (⟨256 + q.val, by omega⟩ : Fin 512)) := by
  unfold k0_pay4 k0_pay3
  pointwise

theorem pay5_lo (x : Vec Ideal S512x1024 .f32) (A B : Vec Ideal S1x1024x256 .bf16) (b : Vec Ideal S1x512 .f32) (p : Fin 512) (q : Fin 256) :
    k0_pay5 x A B b (ix2 p (⟨q.val, by omega⟩ : Fin 512)) = (∑ k : Fin 1024, x (ix2 p k) * A (ix3 0 k q)) + b (ix2 0 (⟨q.val, by omega⟩ : Fin 512)) := by
  unfold k0_pay5 k0_pay3
  pointwise

theorem pay5_hi (x : Vec Ideal S512x1024 .f32) (A B : Vec Ideal S1x1024x256 .bf16) (b : Vec Ideal S1x512 .f32) (p : Fin 512) (q : Fin 256) :
    k0_pay5 x A B b (ix2 p (⟨256 + q.val, by omega⟩ : Fin 512)) = (∑ k : Fin 1024, x (ix2 p k) * B (ix3 0 k q)) + b (ix2 0 (⟨256 + q.val, by omega⟩ : Fin 512)) := by
  unfold k0_pay5 k0_pay3
  pointwise

theorem pay_glu (x : Vec Ideal S512x1024 .f32) (A B C D : Vec Ideal S1x1024x256 .bf16) (a b : Vec Ideal S1x512 .f32) (p q : Fin 512) :
    k0_pay6 x A B a C D b (ix2 p q) = k0_pay4 x A B a (ix2 p q) * Ideal.div 1 (1 + Ideal.exp (-k0_pay5 x C D b (ix2 p q))) := by
  unfold k0_pay6
  generalize k0_pay4 x A B a = Y
  generalize k0_pay5 x C D b = Z
  pointwise
  rw [zero_sub]

theorem pay_a16 (y : Vec Ideal S512x512 .f32) (p q : Fin 512) : k0_pay1 (F := Ideal) y (ix2 p q) = y (ix2 p q) := by
  unfold k0_pay1
  pointwise

theorem pay_g16 (y : Vec Ideal S512x512 .f32) (p q : Fin 512) : k0_pay2 (F := Ideal) y (ix2 p q) = y (ix2 p q) := by
  unfold k0_pay2
  pointwise

/-- Which block of each window a point has. -/
theorem idx0 : ∀ t : Fin cfg0.N, win0_0.index t = ![t.val / 2, 0] ∧ win0_1.index t = ![t.val % 2, 0, 0] ∧ win0_2.index t = ![t.val % 2 + 2, 0, 0]
    ∧ win0_3.index t = ![0, t.val % 2] ∧ win0_4.index t = ![0, t.val % 2 + 2] ∧ win0_5.index t = ![t.val / 2, t.val % 2]
    ∧ win0_6.index t = ![t.val / 2, t.val % 2] ∧ win0_7.index t = ![t.val / 2, t.val % 2] := by decide +kernel

/-- The grid has sixteen points. -/
theorem tlt (t : Fin cfg0.N) : t.val < 16 := t.isLt
/-- Row `p` of the point's token tile. -/
abbrev row (t : Fin cfg0.N) (p : Fin 512) : Fin 4096 := ⟨t.val / 2 * 512 + p.val, by have := tlt t; omega⟩
/-- Column `q` of the point's tile of the gated half. -/
abbrev acol (t : Fin cfg0.N) (q : Fin 512) : Fin 2048 := ⟨t.val % 2 * 512 + q.val, by omega⟩
/-- Column `q` of the point's tile of the gate. -/
abbrev gcol (t : Fin cfg0.N) (q : Fin 512) : Fin 2048 := ⟨(t.val % 2 + 2) * 512 + q.val, by omega⟩

theorem in0 (c : Dev nD) (t : Fin cfg0.N) (p : Fin 512) (q : Fin 1024) : iblk m c 0 t (ix2 p q) = aX m c (ix2 (row t p) q) := by
  blk_point [iblk, V, idx0 t]
theorem in3 (c : Dev nD) (t : Fin cfg0.N) (q : Fin 512) : iblk m c 3 t (ix2 0 q) = aB m c (ix2 0 (acol t q)) := by
  blk_point [iblk, V, idx0 t]
theorem in4 (c : Dev nD) (t : Fin cfg0.N) (q : Fin 512) : iblk m c 4 t (ix2 0 q) = aB m c (ix2 0 (gcol t q)) := by
  blk_point [iblk, V, idx0 t]

theorem entry1 (c : Dev nD) (s : Fin 8) (q : Fin 1024) (k : Fin 256) :
    (V m c (Pipeline.arrRef spec0 1) : S8x1024x256.Idx → EReal) (ix3 s q k) = aW m c (ix2 q ⟨s.val * 256 + k.val, by omega⟩) := by
  unfold V
  entry_read
  pointwise
theorem in1 (c : Dev nD) (t : Fin cfg0.N) (e : Fin 2) (k : Fin 1024) (q : Fin 256) :
    iblk m c 1 t (ix3 e k q) = aW m c (ix2 k ⟨t.val % 2 * 512 + e.val * 256 + q.val, by omega⟩) := by
  have h := entry1 m c ⟨t.val % 2 * 2 + e.val, by omega⟩ k q
  refine Eq.trans ?_ (h.trans (congrArg (fun j => aW m c (ix2 k j)) (Fin.ext ?_)))
  · blk_ext [iblk, idx0 t]
  · show (t.val % 2 * 2 + e.val) * 256 + q.val = t.val % 2 * 512 + e.val * 256 + q.val
    omega
theorem ld1_lo (c : Dev nD) (t : Fin cfg0.N) (k : Fin 1024) (q : Fin 256) :
    View.ld (iblk m c 1 t) r0_1 (ix3 0 k q) = aW m c (ix2 k (acol t (⟨q.val, by omega⟩ : Fin 512))) := by
  refine Eq.trans ?_ ((in1 m c t 0 k q).trans (congrArg (fun j => aW m c (ix2 k j)) (Fin.ext ?_)))
  · generalize iblk m c 1 t = W
    unfold r0_1
    pointwise
  · show t.val % 2 * 512 + 0 * 256 + q.val = t.val % 2 * 512 + (q.val)
    omega
theorem ld1_hi (c : Dev nD) (t : Fin cfg0.N) (k : Fin 1024) (q : Fin 256) :
    View.ld (iblk m c 1 t) r0_2 (ix3 0 k q) = aW m c (ix2 k (acol t (⟨256 + q.val, by omega⟩ : Fin 512))) := by
  refine Eq.trans ?_ ((in1 m c t 1 k q).trans (congrArg (fun j => aW m c (ix2 k j)) (Fin.ext ?_)))
  · generalize iblk m c 1 t = W
    unfold r0_2
    pointwise
  · show t.val % 2 * 512 + 1 * 256 + q.val = t.val % 2 * 512 + (256 + q.val)
    omega

/-- The product of one point, read at an element of its tile. -/
theorem pt4 (c : Dev nD) (t : Fin cfg0.N) (p q : Fin 512) :
    k0_pay4 (iblk m c 0 t) (View.ld (iblk m c 1 t) r0_1) (View.ld (iblk m c 1 t) r0_2) (iblk m c 3 t) (ix2 p q) = hh m c (row t p) (acol t q) := by
  unfold hh
  rcases lt_or_ge q.val 256 with hl | hl
  · have h := pay4_lo (iblk m c 0 t) (View.ld (iblk m c 1 t) r0_1) (View.ld (iblk m c 1 t) r0_2) (iblk m c 3 t) p ⟨q.val, hl⟩
    refine h.trans (congrArg₂ (· + ·) (Finset.sum_congr rfl fun k _ => ?_) (in3 m c t q))
    rw [in0, ld1_lo]
  · have h := pay4_hi (iblk m c 0 t) (View.ld (iblk m c 1 t) r0_1) (View.ld (iblk m c 1 t) r0_2) (iblk m c 3 t) p ⟨q.val - 256, by omega⟩
    have e : q = (⟨256 + (q.val - 256), by omega⟩ : Fin 512) := Fin.ext (by show q.val = 256 + (q.val - 256); omega)
    rw [← e] at h
    refine h.trans (congrArg₂ (· + ·) (Finset.sum_congr rfl fun k _ => ?_) (in3 m c t q))
    rw [in0, ld1_hi, ← e]

theorem entry2 (c : Dev nD) (s : Fin 8) (q : Fin 1024) (k : Fin 256) :
    (V m c (Pipeline.arrRef spec0 2) : S8x1024x256.Idx → EReal) (ix3 s q k) = aW m c (ix2 q ⟨s.val * 256 + k.val, by omega⟩) := by
  unfold V
  entry_read
  pointwise
theorem in2 (c : Dev nD) (t : Fin cfg0.N) (e : Fin 2) (k : Fin 1024) (q : Fin 256) :
    iblk m c 2 t (ix3 e k q) = aW m c (ix2 k ⟨(t.val % 2 + 2) * 512 + e.val * 256 + q.val, by omega⟩) := by
  have h := entry2 m c ⟨(t.val % 2 + 2) * 2 + e.val, by omega⟩ k q
  refine Eq.trans ?_ (h.trans (congrArg (fun j => aW m c (ix2 k j)) (Fin.ext ?_)))
  · blk_ext [iblk, idx0 t]
  · show ((t.val % 2 + 2) * 2 + e.val) * 256 + q.val = (t.val % 2 + 2) * 512 + e.val * 256 + q.val
    omega
theorem ld2_lo (c : Dev nD) (t : Fin cfg0.N) (k : Fin 1024) (q : Fin 256) :
    View.ld (iblk m c 2 t) r0_1 (ix3 0 k q) = aW m c (ix2 k (gcol t (⟨q.val, by omega⟩ : Fin 512))) := by
  refine Eq.trans ?_ ((in2 m c t 0 k q).trans (congrArg (fun j => aW m c (ix2 k j)) (Fin.ext ?_)))
  · generalize iblk m c 2 t = W
    unfold r0_1
    pointwise
  · show (t.val % 2 + 2) * 512 + 0 * 256 + q.val = (t.val % 2 + 2) * 512 + (q.val)
    omega
theorem ld2_hi (c : Dev nD) (t : Fin cfg0.N) (k : Fin 1024) (q : Fin 256) :
    View.ld (iblk m c 2 t) r0_2 (ix3 0 k q) = aW m c (ix2 k (gcol t (⟨256 + q.val, by omega⟩ : Fin 512))) := by
  refine Eq.trans ?_ ((in2 m c t 1 k q).trans (congrArg (fun j => aW m c (ix2 k j)) (Fin.ext ?_)))
  · generalize iblk m c 2 t = W
    unfold r0_2
    pointwise
  · show (t.val % 2 + 2) * 512 + 1 * 256 + q.val = (t.val % 2 + 2) * 512 + (256 + q.val)
    omega

/-- The product of one point, read at an element of its tile. -/
theorem pt5 (c : Dev nD) (t : Fin cfg0.N) (p q : Fin 512) :
    k0_pay5 (iblk m c 0 t) (View.ld (iblk m c 2 t) r0_1) (View.ld (iblk m c 2 t) r0_2) (iblk m c 4 t) (ix2 p q) = hh m c (row t p) (gcol t q) := by
  unfold hh
  rcases lt_or_ge q.val 256 with hl | hl
  · have h := pay5_lo (iblk m c 0 t) (View.ld (iblk m c 2 t) r0_1) (View.ld (iblk m c 2 t) r0_2) (iblk m c 4 t) p ⟨q.val, hl⟩
    refine h.trans (congrArg₂ (· + ·) (Finset.sum_congr rfl fun k _ => ?_) (in4 m c t q))
    rw [in0, ld2_lo]
  · have h := pay5_hi (iblk m c 0 t) (View.ld (iblk m c 2 t) r0_1) (View.ld (iblk m c 2 t) r0_2) (iblk m c 4 t) p ⟨q.val - 256, by omega⟩
    have e : q = (⟨256 + (q.val - 256), by omega⟩ : Fin 512) := Fin.ext (by show q.val = 256 + (q.val - 256); omega)
    rw [← e] at h
    refine h.trans (congrArg₂ (· + ·) (Finset.sum_congr rfl fun k _ => ?_) (in4 m c t q))
    rw [in0, ld2_hi, ← e]

/-- The gated half, as an array. -/
def G6 (c : Dev nD) : S4096x1024.Idx → EReal := fun i => hh m c (i 0) ⟨(i 1).val, by have h : (i 1).val < 1024 := (i 1).isLt; omega⟩
/-- The gate before the logistic function, as an array. -/
def G7 (c : Dev nD) : S4096x1024.Idx → EReal := fun i => hh m c (i 0) ⟨1024 + (i 1).val, by have h : (i 1).val < 1024 := (i 1).isLt; omega⟩
/-- The gated product, as an array. -/
def G5 (c : Dev nD) : S4096x1024.Idx → EReal := fun i => G6 m c i * Ideal.div 1 (1 + Ideal.exp (-G7 m c i))

/-- Column `q` of the point's tile of each result. -/
abbrev col (t : Fin cfg0.N) (q : Fin 512) : Fin 1024 := ⟨t.val % 2 * 512 + q.val, by omega⟩

theorem a_pt (c : Dev nD) (t : Fin cfg0.N) (p q : Fin 512) :
    k0_pay4 (iblk m c 0 t) (View.ld (iblk m c 1 t) r0_1) (View.ld (iblk m c 1 t) r0_2) (iblk m c 3 t) (ix2 p q) = G6 m c (ix2 (row t p) (col t q)) :=
  pt4 m c t p q
theorem g_pt (c : Dev nD) (t : Fin cfg0.N) (p q : Fin 512) :
    k0_pay5 (iblk m c 0 t) (View.ld (iblk m c 2 t) r0_1) (View.ld (iblk m c 2 t) r0_2) (iblk m c 4 t) (ix2 p q) = G7 m c (ix2 (row t p) (col t q)) :=
  (pt5 m c t p q).trans (congrArg (hh m c (row t p)) (Fin.ext (by show (t.val % 2 + 2) * 512 + q.val = 1024 + (t.val % 2 * 512 + q.val); omega)))
theorem o_pt (c : Dev nD) (t : Fin cfg0.N) (p q : Fin 512) :
    k0_pay6 (iblk m c 0 t) (View.ld (iblk m c 1 t) r0_1) (View.ld (iblk m c 1 t) r0_2) (iblk m c 3 t) (View.ld (iblk m c 2 t) r0_1) (View.ld (iblk m c 2 t) r0_2) (iblk m c 4 t) (ix2 p q)
      = G5 m c (ix2 (row t p) (col t q)) := by
  rw [pay_glu, a_pt, g_pt]
  rfl
theorem a16_pt (c : Dev nD) (t : Fin cfg0.N) (p q : Fin 512) :
    k0_pay1 (k0_pay4 (iblk m c 0 t) (View.ld (iblk m c 1 t) r0_1) (View.ld (iblk m c 1 t) r0_2) (iblk m c 3 t)) (ix2 p q) = G6 m c (ix2 (row t p) (col t q)) :=
  (pay_a16 _ _ _).trans (a_pt ..)
theorem g16_pt (c : Dev nD) (t : Fin cfg0.N) (p q : Fin 512) :
    k0_pay2 (k0_pay5 (iblk m c 0 t) (View.ld (iblk m c 2 t) r0_1) (View.ld (iblk m c 2 t) r0_2) (iblk m c 4 t)) (ix2 p q) = G7 m c (ix2 (row t p) (col t q)) :=
  (pay_g16 _ _ _).trans (g_pt ..)

/-- Result array 5. -/
theorem res5 (c : Dev nD) : (dats m 0 c).arrAt 5 cfg0.N = G5 m c := by
  refine (dats m 0 c).arrAt_eq_of_covers 5 _ (by decide +kernel) fun t hf y => ?_
  blk_simp
  rw [after0_5]
  frame_out
  change S512x512.Idx at y
  idx_vars y
  refine (o_pt m c t _ _).trans (congrArg (G5 m c) (?_ : _ = ix2 (row t y0) (col t y1))).symm
  blk_ext [idx0 t]

/-- Result array 6. -/
theorem res6 (c : Dev nD) : (dats m 0 c).arrAt 6 cfg0.N = G6 m c := by
  refine (dats m 0 c).arrAt_eq_of_covers 6 _ (by decide +kernel) fun t hf y => ?_
  blk_simp
  rw [after0_6]
  frame_out
  change S512x512.Idx at y
  idx_vars y
  refine (a16_pt m c t _ _).trans (congrArg (G6 m c) (?_ : _ = ix2 (row t y0) (col t y1))).symm
  blk_ext [idx0 t]

/-- Result array 7. -/
theorem res7 (c : Dev nD) : (dats m 0 c).arrAt 7 cfg0.N = G7 m c := by
  refine (dats m 0 c).arrAt_eq_of_covers 7 _ (by decide +kernel) fun t hf y => ?_
  blk_simp
  rw [after0_7]
  frame_out
  change S512x512.Idx at y
  idx_vars y
  refine (g16_pt m c t _ _).trans (congrArg (G7 m c) (?_ : _ = ix2 (row t y0) (col t y1))).symm
  blk_ext [idx0 t]

end Cert.Kernel13Ideal.Block
-- ==== Proof.GluClaim.lean ====
/- The convolution block's gated input projection and its reference end holding the same arrays. -/
module

public import proofs.«01_k».proof.Defs
public import proofs.«01_k».proof.Proof.GluValue
public import proofs.«01_k».proof.Proof.Gen.Reference13Ideal.Read
public import Idealize.ShloMosaic.Lib.Tactic

@[expose] public section

set_option maxRecDepth 16384

noncomputable section

namespace Cert.Proof

open Idealize.ShloMosaic Idealize.ShloMosaic.TcCoe Idealize.SL.Sem Cert.Kernel13Ideal.Block Cert.LayerNorm Cert.Reference13Ideal.Read

variable (m : (ℓ : Loc Cert.Kernel13Ideal.nD Cert.Kernel13Ideal.τ Cert.Kernel13Ideal.sig) → Buf (Elt Ideal) ℓ)

theorem glu_h (c : Dev Cert.Kernel13Ideal.nD) (a : Fin 4096) (j : Fin 2048) :
    (val_main_v2 (F := Ideal) (aX m c) (aW m c) (aB m c) : Cert.Reference13Ideal.S4096x2048.Idx → EReal) (ix2 a j) = hh m c a j := by
  unfold val_main_v2 val_main_v1 val_main_v0 hh
  pointwise

theorem glu_a (c : Dev Cert.Kernel13Ideal.nD) : val_main_v3 (F := Ideal) (aX m c) (aW m c) (aB m c) = G6 m c := by
  funext i
  change Cert.Kernel13Ideal.S4096x1024.Idx at i
  idx_vars i
  refine Eq.trans ?_ (glu_h m c i0 ⟨i1.val, by omega⟩)
  unfold val_main_v3
  generalize val_main_v2 (F := Ideal) (aX m c) (aW m c) (aB m c) = C
  pointwise

theorem glu_g (c : Dev Cert.Kernel13Ideal.nD) : val_main_v4 (F := Ideal) (aX m c) (aW m c) (aB m c) = G7 m c := by
  funext i
  change Cert.Kernel13Ideal.S4096x1024.Idx at i
  idx_vars i
  refine Eq.trans ?_ (glu_h m c i0 ⟨1024 + i1.val, by omega⟩)
  unfold val_main_v4
  generalize val_main_v2 (F := Ideal) (aX m c) (aW m c) (aB m c) = C
  pointwise

theorem glu_o (c : Dev Cert.Kernel13Ideal.nD) : val_main_v11 (F := Ideal) (aX m c) (aW m c) (aB m c) = G5 m c := by
  funext i
  change Cert.Kernel13Ideal.S4096x1024.Idx at i
  idx_vars i
  unfold val_main_v11 val_main_v10 val_main_v9 val_main_cst_0 val_main_v8 val_main_v7 val_main_cst val_main_v6 val_main_v5 G5
  rw [glu_a, glu_g]
  generalize G6 m c = P
  generalize G7 m c = G
  pointwise

theorem glu_a16 (c : Dev Cert.Kernel13Ideal.nD) : val_main_v12 (F := Ideal) (aX m c) (aW m c) (aB m c) = G6 m c := by
  funext i
  change Cert.Kernel13Ideal.S4096x1024.Idx at i
  idx_vars i
  unfold val_main_v12
  rw [glu_a]
  generalize G6 m c = P
  pointwise

theorem glu_g16 (c : Dev Cert.Kernel13Ideal.nD) : val_main_v13 (F := Ideal) (aX m c) (aW m c) (aB m c) = G7 m c := by
  funext i
  change Cert.Kernel13Ideal.S4096x1024.Idx at i
  idx_vars i
  unfold val_main_v13
  rw [glu_g]
  generalize G7 m c = P
  pointwise

/-- The value claim of the convolution block's gated input projection. -/
theorem conv_glu : algebraic_Kernel13Ideal_Reference13Ideal := by
  intro m g m' g' _ hin
  refine ⟨fun c => G5 m c, fun c => G6 m c, fun c => G7 m c, ?_, ?_⟩
  · refine (θ_run Cert.Kernel13Ideal.defs _ _).mono (fun r h c => ?_) (Cert.Kernel13Ideal.Value.run_blocks m g)
    obtain ⟨h0, h1, h2, hk⟩ := h c
    exact ⟨h0.trans (res5 m c), h1.trans (res6 m c), h2.trans (res7 m c), hk⟩
  refine (θ_run Cert.Reference13Ideal.defs _ _).mono (fun r h c => ?_) (Cert.Reference13Ideal.Value.run m' g')
  obtain ⟨h0, h1, h2, hk⟩ := h c
  obtain ⟨e0, e1, e2⟩ := hin c
  refine ⟨?_, ?_, ?_, hk⟩
  · rw [h0, e0, e1, e2]
    exact (val_main_v11_eq ..).trans (glu_o m c)
  · rw [h1, e0, e1, e2]
    exact (val_main_v12_eq ..).trans (glu_a16 m c)
  · rw [h2, e0, e1, e2]
    exact (val_main_v13_eq ..).trans (glu_g16 m c)

end Cert.Proof
-- ==== Proof.RopeSpec.lean ====
/- The rotary tables and the rotation of the first lanes of every head, read lane by lane. -/
module

public import Idealize.ShloMosaic.Lib.Pointwise
public import Idealize.ShloMosaic.Lib.Tactic

@[expose] public section

noncomputable section

namespace Cert.Rope

open Idealize.ShloMosaic

/-- The angle of token `a` at frequency `r`. -/
def angle (a r : ℕ) : EReal :=
  (FloatOps.sitofp FTy.f32 (BitVec.ofNat 32 a) : Ideal FTy.f32) *
    Ideal.pow (Ideal.ofBits FTy.f32 1223959552#32)
      (Ideal.div (-(Ideal.ofBits FTy.f32 1073741824#32 * (FloatOps.sitofp FTy.f32 (BitVec.ofNat 32 r) : Ideal FTy.f32)))
        (Ideal.ofBits FTy.f32 1098907648#32))

/-- The cosine table. -/
def co (a r : ℕ) : EReal := Ideal.cos (angle a r)
/-- The sine table. -/
def si (a r : ℕ) : EReal := Ideal.sin (angle a r)

/-- The factor of a lane itself. -/
def tabC (a l : ℕ) : EReal := if l % 64 < 8 then co a (l % 64) else if l % 64 - 8 < 8 then co a (l % 64 - 8) else 1
/-- The factor of the lane eight above. -/
def tabU (a l : ℕ) : EReal := if l % 64 < 8 then -si a (l % 64) else 0
/-- The factor of the lane eight below. -/
def tabD (a l : ℕ) : EReal := if l % 64 < 8 then 0 else if l % 64 - 8 < 8 then si a (l % 64 - 8) else 0

/-- The rotation of row `a`, at lane `j`. -/
def fwd (X : ℕ → EReal) (a j : ℕ) : EReal :=
  if j % 64 < 8 then X j * co a (j % 64) + X (j + 8) * -si a (j % 64)
  else if j % 64 < 16 then X j * co a (j % 64 - 8) + X (j - 8) * si a (j % 64 - 8) else X j

/-- The rotation's gradient in row `a`, at lane `j`. -/
def back (X : ℕ → EReal) (a j : ℕ) : EReal :=
  if j % 64 < 8 then X j * co a (j % 64) + X (j + 8) * si a (j % 64)
  else if j % 64 < 16 then X j * co a (j % 64 - 8) + X (j - 8) * -si a (j % 64 - 8) else X j

/-- A row as a function of any number, zero past its end. -/
def lane {n : ℕ} (f : Fin n → EReal) (k : ℕ) : EReal := if h : k < n then f ⟨k, h⟩ else 0

theorem lane_mk {n : ℕ} (f : Fin n → EReal) (k : ℕ) (h : k < n) : lane f k = f ⟨k, h⟩ := by
  unfold lane
  rw [dif_pos h]

/-- The gradient computed by shifts of a slab of 128 lanes that begins at lane `o`. -/
theorem back_lane (X : ℕ → EReal) (a o l : ℕ) (ho : o % 64 = 0) (hl : l < 128) :
    X (o + l) * tabC a l + X (o + (l + 128 - 8) % 128) * tabU a ((l + 128 - 8) % 128)
      + X (o + (l + 128 - 120) % 128) * tabD a ((l + 128 - 120) % 128) = back X a (o + l) := by
  unfold back tabC
  have e : (o + l) % 64 = l % 64 := by omega
  rw [e]
  by_cases h8 : l % 64 < 8
  · rw [if_pos h8, if_pos h8]
    have u : tabU a ((l + 128 - 8) % 128) = 0 := by unfold tabU; rw [if_neg (by omega)]
    have d : tabD a ((l + 128 - 120) % 128) = si a (l % 64) := by
      unfold tabD
      rw [if_neg (by omega), if_pos (by omega)]
      exact congrArg (si a) (by omega)
    rw [u, d, mul_zero, add_zero, show o + (l + 128 - 120) % 128 = o + l + 8 by omega]
  · rw [if_neg h8, if_neg h8]
    have d : tabD a ((l + 128 - 120) % 128) = 0 := by
      unfold tabD
      split
      · rfl
      · rw [if_neg (by omega)]
    by_cases h16 : l % 64 < 16
    · rw [if_pos (by omega), if_pos h16]
      have u : tabU a ((l + 128 - 8) % 128) = -si a (l % 64 - 8) := by
        unfold tabU
        rw [if_pos (by omega)]
        exact congrArg (fun r => -si a r) (by omega)
      rw [u, d, mul_zero, add_zero, show o + (l + 128 - 8) % 128 = o + l - 8 by omega]
    · rw [if_neg (by omega), if_neg h16]
      have u : tabU a ((l + 128 - 8) % 128) = 0 := by unfold tabU; rw [if_neg (by omega)]
      rw [u, d, mul_zero, mul_zero, add_zero, add_zero, mul_one]

/-- The rotation computed by shifts of a slab of 128 lanes that begins at lane `o`. -/
theorem fwd_lane (X : ℕ → EReal) (a o l : ℕ) (ho : o % 64 = 0) (hl : l < 128) :
    X (o + l) * tabC a l + X (o + (l + 128 - 120) % 128) * tabU a l
      + X (o + (l + 128 - 8) % 128) * tabD a l = fwd X a (o + l) := by
  unfold fwd tabC tabU tabD
  have e : (o + l) % 64 = l % 64 := by omega
  rw [e]
  by_cases h8 : l % 64 < 8
  · simp only [if_pos h8, mul_zero, add_zero]
    rw [show o + (l + 128 - 120) % 128 = o + l + 8 by omega]
  · simp only [if_neg h8]
    by_cases h16 : l % 64 < 16
    · simp only [if_pos (show l % 64 - 8 < 8 by omega), if_pos h16, mul_zero, add_zero]
      rw [show o + (l + 128 - 8) % 128 = o + l - 8 by omega]
    · simp only [if_neg (show ¬ l % 64 - 8 < 8 by omega), if_neg h16, mul_zero, add_zero, mul_one]

end Cert.Rope

end
-- ==== Proof.AttnDxValue.lean ====
/- What the input gradient of the projections to queries, keys and values leaves in its two result arrays. -/
module

public import proofs.«01_k».proof.Proof.Gen.Kernel14Ideal.Value
public import proofs.«01_k».proof.Proof.PleSpec
public import Idealize.ShloMosaic.Lib.StableHlo.RunRead
public import proofs.«01_k».proof.Proof.RopeSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel14Ideal.Block

open Cert.Kernel14Ideal Cert.Kernel14Ideal.Gen Idealize.ShloMosaic Idealize.ShloMosaic.TcCoe Idealize.SL.Sem Cert.LayerNorm

variable (m : (ℓ : Loc nD τ sig) → Buf (Elt Ideal) ℓ)

/-- The tokens the projections took. -/
abbrev aX (c : Dev nD) : S4096x1024.Idx → EReal := m ((c : Thread nD τ).loc main_arg0)
/-- The weight of the queries. -/
abbrev aWq (c : Dev nD) : S1024x1024.Idx → EReal := m ((c : Thread nD τ).loc main_arg1)
/-- The weight of the keys. -/
abbrev aWk (c : Dev nD) : S1024x256.Idx → EReal := m ((c : Thread nD τ).loc main_arg2)
/-- The weight of the values. -/
abbrev aWv (c : Dev nD) : S1024x256.Idx → EReal := m ((c : Thread nD τ).loc main_arg3)
/-- The cotangent of the residual sum. -/
abbrev aZ (c : Dev nD) : S4096x1024.Idx → EReal := m ((c : Thread nD τ).loc main_arg4)
/-- The cotangent of the projected queries. -/
abbrev aQ (c : Dev nD) : S4096x1024.Idx → EReal := m ((c : Thread nD τ).loc main_arg5)
/-- The cotangent of the rotated keys. -/
abbrev aK (c : Dev nD) : S4096x256.Idx → EReal := m ((c : Thread nD τ).loc main_arg6)
/-- The cotangent of the values. -/
abbrev aV (c : Dev nD) : S4096x256.Idx → EReal := m ((c : Thread nD τ).loc main_arg7)

/-- The cotangent of the projected keys: the rotation's gradient in row `a`, at lane `j`. -/
def dkr (c : Dev nD) (a : Fin 4096) (j : ℕ) : EReal := Rope.back (Rope.lane fun k : Fin 256 => aK m c (ix2 a k)) a j
/-- The three weights side by side. -/
def wqkv (c : Dev nD) (q : Fin 1024) (k : Fin 1536) : EReal :=
  if h : k.val < 1024 then aWq m c (ix2 q ⟨k.val, h⟩)
  else if h2 : k.val - 1024 < 256 then aWk m c (ix2 q ⟨k.val - 1024, h2⟩)
  else aWv m c (ix2 q ⟨k.val - 1024 - 256, by omega⟩)
/-- The three cotangents side by side. -/
def dqkv (c : Dev nD) (a : Fin 4096) (k : Fin 1536) : EReal :=
  if h : k.val < 1024 then aQ m c (ix2 a ⟨k.val, h⟩)
  else if h2 : k.val - 1024 < 256 then dkr m c a (k.val - 1024)
  else aV m c (ix2 a ⟨k.val - 1024 - 256, by omega⟩)

/-- The gradient with respect to the tokens, as an array. -/
def G8 (c : Dev nD) : S4096x1024.Idx → EReal := fun i =>
  (∑ k : Fin 1536, dqkv m c (i 0) k * wqkv m c (i 1) k) + Ideal.ofBits FTy.f32 0x3FB504F3#32 * aZ m c (ix2 (i 0) (i 1))
/-- The gradient with respect to the three weights, as an array. -/
def G9 (c : Dev nD) : S1x1024x1536.Idx → EReal := fun i => ∑ a : Fin 4096, aX m c (ix2 a (i 1)) * dqkv m c a (i 2)

/-- The point before. -/
abbrev prev (c : Dev nD) (t : Fin cfg0.N) := outsAt0 m c (t.val - 1) (Nat.lt_of_le_of_lt (Nat.sub_le _ _) t.isLt)

/-- The point's key half of the joined cotangent. -/
abbrev kHalf (c : Dev nD) (t : Fin cfg0.N) : Vec Ideal S512x256 .f32 :=
  View.ld (iblk m c 3 t) (Rect.unit ![0, 0] ![512, 256] inb_S512x512_S512x256_0_0)
/-- The point's value half of the joined cotangent. -/
abbrev vHalf (c : Dev nD) (t : Fin cfg0.N) : Vec Ideal S512x256 .f32 :=
  View.ld (iblk m c 3 t) (Rect.unit ![0, 256] ![512, 256] inb_S512x512_S512x256_0_256)
/-- The point's rows of the three cotangents side by side. -/
abbrev rows (c : Dev nD) (t : Fin cfg0.N) : Vec Ideal S512x1536 .bf16 :=
  k0_pay6 (kHalf m c t) (iblk m c 4 t) (iblk m c 5 t) (iblk m c 6 t) (iblk m c 2 t) (vHalf m c t)
/-- The point's product with the weights. -/
abbrev prod (c : Dev nD) (t : Fin cfg0.N) : Vec Ideal S512x1024 .f32 :=
  k0_pay7 (kHalf m c t) (iblk m c 4 t) (iblk m c 5 t) (iblk m c 6 t) (iblk m c 2 t) (vHalf m c t) (iblk m c 0 t)

/-- What the first point leaves. -/
theorem outs_A (c : Dev nD) (t : Fin cfg0.N) (h : t.val = 0) :
    (outsAt0 m c t.val t.isLt).1 = k0_pay1 (prod m c t) (iblk m c 1 t)
      ∧ (outsAt0 m c t.val t.isLt).2.2 = k0_pay3 (rows m c t) (iblk m c 7 t) := by
  rw [outsAt0_A m c t (by omega) (by omega) (by omega)]
  frame_out
  exact ⟨rfl, rfl⟩

/-- What a middle point leaves. -/
theorem outs_B (c : Dev nD) (t : Fin cfg0.N) (h : t.val ≠ 0) (h7 : t.val ≠ 7) :
    (outsAt0 m c t.val t.isLt).1 = k0_pay1 (prod m c t) (iblk m c 1 t)
      ∧ (outsAt0 m c t.val t.isLt).2.2 = k0_pay4 (rows m c t) (iblk m c 7 t) (prev m c t).2.2 := by
  have : t.val < 8 := t.isLt
  rw [outsAt0_B m c t (by omega) (by omega) (by omega)]
  frame_out
  simp only [read_unread_whole]
  exact ⟨rfl, rfl⟩

/-- What the last point leaves. -/
theorem outs_C (c : Dev nD) (t : Fin cfg0.N) (h7 : t.val = 7) :
    (outsAt0 m c t.val t.isLt).1 = k0_pay1 (prod m c t) (iblk m c 1 t)
      ∧ (outsAt0 m c t.val t.isLt).2.2 = k0_pay4 (rows m c t) (iblk m c 7 t) (prev m c t).2.2
      ∧ (outsAt0 m c t.val t.isLt).2.1 = k0_pay5 (k0_pay4 (rows m c t) (iblk m c 7 t) (prev m c t).2.2) := by
  rw [outsAt0_C m c t (by omega) (by omega) (by omega)]
  frame_out
  simp only [read_unread_whole]
  exact ⟨rfl, rfl, rfl⟩

/-- The joined rows at an index: the key part is the rotation's gradient when the tables hold the rotary factors. -/
theorem pay_rows (x0 v : Vec Ideal S512x256 .f32) (C U D : Vec Ideal S512x128 .f32) (z : Vec Ideal S512x1024 .bf16)
    (a : ℕ) (p : Fin 512) (X : ℕ → EReal) (hx : ∀ (k : ℕ) (h : k < 256), x0 (ix2 p ⟨k, h⟩) = X k)
    (hC : ∀ (l : ℕ) (h : l < 128), C (ix2 p ⟨l, h⟩) = Rope.tabC a l)
    (hU : ∀ (l : ℕ) (h : l < 128), U (ix2 p ⟨l, h⟩) = Rope.tabU a l)
    (hD : ∀ (l : ℕ) (h : l < 128), D (ix2 p ⟨l, h⟩) = Rope.tabD a l) (k : Fin 1536) :
    k0_pay6 x0 C U D z v (ix2 p k) = if h : k.val < 1024 then z (ix2 p ⟨k.val, h⟩)
      else if h2 : k.val - 1024 < 256 then Rope.back X a (k.val - 1024)
      else v (ix2 p ⟨k.val - 1024 - 256, by omega⟩) := by
  unfold k0_pay6
  pointwise
  simp only [hx, hC, hU, hD]
  split
  · rfl
  · split
    · split
      · have e := Rope.back_lane X a 0 (k.val - 1024) (by omega) (by omega)
        simp only [zero_add] at e
        exact e
      · have e := Rope.back_lane X a 128 (k.val - 1024 - 128) (by omega) (by omega)
        rw [e]
        exact congrArg (Rope.back X a) (by omega)
    · rfl

theorem pay_dx (x0 v : Vec Ideal S512x256 .f32) (C U D : Vec Ideal S512x128 .f32) (z : Vec Ideal S512x1024 .bf16)
    (W : Vec Ideal S1x1024x1536 .bf16) (d : Vec Ideal S512x1024 .f32) (p : Fin 512) (q : Fin 1024) :
    k0_pay1 (k0_pay7 x0 C U D z v W) d (ix2 p q) =
      (∑ k : Fin 1536, k0_pay6 x0 C U D z v (ix2 p k) * W (ix3 0 q k)) + Ideal.ofBits FTy.f32 0x3FB504F3#32 * d (ix2 p q) := by
  unfold k0_pay1 k0_pay7
  generalize k0_pay6 (F := Ideal) x0 C U D z v = Y
  pointwise

theorem pay_dw_first (y : Vec Ideal S512x1536 .bf16) (o : Vec Ideal S512x1024 .bf16) (p : Fin 1024) (q : Fin 1536) :
    k0_pay3 y o (ix2 p q) = ∑ k : Fin 512, o (ix2 k p) * y (ix2 k q) := by
  unfold k0_pay3 k0_pay2
  pointwise

theorem pay_dw (y : Vec Ideal S512x1536 .bf16) (o : Vec Ideal S512x1024 .bf16) (s : Vec Ideal S1024x1536 .f32) (p : Fin 1024) (q : Fin 1536) :
    k0_pay4 y o s (ix2 p q) = s (ix2 p q) + ∑ k : Fin 512, o (ix2 k p) * y (ix2 k q) := by
  unfold k0_pay4 k0_pay2
  pointwise

theorem pay_dw_out (s : Vec Ideal S1024x1536 .f32) (p : Fin 1024) (q : Fin 1536) : k0_pay5 (F := Ideal) s (ix3 0 p q) = s (ix2 p q) := by
  unfold k0_pay5
  pointwise

/-- Which block of each window a point has. -/
theorem idx0 : ∀ t : Fin cfg0.N, win0_0.index t = ![0, 0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (q : Fin 1024) (k : Fin 1536) :
    (V m c main_v38 : S1x1024x1536.Idx → EReal) (ix3 0 q k) = wqkv m c q k := by
  unfold V
  after_reads_simp
  pointwise
  after_reads_simp
  pointwise
  rfl
theorem entry2 (c : Dev nD) (a : Fin 4096) (b : Fin 1024) :
    (V m c main_v40 : S4096x1024.Idx → EReal) (ix2 a b) = aQ m c (ix2 a b) := by
  unfold V
  after_reads_simp
  pointwise
theorem entry3 (c : Dev nD) (a : Fin 4096) (b : Fin 512) :
    (V m c main_v41 : S4096x512.Idx → EReal) (ix2 a b) =
      if h : b.val < 256 then aK m c (ix2 a ⟨b.val, h⟩) else aV m c (ix2 a ⟨b.val - 256, by omega⟩) := by
  unfold V
  after_reads_simp
  pointwise
  try after_reads_simp
  try rfl
theorem entry4 (c : Dev nD) (a : Fin 4096) (l : Fin 128) :
    (V m c main_v27 : S4096x128.Idx → EReal) (ix2 a l) = Rope.tabC a l := by
  unfold V
  after_reads_simp
  pointwise
  after_reads_simp
  pointwise
  unfold Rope.tabC Rope.co Rope.angle
  rfl
theorem entry5 (c : Dev nD) (a : Fin 4096) (l : Fin 128) :
    (V m c main_v30 : S4096x128.Idx → EReal) (ix2 a l) = Rope.tabU a l := by
  unfold V
  after_reads_simp
  pointwise
  after_reads_simp
  pointwise
  unfold Rope.tabU Rope.si Rope.angle
  split
  · rfl
  · split <;> rfl
theorem entry6 (c : Dev nD) (a : Fin 4096) (l : Fin 128) :
    (V m c main_v33 : S4096x128.Idx → EReal) (ix2 a l) = Rope.tabD a l := by
  unfold V
  after_reads_simp
  pointwise
  after_reads_simp
  pointwise
  unfold Rope.tabD Rope.si Rope.angle
  split
  · rfl
  · split <;> rfl
theorem entry7 (c : Dev nD) (a : Fin 4096) (b : Fin 1024) :
    (V m c main_v39 : S4096x1024.Idx → EReal) (ix2 a b) = aX m c (ix2 a b) := by
  unfold V
  after_reads_simp
  pointwise

theorem in0 (c : Dev nD) (t : Fin cfg0.N) (q : Fin 1024) (k : Fin 1536) : iblk m c 0 t (ix3 0 q k) = wqkv m c q k := by
  rw [← entry0]
  blk_ext [iblk, idx0 t]
theorem in1 (c : Dev nD) (t : Fin cfg0.N) (p : Fin 512) (q : Fin 1024) : iblk m c 1 t (ix2 p q) = aZ m c (ix2 (tok t p) q) := by
  blk_point [iblk, V, idx0 t]
theorem in2 (c : Dev nD) (t : Fin cfg0.N) (p : Fin 512) (q : Fin 1024) : iblk m c 2 t (ix2 p q) = aQ m c (ix2 (tok t p) q) := by
  rw [← entry2]
  blk_ext [iblk, idx0 t]
theorem in3 (c : Dev nD) (t : Fin cfg0.N) (p : Fin 512) (b : Fin 512) : iblk m c 3 t (ix2 p b) =
    if h : b.val < 256 then aK m c (ix2 (tok t p) ⟨b.val, h⟩) else aV m c (ix2 (tok t p) ⟨b.val - 256, by omega⟩) := by
  rw [← entry3]
  blk_ext [iblk, idx0 t]
theorem in4 (c : Dev nD) (t : Fin cfg0.N) (p : Fin 512) (l : Fin 128) : iblk m c 4 t (ix2 p l) = Rope.tabC (tok t p) l := by
  rw [← entry4 m c]
  blk_ext [iblk, idx0 t]
theorem in5 (c : Dev nD) (t : Fin cfg0.N) (p : Fin 512) (l : Fin 128) : iblk m c 5 t (ix2 p l) = Rope.tabU (tok t p) l := by
  rw [← entry5 m c]
  blk_ext [iblk, idx0 t]
theorem in6 (c : Dev nD) (t : Fin cfg0.N) (p : Fin 512) (l : Fin 128) : iblk m c 6 t (ix2 p l) = Rope.tabD (tok t p) l := by
  rw [← entry6 m c]
  blk_ext [iblk, idx0 t]
theorem in7 (c : Dev nD) (t : Fin cfg0.N) (p : Fin 512) (q : Fin 1024) : iblk m c 7 t (ix2 p q) = aX m c (ix2 (tok t p) q) := by
  rw [← entry7]
  blk_ext [iblk, idx0 t]

theorem k_half (c : Dev nD) (t : Fin cfg0.N) (p : Fin 512) (j : Fin 256) : kHalf m c t (ix2 p j) = aK m c (ix2 (tok t p) j) := by
  have e : kHalf m c t (ix2 p j) = iblk m c 3 t (ix2 p ⟨j.val, by omega⟩) := by
    unfold kHalf
    generalize iblk m c 3 t = Y
    pointwise
  rw [e, in3, dif_pos j.isLt]
theorem v_half (c : Dev nD) (t : Fin cfg0.N) (p : Fin 512) (j : Fin 256) : vHalf m c t (ix2 p j) = aV m c (ix2 (tok t p) j) := by
  have e : vHalf m c t (ix2 p j) = iblk m c 3 t (ix2 p ⟨256 + j.val, by omega⟩) := by
    unfold vHalf
    generalize iblk m c 3 t = Y
    pointwise
  rw [e, in3, dif_neg (by simp)]
  exact congrArg (fun r => aV m c (ix2 (tok t p) r)) (Fin.ext (by simp))

/-- The point's rows hold the three cotangents of its tokens side by side. -/
theorem rows_at (c : Dev nD) (t : Fin cfg0.N) (p : Fin 512) (k : Fin 1536) : rows m c t (ix2 p k) = dqkv m c (tok t p) k := by
  refine (pay_rows _ _ _ _ _ _ (tok t p).val p (Rope.lane fun j : Fin 256 => aK m c (ix2 (tok t p) j)) ?_ ?_ ?_ ?_ k).trans ?_
  · intro k h
    rw [k_half, Rope.lane_mk _ k h]
  · exact fun l h => in4 m c t p ⟨l, h⟩
  · exact fun l h => in5 m c t p ⟨l, h⟩
  · exact fun l h => in6 m c t p ⟨l, h⟩
  · unfold dqkv dkr
    simp only [in2, v_half]

/-- After every point the first output block holds the gradient of its tokens. -/
theorem dx_at (c : Dev nD) (t : Fin cfg0.N) : (outsAt0 m c t.val t.isLt).1 = k0_pay1 (prod m c t) (iblk m c 1 t) := by
  by_cases h : t.val = 0
  · exact (outs_A m c t h).1
  · by_cases h7 : t.val = 7
    · exact (outs_C m c t h7).1
    · exact (outs_B m c t h h7).1

theorem later (c : Dev nD) (t : Fin cfg0.N) (h : t.val ≠ 0) :
    (outsAt0 m c t.val t.isLt).2.2 = k0_pay4 (rows m c t) (iblk m c 7 t) (prev m c t).2.2 := by
  by_cases h7 : t.val = 7
  · exact (outs_C m c t h7).2.1
  · exact (outs_B m c t h h7).2

theorem dx_pt (c : Dev nD) (t : Fin cfg0.N) (p : Fin 512) (q : Fin 1024) :
    k0_pay1 (prod m c t) (iblk m c 1 t) (ix2 p q) = G8 m c (ix2 (tok t p) q) := by
  refine (pay_dx _ _ _ _ _ _ _ _ p q).trans ?_
  have e : ∀ k, k0_pay6 (kHalf m c t) (iblk m c 4 t) (iblk m c 5 t) (iblk m c 6 t) (iblk m c 2 t) (vHalf m c t) (ix2 p k) = dqkv m c (tok t p) k :=
    fun k => rows_at m c t p k
  simp only [e, in0, in1]
  rfl

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem dw_at (c : Dev nD) (t : Fin cfg0.N) (h7 : t.val = 7) (p : Fin 1024) (q : Fin 1536) :
    (outsAt0 m c t.val t.isLt).2.2 (ix2 p q) = ∑ a : Fin 4096, aX m c (ix2 a p) * dqkv m c a q := by
  refine run_sum (fun n h (i : Fin 1024 × Fin 1536) => (outsAt0 m c n h).2.2 (ix2 i.1 i.2)) (fun a i => aX m c (ix2 a i.1) * dqkv m c a i.2) ?_ ?_ t h7 (p, q)
  · intro t h q
    rw [(outs_A m c t h).2, pay_dw_first]
    simp only [in7, rows_at]
  · intro t h q
    rw [later m c t h, pay_dw]
    simp only [in7, rows_at]

theorem dw_out_at (c : Dev nD) (t : Fin cfg0.N) (h7 : t.val = 7) (p : Fin 1024) (q : Fin 1536) :
    (outsAt0 m c t.val t.isLt).2.1 (ix3 0 p q) = G9 m c (ix3 0 p q) := by
  rw [(outs_C m c t h7).2.2, pay_dw_out, ← (outs_C m c t h7).2.1, dw_at m c t h7]
  rfl

/-- The first result. -/
theorem res8 (c : Dev nD) : (dats m 0 c).arrAt 8 cfg0.N = G8 m c := by
  refine (dats m 0 c).arrAt_eq_of_covers 8 _ (by decide +kernel) fun t hf y => ?_
  blk_simp
  rw [after0_8, dx_at]
  change S512x1024.Idx at y
  idx_vars y
  refine (dx_pt m c t _ _).trans (congrArg (G8 m c) (?_ : _ = ix2 (tok t y0) y1)).symm
  blk_ext [idx0 t]

/-- The second result. -/
theorem res9 (c : Dev nD) : (dats m 0 c).arrAt 9 cfg0.N = G9 m c := by
  refine (dats m 0 c).arrAt_eq_of_covers 9 _ (by decide +kernel) fun t hf y => ?_
  have h7 : t.val = 7 := by have := tlt t; have := (flush0_9 t).mp hf; omega
  blk_simp
  rw [after0_9]
  change S1x1024x1536.Idx at y
  idx_vars y
  obtain rfl : y0 = 0 := Subsingleton.elim _ _
  refine (dw_out_at m c t h7 _ _).trans (congrArg (G9 m c) (?_ : _ = ix3 0 y1 y2)).symm
  blk_ext [idx0 t]

end Cert.Kernel14Ideal.Block
-- ==== Proof.AttnDxClaim.lean ====
/- The input gradient of the projections to queries, keys and values leaves what its reference returns. -/
module

public import proofs.«01_k».proof.Defs
public import proofs.«01_k».proof.Proof.AttnDxValue
public import proofs.«01_k».proof.Proof.Gen.Reference14Ideal.Read
public import Idealize.ShloMosaic.Lib.Pointwise
public import Idealize.ShloMosaic.Lib.Tactic

@[expose] public section

set_option maxRecDepth 16384

noncomputable section

namespace Cert.Proof

open Idealize.ShloMosaic Idealize.ShloMosaic.TcCoe Idealize.SL.Sem Cert.Kernel14Ideal.Block Cert.LayerNorm Cert.Reference14Ideal.Read

variable (m : (ℓ : Loc Cert.Kernel14Ideal.nD Cert.Kernel14Ideal.τ Cert.Kernel14Ideal.sig) → Buf (Elt Ideal) ℓ)

/-- The reference's cosine table. -/
theorem ref_cos (a : Fin 4096) (r : ℕ) (h : r < 8) :
    (val_main_v16 (F := Ideal) : Cert.Reference14Ideal.S4096x8.Idx → EReal) (ix2 a ⟨r, h⟩) = Rope.co a r := by
  unfold val_main_v16 val_main_v15 val_main_v14 val_main_v13 val_main_v12 val_main_v11 val_main_v10 val_main_v9 val_main_cst_2 val_main_v8 val_main_v7 val_main_cst_1 val_main_v6 val_main_v5 val_main_v4 val_main_cst_0 val_main_v3 val_main_v2 val_main_cst val_main_v1 val_main_v0
  pointwise
  rfl

/-- The reference's sine table. -/
theorem ref_sin (a : Fin 4096) (r : ℕ) (h : r < 8) :
    (val_main_v18 (F := Ideal) : Cert.Reference14Ideal.S4096x8.Idx → EReal) (ix2 a ⟨r, h⟩) = Rope.si a r := by
  unfold val_main_v18 val_main_v15 val_main_v14 val_main_v13 val_main_v12 val_main_v11 val_main_v10 val_main_v9 val_main_cst_2 val_main_v8 val_main_v7 val_main_cst_1 val_main_v6 val_main_v5 val_main_v4 val_main_cst_0 val_main_v3 val_main_v2 val_main_cst val_main_v1 val_main_v0
  pointwise
  rfl

/-- The reference's gradient through the rotation. -/
theorem ref_back (x : Cert.Reference14Ideal.S4096x256.Idx → EReal) (a : Fin 4096) (r : Fin 256) :
    (val_main_v77 (F := Ideal) x : Cert.Reference14Ideal.S4096x256.Idx → EReal) (ix2 a r)
      = Rope.back (Rope.lane fun k : Fin 256 => x (ix2 a k)) a r := by
  obtain ⟨X, hX⟩ : ∃ X : ℕ → EReal, X = Rope.lane (fun k : Fin 256 => x (ix2 a k)) := ⟨_, rfl⟩
  have hx : ∀ (k : ℕ) (h : k < 256), x (ix2 a ⟨k, h⟩) = X k := fun k h => by rw [hX, Rope.lane_mk _ k h]
  rw [← hX]
  clear hX
  obtain ⟨r, hr⟩ := r
  show _ = Rope.back X a r
  unfold val_main_v77 val_main_v76 val_main_v75 val_main_cst_7 val_main_v74 val_main_v73 val_main_cst_6 val_main_v72 val_main_v71 val_main_v70 val_main_v69 val_main_v68 val_main_v67 val_main_v66 val_main_v65 val_main_v64 val_main_v63 val_main_v62 val_main_v61 val_main_v60 val_main_v59 val_main_cst_5 val_main_v58 val_main_v57 val_main_v56 val_main_v34 val_main_v31 val_main_v27 val_main_v24 val_main_v19 val_main_v17
  have hc := ref_cos a
  have hs := ref_sin a
  revert hc hs
  generalize val_main_v16 (F := Ideal) = CO
  generalize val_main_v18 (F := Ideal) = SI
  intro hc hs
  pointwise
  simp only [hx, hc, hs]
  unfold Rope.back
  by_cases h8 : r % 64 < 8
  · rw [dif_neg (by omega), dif_neg (by omega), dif_pos (by omega), if_pos h8, zero_add, zero_add, add_comm,
      show r / 64 * 64 + (8 + r % 64) = r + 8 by omega, show r / 64 * 64 + r % 64 = r by omega]
  · rw [if_neg h8]
    by_cases h16 : r % 64 < 16
    · rw [dif_neg (by omega), dif_pos (by omega), dif_neg (by omega), if_pos h16, zero_add, add_zero,
        show r / 64 * 64 + (8 + (r % 64 - 8)) = r by omega,
        show r / 64 * 64 + (r % 64 - 8) = r - 8 by omega, neg_mul, mul_neg]
    · rw [dif_pos (by omega), dif_neg (by omega), dif_neg (by omega), if_neg h16, add_zero, add_zero,
        show r / 64 * 64 + (16 + (r % 64 - 16)) = r by omega]

/-- A sum over the joined columns is the sum over its three parts. -/
theorem sum_three (f : Fin 1536 → EReal) : ∑ k, f k =
    (∑ k : Fin 1024, f ⟨k.val, by omega⟩) + (∑ k : Fin 256, f ⟨1024 + k.val, by omega⟩) + ∑ k : Fin 256, f ⟨1280 + k.val, by omega⟩ := by
  rw [show ∑ k, f k = ∑ k : Fin (1280 + 256), f k from rfl, Fin.sum_univ_add]
  rw [show (∑ k : Fin 1280, f (Fin.castAdd 256 k)) = ∑ k : Fin (1024 + 256), f (Fin.castAdd 256 k) from rfl, Fin.sum_univ_add]
  rfl

/-- The gradients with respect to the tokens agree. -/
theorem attn_dx_eq (c : Dev Cert.Kernel14Ideal.nD) :
    val_main_v81 (F := Ideal) (aWq m c) (aWk m c) (aWv m c) (aZ m c) (aQ m c) (aK m c) (aV m c) = G8 m c := by
  funext i
  change Cert.Kernel14Ideal.S4096x1024.Idx at i
  idx_vars i
  generalize i0 = a
  generalize i1 = q
  unfold val_main_v81 val_main_v80 val_main_v55 val_main_v54 val_main_v53 val_main_cst_4 val_main_v52 val_main_v51 val_main_v48
  have hk : ∀ r, (val_main_v77 (F := Ideal) (aK m c) : Cert.Reference14Ideal.S4096x256.Idx → EReal) (ix2 a r) = dkr m c a r := fun r => ref_back (aK m c) a r
  revert hk
  generalize val_main_v77 (F := Ideal) (aK m c) = Y
  intro hk
  have eG : G8 m c (ix2 a q) = (∑ k : Fin 1536, dqkv m c a k * wqkv m c q k) + Ideal.ofBits FTy.f32 0x3FB504F3#32 * aZ m c (ix2 a q) := rfl
  rw [eG, sum_three]
  have e1 : ∀ k : Fin 1024, dqkv m c a ⟨k.val, by omega⟩ * wqkv m c q ⟨k.val, by omega⟩ = aQ m c (ix2 a k) * aWq m c (ix2 q k) := fun k => by
    unfold dqkv wqkv
    rw [dif_pos k.isLt, dif_pos k.isLt]
  have e2 : ∀ k : Fin 256, dqkv m c a ⟨1024 + k.val, by omega⟩ * wqkv m c q ⟨1024 + k.val, by omega⟩ = Y (ix2 a k) * aWk m c (ix2 q k) := fun k => by
    rw [hk]
    unfold dqkv wqkv
    have hn : ¬ 1024 + k.val < 1024 := by omega
    have hp : 1024 + k.val - 1024 < 256 := by omega
    rw [dif_neg hn, dif_neg hn, dif_pos hp, dif_pos hp]
    simp only [Nat.add_sub_cancel_left]
  have e3 : ∀ k : Fin 256, dqkv m c a ⟨1280 + k.val, by omega⟩ * wqkv m c q ⟨1280 + k.val, by omega⟩ = aV m c (ix2 a k) * aWv m c (ix2 q k) := fun k => by
    have e : (⟨1280 + k.val - 1024 - 256, by omega⟩ : Fin 256) = k := Fin.ext (by show 1280 + k.val - 1024 - 256 = k.val; omega)
    unfold dqkv wqkv
    have hn : ¬ 1280 + k.val < 1024 := by omega
    have hp : ¬ 1280 + k.val - 1024 < 256 := by omega
    rw [dif_neg hn, dif_neg hn, dif_neg hp, dif_neg hp]
    simp only [e]
  simp only [e1, e2, e3]
  pointwise
  abel

/-- The gradients with respect to the weights agree. -/
theorem attn_dw3_eq (c : Dev Cert.Kernel14Ideal.nD) :
    val_main_v84 (F := Ideal) (aX m c) (aQ m c) (aK m c) (aV m c) = G9 m c := by
  funext i
  change Cert.Kernel14Ideal.S1x1024x1536.Idx at i
  idx_vars i
  unfold val_main_v84 val_main_v83 val_main_v82 val_main_v79 val_main_v78 val_main_v50 val_main_v49 val_main_v47 val_main_v46 G9
  have hk : ∀ a r, (val_main_v77 (F := Ideal) (aK m c) : Cert.Reference14Ideal.S4096x256.Idx → EReal) (ix2 a r) = dkr m c a r := fun a r => ref_back (aK m c) a r
  revert hk
  generalize val_main_v77 (F := Ideal) (aK m c) = Y
  intro hk
  pointwise
  simp only [hk]
  split
  · rename_i h
    refine Finset.sum_congr rfl fun k _ => ?_
    unfold dqkv
    rw [dif_pos h, mul_comm]
  · rename_i h
    split
    · rename_i h2
      refine Finset.sum_congr rfl fun k _ => ?_
      unfold dqkv
      rw [dif_neg h, dif_pos h2, mul_comm]
    · rename_i h2
      refine Finset.sum_congr rfl fun k _ => ?_
      unfold dqkv
      rw [dif_neg h, dif_neg h2, mul_comm]

/-- The value claim of the input gradient of the projections to queries, keys and values. -/
theorem attn_dx : algebraic_Kernel14Ideal_Reference14Ideal := by
  intro m g m' g' _ hin
  refine ⟨fun c => G8 m c, fun c => G9 m c, ?_, ?_⟩
  · refine (θ_run Cert.Kernel14Ideal.defs _ _).mono (fun r h c => ?_) (Cert.Kernel14Ideal.Value.run_blocks m g)
    obtain ⟨h0, h1, hk⟩ := h c
    exact ⟨h0.trans (res8 m c), h1.trans (res9 m c), hk⟩
  refine (θ_run Cert.Reference14Ideal.defs _ _).mono (fun r h c => ?_) (Cert.Reference14Ideal.Value.run m' g')
  obtain ⟨h0, h1, hk⟩ := h c
  obtain ⟨e0, e1, e2, e3, e4, e5, e6, e7⟩ := hin c
  refine ⟨?_, ?_, hk⟩
  · rw [h0, val_main_v81_eq, e1, e2, e3, e4, e5, e6, e7]
    exact attn_dx_eq m c
  · rw [h1, val_main_v84_eq, e0, e5, e6, e7]
    exact attn_dw3_eq m c

end Cert.Proof
-- ==== Proof.QkvRopeValue.lean ====
/- What the projections to queries, keys and values leave in their two result arrays. -/
module

public import proofs.«01_k».proof.Proof.Gen.Kernel15Ideal.Value
public import proofs.«01_k».proof.Proof.PleSpec
public import Idealize.ShloMosaic.Lib.StableHlo.RunRead
public import Idealize.ShloMosaic.Lib.Pipeline.ValueKit.Tiles
public import proofs.«01_k».proof.Proof.RopeSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel15Ideal.Block

open Cert.Kernel15Ideal Cert.Kernel15Ideal.Gen Idealize.ShloMosaic Idealize.ShloMosaic.TcCoe Idealize.SL.Sem Cert.LayerNorm

variable (m : (ℓ : Loc nD τ sig) → Buf (Elt Ideal) ℓ)

/-- The rotation of a slab reads only the slab. -/
theorem fwd_slab (X Y : ℕ → EReal) (a o n j : ℕ) (ho : o % 64 = 0) (hn : n % 64 = 0) (hj : j < n)
    (h : ∀ k, k < n → X (o + k) = Y k) : Rope.fwd X a (o + j) = Rope.fwd Y a j := by
  unfold Rope.fwd
  have e : (o + j) % 64 = j % 64 := by omega
  rw [e]
  by_cases h8 : j % 64 < 8
  · rw [if_pos h8, if_pos h8, h j hj, show o + j + 8 = o + (j + 8) by omega, h (j + 8) (by omega)]
  · rw [if_neg h8, if_neg h8]
    by_cases h16 : j % 64 < 16
    · rw [if_pos h16, if_pos h16, h j hj, show o + j - 8 = o + (j - 8) by omega, h (j - 8) (by omega)]
    · rw [if_neg h16, if_neg h16, h j hj]

/-- The tokens. -/
abbrev aX (c : Dev nD) : S4096x1024.Idx → EReal := m ((c : Thread nD τ).loc main_arg0)
/-- The weight of the queries. -/
abbrev aWq (c : Dev nD) : S1024x1024.Idx → EReal := m ((c : Thread nD τ).loc main_arg1)
/-- The weight of the keys. -/
abbrev aWk (c : Dev nD) : S1024x256.Idx → EReal := m ((c : Thread nD τ).loc main_arg2)
/-- The weight of the values. -/
abbrev aWv (c : Dev nD) : S1024x256.Idx → EReal := m ((c : Thread nD τ).loc main_arg3)

/-- The three weights side by side. -/
def wqkv (c : Dev nD) (q : Fin 1024) (k : Fin 1536) : EReal :=
  if h : k.val < 1024 then aWq m c (ix2 q ⟨k.val, h⟩)
  else if h2 : k.val - 1024 < 256 then aWk m c (ix2 q ⟨k.val - 1024, h2⟩)
  else aWv m c (ix2 q ⟨k.val - 1024 - 256, by omega⟩)
/-- The queries of token `a` before the rotation, lane by lane. -/
def qr (c : Dev nD) (a : Fin 4096) : ℕ → EReal := Rope.lane fun j : Fin 1024 => ∑ k : Fin 1024, aX m c (ix2 a k) * aWq m c (ix2 k j)
/-- The keys of token `a` before the rotation. -/
def kr (c : Dev nD) (a : Fin 4096) : ℕ → EReal := Rope.lane fun j : Fin 256 => ∑ k : Fin 1024, aX m c (ix2 a k) * aWk m c (ix2 k j)
/-- The values of token `a`. -/
def vr (c : Dev nD) (a : Fin 4096) : ℕ → EReal := Rope.lane fun j : Fin 256 => ∑ k : Fin 1024, aX m c (ix2 a k) * aWv m c (ix2 k j)
/-- The three products side by side. -/
def tr (c : Dev nD) (a : Fin 4096) : ℕ → EReal := Rope.lane fun j : Fin 1536 => ∑ k : Fin 1024, aX m c (ix2 a k) * wqkv m c k j

/-- The key or value heads laid out over 128 lanes each, first in the low then in the high half, keys before values. -/
def wide (K W : ℕ → EReal) (b : ℕ) : EReal :=
  if b % 128 / 64 = b / 512 % 2 then (if b < 1024 then K (b / 128 % 4 * 64 + b % 64) else W (b / 128 % 4 * 64 + b % 64)) else 0

/-- The rotated queries, as an array. -/
def G5 (c : Dev nD) : S4096x1024.Idx → EReal := fun i => Rope.fwd (qr m c (i 0)) (i 0).val (i 1).val
/-- The widened rotated keys and values, as an array. -/
def G6 (c : Dev nD) : S4096x2048.Idx → EReal := fun i => wide (Rope.fwd (kr m c (i 0)) (i 0).val) (vr m c (i 0)) (i 1).val

/-- The rotated queries at an index. -/
theorem pay_q (x : Vec Ideal S512x1024 .bf16) (W : Vec Ideal S1x1024x1536 .bf16) (C U D : Vec Ideal S512x128 .f32)
    (a : ℕ) (p : Fin 512) (X : ℕ → EReal) (hx : ∀ (k : ℕ) (h : k < 1536), k0_pay2 (F := Ideal) x W (ix2 p ⟨k, h⟩) = X k)
    (hC : ∀ (l : ℕ) (h : l < 128), C (ix2 p ⟨l, h⟩) = Rope.tabC a l)
    (hU : ∀ (l : ℕ) (h : l < 128), U (ix2 p ⟨l, h⟩) = Rope.tabU a l)
    (hD : ∀ (l : ℕ) (h : l < 128), D (ix2 p ⟨l, h⟩) = Rope.tabD a l) (j : ℕ) (hj : j < 1024) :
    k0_pay12 (F := Ideal) (k0_pay3 C) (k0_pay4 U) (k0_pay5 D) (k0_pay6 x W) (k0_pay7 x W C U D) (k0_pay8 x W C U D) (k0_pay9 x W C U D) (k0_pay10 x W) (k0_pay11 x W C) 120#32
      (ix2 p ⟨j, hj⟩) = Rope.fwd X a j := by
  unfold k0_pay12 k0_pay11 k0_pay10 k0_pay9 k0_pay8 k0_pay7 k0_pay6 k0_pay5 k0_pay4 k0_pay3
  revert hx
  generalize k0_pay2 (F := Ideal) x W = Y
  intro hx
  pointwise
  simp only [hx, hC, hU, hD]
  have key : ∀ o l, o % 64 = 0 → l < 128 → o + l = j → X (o + l) * Rope.tabC a l + X (o + (l + 128 - 120) % 128) * Rope.tabU a l
      + X (o + (l + 128 - 8) % 128) * Rope.tabD a l = Rope.fwd X a j :=
    fun o l ho hl e => (Rope.fwd_lane X a o l ho hl).trans (congrArg (Rope.fwd X a) e)
  split
  · have e := key 0 j (by omega) (by omega) (by omega)
    simp only [zero_add] at e
    exact e
  · split
    · exact key 128 _ (by omega) (by omega) (by omega)
    · split
      · exact key 256 _ (by omega) (by omega) (by omega)
      · split
        · exact key 384 _ (by omega) (by omega) (by omega)
        · split
          · exact key 512 _ (by omega) (by omega) (by omega)
          · split
            · exact key 640 _ (by omega) (by omega) (by omega)
            · split
              · exact key 768 _ (by omega) (by omega) (by omega)
              · exact key 896 _ (by omega) (by omega) (by omega)

theorem pay_k (Y : Vec Ideal S512x1536 .f32) (C U D : Vec Ideal S512x128 .f32)
    (a : ℕ) (p : Fin 512) (X : ℕ → EReal) (hx : ∀ (k : ℕ) (h : k < 256), k0_pay13 (F := Ideal) Y (ix2 p ⟨k, h⟩) = X k)
    (hC : ∀ (l : ℕ) (h : l < 128), C (ix2 p ⟨l, h⟩) = Rope.tabC a l)
    (hU : ∀ (l : ℕ) (h : l < 128), U (ix2 p ⟨l, h⟩) = Rope.tabU a l)
    (hD : ∀ (l : ℕ) (h : l < 128), D (ix2 p ⟨l, h⟩) = Rope.tabD a l) (j : ℕ) (hj : j < 256) :
    k0_pay16 (F := Ideal) (k0_pay3 C) (k0_pay4 U) (k0_pay5 D) (k0_pay13 Y) (k0_pay14 Y) (k0_pay15 Y (k0_pay3 C) (k0_pay4 U)) (ix2 p ⟨j, hj⟩) = Rope.fwd X a j := by
  unfold k0_pay16 k0_pay15 k0_pay14 k0_pay5 k0_pay4 k0_pay3
  revert hx
  generalize k0_pay13 (F := Ideal) Y = Z
  intro hx
  pointwise
  simp only [hx, hC, hU, hD]
  have key : ∀ o l, o % 64 = 0 → l < 128 → o + l = j → X (o + l) * Rope.tabC a l + X (o + (l + 128 - 120) % 128) * Rope.tabU a l
      + X (o + (l + 128 - 8) % 128) * Rope.tabD a l = Rope.fwd X a j :=
    fun o l ho hl e => (Rope.fwd_lane X a o l ho hl).trans (congrArg (Rope.fwd X a) e)
  split
  · have e := key 0 j (by omega) (by omega) (by omega)
    simp only [zero_add] at e
    exact e
  · exact key 128 _ (by omega) (by omega) (by omega)

/-- The comparison of the lane number with 64 chooses between the halves of a slab. -/
theorem mask (j : ℕ) (hj : j < 128) (A B : EReal) :
    Scalar.select (IntOp.cmpi CmpIPredicate.slt (BitVec.ofNat 32 j) 64#32) A B = if j < 64 then A else B := by
  have h : ∀ j : Fin 128, IntOp.cmpi CmpIPredicate.slt (BitVec.ofNat 32 j.val) 64#32 = if j.val < 64 then 1#1 else 0#1 := by decide +kernel
  rw [h ⟨j, hj⟩]
  by_cases h64 : j < 64
  · rw [if_pos h64, if_pos h64]; rfl
  · rw [if_neg h64, if_neg h64]; rfl

theorem pay_w21 (v6 v8 v10 : Vec Ideal S512x128 .f32) (v79 : Vec Ideal S512x256 .f32) (v80 v84 : Vec Ideal S512x128 .f32) (p : Fin 512) (X : ℕ → EReal)
    (hx : ∀ (k : ℕ) (h : k < 256), k0_pay16 (F := Ideal) v6 v8 v10 v79 v80 v84 (ix2 p ⟨k, h⟩) = X k) (j : ℕ) (hj : j < 128) :
    k0_pay21 (F := Ideal) v6 v8 v10 v79 v80 v84 (ix2 p ⟨j, hj⟩) = if j < 64 then X (j) else 0 := by
  unfold k0_pay21 k0_pay19 k0_pay18
  revert hx
  generalize k0_pay16 (F := Ideal) v6 v8 v10 v79 v80 v84 = Z
  intro hx
  pointwise
  simp only [hx]
  exact mask j hj _ _

theorem pay_w22 (v6 v8 v10 : Vec Ideal S512x128 .f32) (v79 : Vec Ideal S512x256 .f32) (v80 v84 : Vec Ideal S512x128 .f32) (p : Fin 512) (X : ℕ → EReal)
    (hx : ∀ (k : ℕ) (h : k < 256), k0_pay16 (F := Ideal) v6 v8 v10 v79 v80 v84 (ix2 p ⟨k, h⟩) = X k) (j : ℕ) (hj : j < 128) :
    k0_pay22 (F := Ideal) v6 v8 v10 v79 v80 v84 (ix2 p ⟨j, hj⟩) = if j < 64 then 0 else X ((j + 128 - 64) % 128) := by
  unfold k0_pay22 k0_pay20 k0_pay19 k0_pay18
  revert hx
  generalize k0_pay16 (F := Ideal) v6 v8 v10 v79 v80 v84 = Z
  intro hx
  pointwise
  simp only [hx]
  exact mask j hj _ _

theorem pay_w23 (v6 v8 v10 : Vec Ideal S512x128 .f32) (v79 : Vec Ideal S512x256 .f32) (v80 v84 : Vec Ideal S512x128 .f32) (p : Fin 512) (X : ℕ → EReal)
    (hx : ∀ (k : ℕ) (h : k < 256), k0_pay16 (F := Ideal) v6 v8 v10 v79 v80 v84 (ix2 p ⟨k, h⟩) = X k) (j : ℕ) (hj : j < 128) :
    k0_pay23 (F := Ideal) v6 v8 v10 v79 v80 v84 (ix2 p ⟨j, hj⟩) = if j < 64 then X ((j + 128 - 64) % 128) else 0 := by
  unfold k0_pay23 k0_pay20 k0_pay19 k0_pay18
  revert hx
  generalize k0_pay16 (F := Ideal) v6 v8 v10 v79 v80 v84 = Z
  intro hx
  pointwise
  simp only [hx]
  exact mask j hj _ _

theorem pay_w24 (v6 v8 v10 : Vec Ideal S512x128 .f32) (v79 : Vec Ideal S512x256 .f32) (v80 v84 : Vec Ideal S512x128 .f32) (p : Fin 512) (X : ℕ → EReal)
    (hx : ∀ (k : ℕ) (h : k < 256), k0_pay16 (F := Ideal) v6 v8 v10 v79 v80 v84 (ix2 p ⟨k, h⟩) = X k) (j : ℕ) (hj : j < 128) :
    k0_pay24 (F := Ideal) v6 v8 v10 v79 v80 v84 (ix2 p ⟨j, hj⟩) = if j < 64 then 0 else X (j) := by
  unfold k0_pay24 k0_pay19 k0_pay18
  revert hx
  generalize k0_pay16 (F := Ideal) v6 v8 v10 v79 v80 v84 = Z
  intro hx
  pointwise
  simp only [hx]
  exact mask j hj _ _

theorem pay_w27 (Z : Vec Ideal S512x256 .f32) (p : Fin 512) (X : ℕ → EReal)
    (hx : ∀ (k : ℕ) (h : k < 256), Z (ix2 p ⟨k, h⟩) = X k) (j : ℕ) (hj : j < 128) :
    k0_pay27 (F := Ideal) Z k0_pay18 (ix2 p ⟨j, hj⟩) = if j < 64 then X (128 + j) else 0 := by
  unfold k0_pay27 k0_pay25 k0_pay18
  pointwise
  simp only [hx]
  exact mask j hj _ _

theorem pay_w28 (Z : Vec Ideal S512x256 .f32) (p : Fin 512) (X : ℕ → EReal)
    (hx : ∀ (k : ℕ) (h : k < 256), Z (ix2 p ⟨k, h⟩) = X k) (j : ℕ) (hj : j < 128) :
    k0_pay28 (F := Ideal) Z k0_pay18 (ix2 p ⟨j, hj⟩) = if j < 64 then 0 else X (128 + (j + 128 - 64) % 128) := by
  unfold k0_pay28 k0_pay26 k0_pay25 k0_pay18
  pointwise
  simp only [hx]
  exact mask j hj _ _

theorem pay_w29 (Z : Vec Ideal S512x256 .f32) (p : Fin 512) (X : ℕ → EReal)
    (hx : ∀ (k : ℕ) (h : k < 256), Z (ix2 p ⟨k, h⟩) = X k) (j : ℕ) (hj : j < 128) :
    k0_pay29 (F := Ideal) Z k0_pay18 (ix2 p ⟨j, hj⟩) = if j < 64 then X (128 + (j + 128 - 64) % 128) else 0 := by
  unfold k0_pay29 k0_pay26 k0_pay25 k0_pay18
  pointwise
  simp only [hx]
  exact mask j hj _ _

theorem pay_w30 (Z : Vec Ideal S512x256 .f32) (p : Fin 512) (X : ℕ → EReal)
    (hx : ∀ (k : ℕ) (h : k < 256), Z (ix2 p ⟨k, h⟩) = X k) (j : ℕ) (hj : j < 128) :
    k0_pay30 (F := Ideal) Z k0_pay18 (ix2 p ⟨j, hj⟩) = if j < 64 then 0 else X (128 + j) := by
  unfold k0_pay30 k0_pay25 k0_pay18
  pointwise
  simp only [hx]
  exact mask j hj _ _

theorem pay_w33 (Z : Vec Ideal S512x256 .f32) (p : Fin 512) (X : ℕ → EReal)
    (hx : ∀ (k : ℕ) (h : k < 256), Z (ix2 p ⟨k, h⟩) = X k) (j : ℕ) (hj : j < 128) :
    k0_pay33 (F := Ideal) Z k0_pay18 (ix2 p ⟨j, hj⟩) = if j < 64 then X (j) else 0 := by
  unfold k0_pay33 k0_pay31 k0_pay18
  pointwise
  simp only [hx]
  exact mask j hj _ _

theorem pay_w34 (Z : Vec Ideal S512x256 .f32) (p : Fin 512) (X : ℕ → EReal)
    (hx : ∀ (k : ℕ) (h : k < 256), Z (ix2 p ⟨k, h⟩) = X k) (j : ℕ) (hj : j < 128) :
    k0_pay34 (F := Ideal) k0_pay18 (k0_pay32 Z) (Scalar.ofBits .f32 0x00000000#32) (ix2 p ⟨j, hj⟩) = if j < 64 then 0 else X ((j + 128 - 64) % 128) := by
  unfold k0_pay34 k0_pay32 k0_pay31 k0_pay18
  pointwise
  simp only [hx]
  exact mask j hj _ _

theorem pay_w35 (Z : Vec Ideal S512x256 .f32) (p : Fin 512) (X : ℕ → EReal)
    (hx : ∀ (k : ℕ) (h : k < 256), Z (ix2 p ⟨k, h⟩) = X k) (j : ℕ) (hj : j < 128) :
    k0_pay35 (F := Ideal) k0_pay18 (k0_pay32 Z) (ix2 p ⟨j, hj⟩) = if j < 64 then X ((j + 128 - 64) % 128) else 0 := by
  unfold k0_pay35 k0_pay32 k0_pay31 k0_pay18
  pointwise
  simp only [hx]
  exact mask j hj _ _

theorem pay_w36 (Z : Vec Ideal S512x256 .f32) (p : Fin 512) (X : ℕ → EReal)
    (hx : ∀ (k : ℕ) (h : k < 256), Z (ix2 p ⟨k, h⟩) = X k) (j : ℕ) (hj : j < 128) :
    k0_pay36 (F := Ideal) k0_pay18 (k0_pay31 Z) (ix2 p ⟨j, hj⟩) = if j < 64 then 0 else X (j) := by
  unfold k0_pay36 k0_pay31 k0_pay18
  pointwise
  simp only [hx]
  exact mask j hj _ _

theorem pay_w39 (Z : Vec Ideal S512x256 .f32) (p : Fin 512) (X : ℕ → EReal)
    (hx : ∀ (k : ℕ) (h : k < 256), Z (ix2 p ⟨k, h⟩) = X k) (j : ℕ) (hj : j < 128) :
    k0_pay39 (F := Ideal) Z k0_pay18 (ix2 p ⟨j, hj⟩) = if j < 64 then X (128 + j) else 0 := by
  unfold k0_pay39 k0_pay37 k0_pay18
  pointwise
  simp only [hx]
  exact mask j hj _ _

theorem pay_w40 (Z : Vec Ideal S512x256 .f32) (p : Fin 512) (X : ℕ → EReal)
    (hx : ∀ (k : ℕ) (h : k < 256), Z (ix2 p ⟨k, h⟩) = X k) (j : ℕ) (hj : j < 128) :
    k0_pay40 (F := Ideal) Z k0_pay18 (ix2 p ⟨j, hj⟩) = if j < 64 then 0 else X (128 + (j + 128 - 64) % 128) := by
  unfold k0_pay40 k0_pay38 k0_pay37 k0_pay18
  pointwise
  simp only [hx]
  exact mask j hj _ _

theorem pay_w41 (Z : Vec Ideal S512x256 .f32) (p : Fin 512) (X : ℕ → EReal)
    (hx : ∀ (k : ℕ) (h : k < 256), Z (ix2 p ⟨k, h⟩) = X k) (j : ℕ) (hj : j < 128) :
    k0_pay41 (F := Ideal) Z k0_pay18 (ix2 p ⟨j, hj⟩) = if j < 64 then X (128 + (j + 128 - 64) % 128) else 0 := by
  unfold k0_pay41 k0_pay38 k0_pay37 k0_pay18
  pointwise
  simp only [hx]
  exact mask j hj _ _

theorem pay_w1 (Z : Vec Ideal S512x256 .f32) (p : Fin 512) (X : ℕ → EReal)
    (hx : ∀ (k : ℕ) (h : k < 256), Z (ix2 p ⟨k, h⟩) = X k) (j : ℕ) (hj : j < 128) :
    k0_pay1 (F := Ideal) k0_pay18 (k0_pay37 Z) (ix2 p ⟨j, hj⟩) = if j < 64 then 0 else X (128 + j) := by
  unfold k0_pay1 k0_pay37 k0_pay18
  pointwise
  simp only [hx]
  exact mask j hj _ _

set_option maxHeartbeats 1000000 in
/-- The widened keys and values of a block at an index. -/
theorem pay_wide (x0 : Vec Ideal S512x1024 .bf16) (x1 : Vec Ideal S1x1024x1536 .bf16) (x2 x3 x4 : Vec Ideal S512x128 .f32)
    (p : Fin 512) (K W : ℕ → EReal)
    (hK : ∀ (k : ℕ) (h : k < 256), k0_pay16 (F := Ideal) (k0_pay3 x2) (k0_pay4 x3) (k0_pay5 x4) (k0_pay13 (k0_pay2 x0 x1)) (k0_pay14 (k0_pay2 x0 x1))
      (k0_pay15 (k0_pay2 x0 x1) (k0_pay3 x2) (k0_pay4 x3)) (ix2 p ⟨k, h⟩) = K k)
    (hW : ∀ (k : ℕ) (h : k < 256), k0_pay17 (F := Ideal) (k0_pay2 x0 x1) (ix2 p ⟨k, h⟩) = W k) (b : ℕ) (hb : b < 2048) :
    out0_6 (F := Ideal) x0 x1 x2 x3 x4 (ix2 p ⟨b, hb⟩) = wide K W b := by
  unfold_out out0_6
  canon_tiles y h using cover0_6 ..
  · idx_vars y
    obtain rfl : p = y0 := Fin.ext h0
    obtain ⟨l, hl⟩ := y1
    have h1' : b = 1920 + l := h1
    simp (disch := decide) only [View.ld_unit_lit']
    subst h1'
    refine (pay_w1 _ p W hW l hl).trans ?_
    unfold wide
    split_ifs <;> first | rfl | omega | exact congrArg _ (by omega)
  · idx_vars y
    obtain rfl : p = y0 := Fin.ext h0
    obtain ⟨l, hl⟩ := y1
    have h1' : b = 1408 + l := h1
    simp (disch := decide) only [View.ld_unit_lit']
    subst h1'
    refine (pay_w41 _ p W hW l hl).trans ?_
    unfold wide
    split_ifs <;> first | rfl | omega | exact congrArg _ (by omega)
  · idx_vars y
    obtain rfl : p = y0 := Fin.ext h0
    obtain ⟨l, hl⟩ := y1
    have h1' : b = 1792 + l := h1
    simp (disch := decide) only [View.ld_unit_lit']
    subst h1'
    refine (pay_w40 _ p W hW l hl).trans ?_
    unfold wide
    split_ifs <;> first | rfl | omega | exact congrArg _ (by omega)
  · idx_vars y
    obtain rfl : p = y0 := Fin.ext h0
    obtain ⟨l, hl⟩ := y1
    have h1' : b = 1280 + l := h1
    simp (disch := decide) only [View.ld_unit_lit']
    subst h1'
    refine (pay_w39 _ p W hW l hl).trans ?_
    unfold wide
    split_ifs <;> first | rfl | omega | exact congrArg _ (by omega)
  · idx_vars y
    obtain rfl : p = y0 := Fin.ext h0
    obtain ⟨l, hl⟩ := y1
    have h1' : b = 1664 + l := h1
    simp (disch := decide) only [View.ld_unit_lit']
    subst h1'
    refine (pay_w36 _ p W hW l hl).trans ?_
    unfold wide
    split_ifs <;> first | rfl | omega | exact congrArg _ (by omega)
  · idx_vars y
    obtain rfl : p = y0 := Fin.ext h0
    obtain ⟨l, hl⟩ := y1
    have h1' : b = 1152 + l := h1
    simp (disch := decide) only [View.ld_unit_lit']
    subst h1'
    refine (pay_w35 _ p W hW l hl).trans ?_
    unfold wide
    split_ifs <;> first | rfl | omega | exact congrArg _ (by omega)
  · idx_vars y
    obtain rfl : p = y0 := Fin.ext h0
    obtain ⟨l, hl⟩ := y1
    have h1' : b = 1536 + l := h1
    simp (disch := decide) only [View.ld_unit_lit']
    subst h1'
    refine (pay_w34 _ p W hW l hl).trans ?_
    unfold wide
    split_ifs <;> first | rfl | omega | exact congrArg _ (by omega)
  · idx_vars y
    obtain rfl : p = y0 := Fin.ext h0
    obtain ⟨l, hl⟩ := y1
    have h1' : b = 1024 + l := h1
    simp (disch := decide) only [View.ld_unit_lit']
    subst h1'
    refine (pay_w33 _ p W hW l hl).trans ?_
    unfold wide
    split_ifs <;> first | rfl | omega | exact congrArg _ (by omega)
  · idx_vars y
    obtain rfl : p = y0 := Fin.ext h0
    obtain ⟨l, hl⟩ := y1
    have h1' : b = 896 + l := h1
    simp (disch := decide) only [View.ld_unit_lit']
    subst h1'
    refine (pay_w30 _ p K hK l hl).trans ?_
    unfold wide
    split_ifs <;> first | rfl | omega | exact congrArg _ (by omega)
  · idx_vars y
    obtain rfl : p = y0 := Fin.ext h0
    obtain ⟨l, hl⟩ := y1
    have h1' : b = 384 + l := h1
    simp (disch := decide) only [View.ld_unit_lit']
    subst h1'
    refine (pay_w29 _ p K hK l hl).trans ?_
    unfold wide
    split_ifs <;> first | rfl | omega | exact congrArg _ (by omega)
  · idx_vars y
    obtain rfl : p = y0 := Fin.ext h0
    obtain ⟨l, hl⟩ := y1
    have h1' : b = 768 + l := h1
    simp (disch := decide) only [View.ld_unit_lit']
    subst h1'
    refine (pay_w28 _ p K hK l hl).trans ?_
    unfold wide
    split_ifs <;> first | rfl | omega | exact congrArg _ (by omega)
  · idx_vars y
    obtain rfl : p = y0 := Fin.ext h0
    obtain ⟨l, hl⟩ := y1
    have h1' : b = 256 + l := h1
    simp (disch := decide) only [View.ld_unit_lit']
    subst h1'
    refine (pay_w27 _ p K hK l hl).trans ?_
    unfold wide
    split_ifs <;> first | rfl | omega | exact congrArg _ (by omega)
  · idx_vars y
    obtain rfl : p = y0 := Fin.ext h0
    obtain ⟨l, hl⟩ := y1
    have h1' : b = 640 + l := h1
    simp (disch := decide) only [View.ld_unit_lit']
    subst h1'
    refine (pay_w24 _ _ _ _ _ _ p K hK l hl).trans ?_
    unfold wide
    split_ifs <;> first | rfl | omega | exact congrArg _ (by omega)
  · idx_vars y
    obtain rfl : p = y0 := Fin.ext h0
    obtain ⟨l, hl⟩ := y1
    have h1' : b = 128 + l := h1
    simp (disch := decide) only [View.ld_unit_lit']
    subst h1'
    refine (pay_w23 _ _ _ _ _ _ p K hK l hl).trans ?_
    unfold wide
    split_ifs <;> first | rfl | omega | exact congrArg _ (by omega)
  · idx_vars y
    obtain rfl : p = y0 := Fin.ext h0
    obtain ⟨l, hl⟩ := y1
    have h1' : b = 512 + l := h1
    simp (disch := decide) only [View.ld_unit_lit']
    subst h1'
    refine (pay_w22 _ _ _ _ _ _ p K hK l hl).trans ?_
    unfold wide
    split_ifs <;> first | rfl | omega | exact congrArg _ (by omega)
  · idx_vars y
    obtain rfl : p = y0 := Fin.ext h0
    obtain ⟨l, hl⟩ := y1
    have h1' : l = b := h1.symm
    simp (disch := decide) only [View.ld_unit_lit']
    subst h1'
    refine (pay_w21 _ _ _ _ _ _ p K hK l hl).trans ?_
    unfold wide
    split_ifs <;> first | rfl | omega | exact congrArg _ (by omega)

theorem pay_prod (x : Vec Ideal S512x1024 .bf16) (W : Vec Ideal S1x1024x1536 .bf16) (p : Fin 512) (j : Fin 1536) :
    k0_pay2 (F := Ideal) x W (ix2 p j) = ∑ k : Fin 1024, x (ix2 p k) * W (ix3 0 k j) := by
  unfold k0_pay2
  pointwise
theorem pay_kcols (Y : Vec Ideal S512x1536 .f32) (p : Fin 512) (j : ℕ) (hj : j < 256) :
    k0_pay13 (F := Ideal) Y (ix2 p ⟨j, hj⟩) = Y (ix2 p ⟨1024 + j, by omega⟩) := by
  unfold k0_pay13
  pointwise
theorem pay_vcols (Y : Vec Ideal S512x1536 .f32) (p : Fin 512) (j : ℕ) (hj : j < 256) :
    k0_pay17 (F := Ideal) Y (ix2 p ⟨j, hj⟩) = Y (ix2 p ⟨1280 + j, by omega⟩) := by
  unfold k0_pay17
  pointwise

/-- Which block of each window a point has. -/
theorem idx0 : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![t.val, 0] ∧ win0_6.index t = ![t.val, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry1 (c : Dev nD) (q : Fin 1024) (k : Fin 1536) :
    (V m c main_v38 : S1x1024x1536.Idx → EReal) (ix3 0 q k) = wqkv m c q k := by
  unfold V
  after_reads_simp
  pointwise
  after_reads_simp
  pointwise
  rfl
theorem entry0 (c : Dev nD) (a : Fin 4096) (b : Fin 1024) :
    (V m c main_v39 : S4096x1024.Idx → EReal) (ix2 a b) = aX m c (ix2 a b) := by
  unfold V
  after_reads_simp
  pointwise
theorem entry2 (c : Dev nD) (a : Fin 4096) (l : Fin 128) :
    (V m c main_v27 : S4096x128.Idx → EReal) (ix2 a l) = Rope.tabC a l := by
  unfold V
  after_reads_simp
  pointwise
  after_reads_simp
  pointwise
  unfold Rope.tabC Rope.co Rope.angle
  rfl
theorem entry3 (c : Dev nD) (a : Fin 4096) (l : Fin 128) :
    (V m c main_v30 : S4096x128.Idx → EReal) (ix2 a l) = Rope.tabU a l := by
  unfold V
  after_reads_simp
  pointwise
  after_reads_simp
  pointwise
  unfold Rope.tabU Rope.si Rope.angle
  split
  · rfl
  · split <;> rfl
theorem entry4 (c : Dev nD) (a : Fin 4096) (l : Fin 128) :
    (V m c main_v33 : S4096x128.Idx → EReal) (ix2 a l) = Rope.tabD a l := by
  unfold V
  after_reads_simp
  pointwise
  after_reads_simp
  pointwise
  unfold Rope.tabD Rope.si Rope.angle
  split
  · rfl
  · split <;> rfl

theorem in1 (c : Dev nD) (t : Fin cfg0.N) (q : Fin 1024) (k : Fin 1536) : iblk m c 1 t (ix3 0 q k) = wqkv m c q k := by
  rw [← entry1]
  blk_ext [iblk, idx0 t]
theorem in0 (c : Dev nD) (t : Fin cfg0.N) (p : Fin 512) (q : Fin 1024) : iblk m c 0 t (ix2 p q) = aX m c (ix2 (tok t p) q) := by
  rw [← entry0]
  blk_ext [iblk, idx0 t]
theorem in2 (c : Dev nD) (t : Fin cfg0.N) (p : Fin 512) (l : Fin 128) : iblk m c 2 t (ix2 p l) = Rope.tabC (tok t p) l := by
  rw [← entry2 m c]
  blk_ext [iblk, idx0 t]
theorem in3 (c : Dev nD) (t : Fin cfg0.N) (p : Fin 512) (l : Fin 128) : iblk m c 3 t (ix2 p l) = Rope.tabU (tok t p) l := by
  rw [← entry3 m c]
  blk_ext [iblk, idx0 t]
theorem in4 (c : Dev nD) (t : Fin cfg0.N) (p : Fin 512) (l : Fin 128) : iblk m c 4 t (ix2 p l) = Rope.tabD (tok t p) l := by
  rw [← entry4 m c]
  blk_ext [iblk, idx0 t]

/-- The point's product holds the three products of its tokens side by side. -/
theorem prod_at (c : Dev nD) (t : Fin cfg0.N) (p : Fin 512) (k : ℕ) (h : k < 1536) :
    k0_pay2 (F := Ideal) (iblk m c 0 t) (iblk m c 1 t) (ix2 p ⟨k, h⟩) = tr m c (tok t p) k := by
  rw [pay_prod]
  unfold tr
  rw [Rope.lane_mk _ k h]
  simp only [in0, in1]

/-- The first columns of the joined product are the queries. -/
theorem tr_q (c : Dev nD) (a : Fin 4096) (k : ℕ) (h : k < 1024) : tr m c a (0 + k) = qr m c a k := by
  unfold tr qr
  rw [zero_add, Rope.lane_mk _ k (by omega), Rope.lane_mk _ k h]
  refine Finset.sum_congr rfl fun q _ => ?_
  unfold wqkv
  rw [dif_pos h]
/-- The next are the keys. -/
theorem tr_k (c : Dev nD) (a : Fin 4096) (k : ℕ) (h : k < 256) : tr m c a (1024 + k) = kr m c a k := by
  unfold tr kr
  rw [Rope.lane_mk _ (1024 + k) (by omega), Rope.lane_mk _ k h]
  refine Finset.sum_congr rfl fun q _ => ?_
  unfold wqkv
  have hn : ¬ 1024 + k < 1024 := by omega
  have hp : 1024 + k - 1024 < 256 := by omega
  rw [dif_neg hn, dif_pos hp]
  simp only [Nat.add_sub_cancel_left]
/-- The last are the values. -/
theorem tr_v (c : Dev nD) (a : Fin 4096) (k : ℕ) (h : k < 256) : tr m c a (1280 + k) = vr m c a k := by
  unfold tr vr
  rw [Rope.lane_mk _ (1280 + k) (by omega), Rope.lane_mk _ k h]
  refine Finset.sum_congr rfl fun q _ => ?_
  have e : (⟨1280 + k - 1024 - 256, by omega⟩ : Fin 256) = ⟨k, h⟩ := Fin.ext (by show 1280 + k - 1024 - 256 = k; omega)
  unfold wqkv
  have hn : ¬ 1280 + k < 1024 := by omega
  have hp : ¬ 1280 + k - 1024 < 256 := by omega
  rw [dif_neg hn, dif_neg hp]
  simp only [e]

theorem q_pt (c : Dev nD) (t : Fin cfg0.N) (p : Fin 512) (q : Fin 1024) :
    out0_5 (F := Ideal) (iblk m c 0 t) (iblk m c 1 t) (iblk m c 2 t) (iblk m c 3 t) (iblk m c 4 t) (ix2 p q) = G5 m c (ix2 (tok t p) q) := by
  unfold_out out0_5
  frame_out
  refine (pay_q _ _ _ _ _ (tok t p).val p (tr m c (tok t p)) (prod_at m c t p) (fun l h => in2 m c t p ⟨l, h⟩) (fun l h => in3 m c t p ⟨l, h⟩)
    (fun l h => in4 m c t p ⟨l, h⟩) q.val q.isLt).trans ?_
  have e := fwd_slab (tr m c (tok t p)) (qr m c (tok t p)) (tok t p).val 0 1024 q.val rfl rfl q.isLt (tr_q m c (tok t p))
  rw [zero_add] at e
  exact e

theorem w_pt (c : Dev nD) (t : Fin cfg0.N) (p : Fin 512) (q : Fin 2048) :
    out0_6 (F := Ideal) (iblk m c 0 t) (iblk m c 1 t) (iblk m c 2 t) (iblk m c 3 t) (iblk m c 4 t) (ix2 p q) = G6 m c (ix2 (tok t p) q) := by
  refine pay_wide _ _ _ _ _ p (Rope.fwd (kr m c (tok t p)) (tok t p).val) (vr m c (tok t p)) ?_ ?_ q.val q.isLt
  · refine fun k h => pay_k _ _ _ _ (tok t p).val p (kr m c (tok t p)) ?_ (fun l h => in2 m c t p ⟨l, h⟩) (fun l h => in3 m c t p ⟨l, h⟩)
      (fun l h => in4 m c t p ⟨l, h⟩) k h
    intro k h
    rw [pay_kcols, prod_at, tr_k m c _ k h]
  · intro k h
    rw [pay_vcols, prod_at, tr_v m c _ k h]

/-- Result array 5. -/
theorem res5 (c : Dev nD) : (dats m 0 c).arrAt 5 cfg0.N = G5 m c := by
  refine (dats m 0 c).arrAt_eq_of_covers 5 _ (by decide +kernel) fun t hf y => ?_
  blk_simp
  rw [after0_5]
  change S512x1024.Idx at y
  idx_vars y
  refine (q_pt m c t _ _).trans (congrArg (G5 m c) (?_ : _ = ix2 (tok t y0) y1)).symm
  blk_ext [idx0 t]

/-- Result array 6. -/
theorem res6 (c : Dev nD) : (dats m 0 c).arrAt 6 cfg0.N = G6 m c := by
  refine (dats m 0 c).arrAt_eq_of_covers 6 _ (by decide +kernel) fun t hf y => ?_
  blk_simp
  rw [after0_6]
  change S512x2048.Idx at y
  idx_vars y
  refine (w_pt m c t _ _).trans (congrArg (G6 m c) (?_ : _ = ix2 (tok t y0) y1)).symm
  blk_ext [idx0 t]

end Cert.Kernel15Ideal.Block
-- ==== Proof.QkvRopeClaim.lean ====
/- The projections to queries, keys and values leave what their reference returns. -/
module

public import proofs.«01_k».proof.Defs
public import proofs.«01_k».proof.Proof.QkvRopeValue
public import proofs.«01_k».proof.Proof.Gen.Reference15Ideal.Read
public import Idealize.ShloMosaic.Lib.Pointwise
public import Idealize.ShloMosaic.Lib.Tactic

@[expose] public section

set_option maxRecDepth 16384

noncomputable section

namespace Cert.Proof

open Idealize.ShloMosaic Idealize.ShloMosaic.TcCoe Idealize.SL.Sem Cert.Kernel15Ideal.Block Cert.LayerNorm Cert.Reference15Ideal.Read

variable (m : (ℓ : Loc Cert.Kernel15Ideal.nD Cert.Kernel15Ideal.τ Cert.Kernel15Ideal.sig) → Buf (Elt Ideal) ℓ)

/-- The reference's cosine table. -/
theorem qkv_cos (a : Fin 4096) (r : ℕ) (h : r < 8) :
    (val_main_v16 (F := Ideal) : Cert.Reference15Ideal.S4096x8.Idx → EReal) (ix2 a ⟨r, h⟩) = Rope.co a r := by
  unfold val_main_v16 val_main_v15 val_main_v14 val_main_v13 val_main_v12 val_main_v11 val_main_v10 val_main_v9 val_main_cst_2 val_main_v8 val_main_v7 val_main_cst_1 val_main_v6 val_main_v5 val_main_v4 val_main_cst_0 val_main_v3 val_main_v2 val_main_cst val_main_v1 val_main_v0
  pointwise
  rfl

/-- The reference's sine table. -/
theorem qkv_sin (a : Fin 4096) (r : ℕ) (h : r < 8) :
    (val_main_v18 (F := Ideal) : Cert.Reference15Ideal.S4096x8.Idx → EReal) (ix2 a ⟨r, h⟩) = Rope.si a r := by
  unfold val_main_v18 val_main_v15 val_main_v14 val_main_v13 val_main_v12 val_main_v11 val_main_v10 val_main_v9 val_main_cst_2 val_main_v8 val_main_v7 val_main_cst_1 val_main_v6 val_main_v5 val_main_v4 val_main_cst_0 val_main_v3 val_main_v2 val_main_cst val_main_v1 val_main_v0
  pointwise
  rfl

/-- The reference's rotated queries. -/
theorem qkv_q (x : Cert.Reference15Ideal.S4096x1024.Idx → EReal) (w : Cert.Reference15Ideal.S1024x1024.Idx → EReal) (a : Fin 4096) (r : ℕ) (hr : r < 1024)
    (X : ℕ → EReal) (hx : ∀ (k : ℕ) (h : k < 1024), (val_main_v20 (F := Ideal) x w : Cert.Reference15Ideal.S4096x1024.Idx → EReal) (ix2 a ⟨k, h⟩) = X k) :
    val_main_v41 (F := Ideal) x w (ix2 a ⟨r, hr⟩) = Rope.fwd X a (r) := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v19 val_main_v17
  have hc := qkv_cos a
  have hs := qkv_sin a
  revert hc hs hx
  generalize val_main_v16 (F := Ideal) = CO
  generalize val_main_v18 (F := Ideal) = SI
  generalize val_main_v20 (F := Ideal) x w = Y
  intro hx hc hs
  pointwise
  simp only [hx, hc, hs]
  unfold Rope.fwd
  by_cases h8 : r % 64 < 8
  · rw [dif_pos (by omega), dif_pos (by omega), if_pos h8, show r / 64 * 64 + (8 + r % 64) = r + 8 by omega, show r / 64 * 64 + r % 64 = r by omega, mul_neg, sub_eq_add_neg]
  · rw [if_neg h8]
    by_cases h16 : r % 64 < 16
    · rw [dif_pos (by omega), dif_neg (by omega), if_pos h16, show r / 64 * 64 + (8 + (r % 64 - 8)) = r by omega,
        show r / 64 * 64 + (r % 64 - 8) = r - 8 by omega]
    · rw [dif_neg (by omega), if_neg h16, show r / 64 * 64 + (16 + (r % 64 - 16)) = r by omega]

/-- The reference's rotated keys. -/
theorem qkv_k (x : Cert.Reference15Ideal.S4096x1024.Idx → EReal) (w : Cert.Reference15Ideal.S1024x256.Idx → EReal) (a : Fin 4096) (g : ℕ) (hg : g < 4) (l : ℕ) (hl : l < 64)
    (X : ℕ → EReal) (hx : ∀ (k : ℕ) (h : k < 256), (val_main_v42 (F := Ideal) x w : Cert.Reference15Ideal.S4096x256.Idx → EReal) (ix2 a ⟨k, h⟩) = X k) :
    val_main_v63 (F := Ideal) x w (ix3 a ⟨g, hg⟩ ⟨l, hl⟩) = Rope.fwd X a (g * 64 + l) := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v19 val_main_v17
  have hc := qkv_cos a
  have hs := qkv_sin a
  revert hc hs hx
  generalize val_main_v16 (F := Ideal) = CO
  generalize val_main_v18 (F := Ideal) = SI
  generalize val_main_v42 (F := Ideal) x w = Y
  intro hx hc hs
  pointwise
  simp only [hx, hc, hs]
  unfold Rope.fwd
  have e : (g * 64 + l) % 64 = l := by omega
  rw [e]
  by_cases h8 : l < 8
  · rw [dif_pos (by omega), dif_pos (by omega), if_pos h8, show g * 64 + (8 + l) = g * 64 + l + 8 by omega, mul_neg, sub_eq_add_neg]
  · rw [if_neg h8]
    by_cases h16 : l < 16
    · rw [dif_pos (by omega), dif_neg (by omega), if_pos h16, show g * 64 + (8 + (l - 8)) = g * 64 + l by omega,
        show g * 64 + (l - 8) = g * 64 + l - 8 by omega]
    · rw [dif_neg (by omega), if_neg h16, show g * 64 + (16 + (l - 16)) = g * 64 + l by omega]

/-- The queries agree. -/
theorem qkv_q_eq (c : Dev Cert.Kernel15Ideal.nD) : val_main_v75 (F := Ideal) (aX m c) (aWq m c) = G5 m c := by
  funext i
  change Cert.Kernel15Ideal.S4096x1024.Idx at i
  idx_vars i
  refine (qkv_q (aX m c) (aWq m c) i0 i1.val i1.isLt (qr m c i0) ?_)
  intro k h
  unfold qr
  rw [Rope.lane_mk _ k h]
  unfold val_main_v20
  pointwise

/-- The widened keys and values agree. -/
theorem qkv_w_eq (c : Dev Cert.Kernel15Ideal.nD) : val_main_v77 (F := Ideal) (aX m c) (aWk m c) (aWv m c) = G6 m c := by
  funext i
  change Cert.Kernel15Ideal.S4096x2048.Idx at i
  idx_vars i
  obtain ⟨b, hb⟩ := i1
  generalize i0 = a
  have hk : ∀ (g : ℕ) (hg : g < 4) (l : ℕ) (hl : l < 64), (val_main_v63 (F := Ideal) (aX m c) (aWk m c) : Cert.Reference15Ideal.S4096x4x64.Idx → EReal) (ix3 a ⟨g, hg⟩ ⟨l, hl⟩)
      = Rope.fwd (kr m c a) a (g * 64 + l) := fun g hg l hl => by
    refine qkv_k (aX m c) (aWk m c) a g hg l hl (kr m c a) ?_
    intro k h
    unfold kr
    rw [Rope.lane_mk _ k h]
    unfold val_main_v42
    pointwise
  have hv : ∀ (k : ℕ) (h : k < 256), (val_main_v64 (F := Ideal) (aX m c) (aWv m c) : Cert.Reference15Ideal.S4096x256.Idx → EReal) (ix2 a ⟨k, h⟩) = vr m c a k := fun k h => by
    unfold vr
    rw [Rope.lane_mk _ k h]
    unfold val_main_v64
    pointwise
  show _ = wide (Rope.fwd (kr m c a) a) (vr m c a) b
  unfold val_main_v77 val_main_v76 val_main_v74 val_main_v73 val_main_v72 val_main_v71 val_main_v70 val_main_v69 val_main_v68 val_main_v67 val_main_v66 val_main_cst_3 val_main_v65
  revert hk hv
  generalize val_main_v63 (F := Ideal) (aX m c) (aWk m c) = KK
  generalize val_main_v64 (F := Ideal) (aX m c) (aWv m c) = VV
  generalize Rope.fwd (kr m c a) a = KR
  generalize vr m c a = VR
  intro hk hv
  pointwise
  simp only [hk, hv]
  unfold wide
  split_ifs <;> first | rfl | omega | exact congrArg _ (by omega)

/-- The value claim of the projections to queries, keys and values. -/
theorem qkv_rope : algebraic_Kernel15Ideal_Reference15Ideal := by
  intro m g m' g' _ hin
  refine ⟨fun c => G5 m c, fun c => G6 m c, ?_, ?_⟩
  · refine (θ_run Cert.Kernel15Ideal.defs _ _).mono (fun r h c => ?_) (Cert.Kernel15Ideal.Value.run_blocks m g)
    obtain ⟨h0, h1, hk⟩ := h c
    exact ⟨h0.trans (res5 m c), h1.trans (res6 m c), hk⟩
  refine (θ_run Cert.Reference15Ideal.defs _ _).mono (fun r h c => ?_) (Cert.Reference15Ideal.Value.run m' g')
  obtain ⟨h0, h1, hk⟩ := h c
  obtain ⟨e0, e1, e2, e3⟩ := hin c
  refine ⟨?_, ?_, hk⟩
  · rw [h0, val_main_v75_eq, e0, e1]
    exact qkv_q_eq m c
  · rw [h1, val_main_v77_eq, e0, e2, e3]
    exact qkv_w_eq m c

end Cert.Proof
-- ==== Proof.GateLossValue.lean ====
/- What the per-layer embedding's forward call with the loss leaves in its four result arrays. -/
module

public import proofs.«01_k».proof.Proof.Gen.Kernel16Ideal.Value
public import proofs.«01_k».proof.Proof.PleSpec
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel16Ideal.Block

open Cert.Kernel16Ideal Cert.Kernel16Ideal.Gen Idealize.ShloMosaic Idealize.ShloMosaic.TcCoe Idealize.SL.Sem Cert.LayerNorm

variable (m : (ℓ : Loc nD τ sig) → Buf (Elt Ideal) ℓ)

/-- The embeddings. -/
abbrev aP (c : Dev nD) : S4096x256.Idx → EReal := m ((c : Thread nD τ).loc main_arg0)
/-- The projection. -/
abbrev aWp (c : Dev nD) : S256x1024.Idx → EReal := m ((c : Thread nD τ).loc main_arg1)
/-- The tokens. -/
abbrev aX (c : Dev nD) : S4096x1024.Idx → EReal := m ((c : Thread nD τ).loc main_arg2)
/-- The gate's weight. -/
abbrev aWg (c : Dev nD) : S1024x1024.Idx → EReal := m ((c : Thread nD τ).loc main_arg3)

/-- The loss target. -/
abbrev aT (c : Dev nD) : S4096x1024.Idx → EReal := m ((c : Thread nD τ).loc main_arg4)

theorem pay_p (x : Vec Ideal S512x256 .bf16) (W : Vec Ideal S1x256x1024 .bf16) (p : Fin 512) (q : Fin 1024) :
    k0_pay3 x W (ix2 p q) = ∑ k : Fin 256, x (ix2 p k) * W (ix3 0 k q) := by
  unfold k0_pay3
  pointwise

theorem pay_g (x : Vec Ideal S512x1024 .bf16) (W : Vec Ideal S1x1024x1024 .bf16) (p : Fin 512) (q : Fin 1024) :
    k0_pay4 x W (ix2 p q) = ∑ k : Fin 1024, x (ix2 p k) * W (ix3 0 k q) := by
  unfold k0_pay4
  pointwise

theorem pay_e (a : Vec Ideal S512x256 .bf16) (A : Vec Ideal S1x256x1024 .bf16) (x : Vec Ideal S512x1024 .bf16) (W : Vec Ideal S1x1024x1024 .bf16)
    (r s : Vec Ideal S512x1024 .f32) (p : Fin 512) (q : Fin 1024) :
    k0_pay7 a A x W r s (ix2 p q) = r (ix2 p q) + k0_pay3 a A (ix2 p q) * Ideal.div 1 (1 + Ideal.exp (-k0_pay4 x W (ix2 p q))) - s (ix2 p q) := by
  unfold k0_pay7
  generalize k0_pay3 a A = Y
  generalize k0_pay4 x W = Z
  pointwise
  rw [zero_sub]

theorem pay_dy (a : Vec Ideal S512x256 .bf16) (A : Vec Ideal S1x256x1024 .bf16) (x : Vec Ideal S512x1024 .bf16) (W : Vec Ideal S1x1024x1024 .bf16)
    (r s : Vec Ideal S512x1024 .f32) (p : Fin 512) (q : Fin 1024) :
    k0_pay8 a A x W r s (ix2 p q) = k0_pay7 a A x W r s (ix2 p q) * Ideal.ofBits FTy.f32 0x3A800000#32 := by
  unfold k0_pay8
  generalize k0_pay7 a A x W r s = Y
  pointwise

theorem pay_p16 (a : Vec Ideal S512x256 .bf16) (A : Vec Ideal S1x256x1024 .bf16) (p : Fin 512) (q : Fin 1024) :
    k0_pay5 a A (ix2 p q) = k0_pay3 a A (ix2 p q) := by
  unfold k0_pay5
  generalize k0_pay3 a A = Y
  pointwise

theorem pay_g16 (x : Vec Ideal S512x1024 .bf16) (W : Vec Ideal S1x1024x1024 .bf16) (p : Fin 512) (q : Fin 1024) :
    k0_pay6 x W (ix2 p q) = k0_pay4 x W (ix2 p q) := by
  unfold k0_pay6
  generalize k0_pay4 x W = Z
  pointwise

/-- A square is not negative, whatever it is the square of. -/
theorem sq_nonneg (e : EReal) : 0 ≤ e * e := by
  rcases le_total 0 e with h | h
  · exact mul_nonneg h h
  · rw [← neg_mul_neg]
    exact mul_nonneg (EReal.neg_nonneg.mpr h) (EReal.neg_nonneg.mpr h)

/-- A sum of terms that are not negative, times anything, is the sum of the products. -/
theorem sum_mul_nonneg {ι : Type} (s : Finset ι) (f : ι → EReal) (hf : ∀ i, 0 ≤ f i) (k : EReal) :
    (∑ i ∈ s, f i) * k = ∑ i ∈ s, f i * k := by
  classical
  induction s using Finset.induction_on with
  | empty => simp
  | insert a s h ih =>
    rw [Finset.sum_insert h, Finset.sum_insert h, EReal.right_distrib_of_nonneg (hf a) (Finset.sum_nonneg fun i _ => hf i), ih]

theorem pay_l_first (e : Vec Ideal S512x1024 .f32) (q : Fin 1024) :
    k0_pay1 (F := Ideal) e (ix2 0 q) = ∑ p : Fin 512, e (ix2 p q) * e (ix2 p q) * Ideal.ofBits FTy.f32 0x3A000000#32 := by
  rw [← sum_mul_nonneg _ _ fun p => sq_nonneg (e (ix2 p q))]
  unfold k0_pay1
  pointwise

theorem pay_l (e : Vec Ideal S512x1024 .f32) (s : Vec Ideal S1x1024 .f32) (q : Fin 1024) :
    k0_pay2 e s (ix2 0 q) = s (ix2 0 q) + ∑ p : Fin 512, e (ix2 p q) * e (ix2 p q) * Ideal.ofBits FTy.f32 0x3A000000#32 := by
  rw [← pay_l_first]
  unfold k0_pay2
  generalize k0_pay1 (F := Ideal) e = Y
  pointwise

/-- Which block of each window a point has. -/
theorem idx0 : ∀ t : Fin cfg0.N, win0_0.index t = ![t.val, 0] ∧ win0_1.index t = ![0, 0, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] := by decide +kernel

/-- The grid has eight points. -/
theorem tlt (t : Fin cfg0.N) : t.val < 8 := t.isLt
/-- Token row `p` of the point's token tile. -/
abbrev tok (t : Fin cfg0.N) (p : Fin 512) : Fin 4096 := ⟨t.val * 512 + p.val, by have := tlt t; omega⟩

theorem entry0 (c : Dev nD) (a : Fin 4096) (b : Fin 256) :
    (V m c (Pipeline.arrRef spec0 0) : S4096x256.Idx → EReal) (ix2 a b) = aP m c (ix2 a b) := by
  unfold V
  entry_read
  pointwise
theorem in0 (c : Dev nD) (t : Fin cfg0.N) (p : Fin 512) (q : Fin 256) : iblk m c 0 t (ix2 p q) = aP m c (ix2 (tok t p) q) := by
  rw [← entry0]
  blk_ext [iblk, idx0 t]
theorem entry1 (c : Dev nD) (k : Fin 256) (q : Fin 1024) :
    (V m c (Pipeline.arrRef spec0 1) : S1x256x1024.Idx → EReal) (ix3 0 k q) = aWp m c (ix2 k q) := by
  unfold V
  entry_read
  pointwise
theorem in1 (c : Dev nD) (t : Fin cfg0.N) (k : Fin 256) (q : Fin 1024) : iblk m c 1 t (ix3 0 k q) = aWp m c (ix2 k q) := by
  rw [← entry1]
  blk_ext [iblk, idx0 t]
theorem entry2 (c : Dev nD) (a : Fin 4096) (b : Fin 1024) :
    (V m c (Pipeline.arrRef spec0 2) : S4096x1024.Idx → EReal) (ix2 a b) = aX m c (ix2 a b) := by
  unfold V
  entry_read
  pointwise
theorem in2 (c : Dev nD) (t : Fin cfg0.N) (p : Fin 512) (q : Fin 1024) : iblk m c 2 t (ix2 p q) = aX m c (ix2 (tok t p) q) := by
  rw [← entry2]
  blk_ext [iblk, idx0 t]
theorem entry3 (c : Dev nD) (k : Fin 1024) (q : Fin 1024) :
    (V m c (Pipeline.arrRef spec0 3) : S1x1024x1024.Idx → EReal) (ix3 0 k q) = aWg m c (ix2 k q) := by
  unfold V
  entry_read
  pointwise
theorem in3 (c : Dev nD) (t : Fin cfg0.N) (k : Fin 1024) (q : Fin 1024) : iblk m c 3 t (ix3 0 k q) = aWg m c (ix2 k q) := by
  rw [← entry3]
  blk_ext [iblk, idx0 t]
theorem in4 (c : Dev nD) (t : Fin cfg0.N) (p : Fin 512) (q : Fin 1024) : iblk m c 4 t (ix2 p q) = aX m c (ix2 (tok t p) q) := by
  blk_point [iblk, V, idx0 t]

theorem in5 (c : Dev nD) (t : Fin cfg0.N) (p : Fin 512) (q : Fin 1024) : iblk m c 5 t (ix2 p q) = aT m c (ix2 (tok t p) q) := by
  blk_point [iblk, V, idx0 t]

/-- The projected embedding, as an array. -/
def G7 (c : Dev nD) : S4096x1024.Idx → EReal := fun i => ∑ k : Fin 256, aP m c (ix2 (i 0) k) * aWp m c (ix2 k (i 1))
/-- The gate before the logistic function, as an array. -/
def G8 (c : Dev nD) : S4096x1024.Idx → EReal := fun i => ∑ k : Fin 1024, aX m c (ix2 (i 0) k) * aWg m c (ix2 k (i 1))
/-- The distance from the target, as an array. -/
def err (c : Dev nD) : S4096x1024.Idx → EReal := fun i => aX m c i + G7 m c i * Ideal.div 1 (1 + Ideal.exp (-G8 m c i)) - aT m c i
/-- The loss's gradient with respect to the token, as an array. -/
def G6 (c : Dev nD) : S4096x1024.Idx → EReal := fun i => err m c i * Ideal.ofBits FTy.f32 0x3A800000#32
/-- The loss by feature, as an array. -/
def G9 (c : Dev nD) : S1x1024.Idx → EReal := fun i => ∑ a : Fin 4096, err m c (ix2 a (i 1)) * err m c (ix2 a (i 1)) * Ideal.ofBits FTy.f32 0x3A000000#32

/-- The block of distances of one point. -/
abbrev berr (c : Dev nD) (t : Fin cfg0.N) : Vec Ideal S512x1024 .f32 :=
  k0_pay7 (iblk m c 0 t) (iblk m c 1 t) (iblk m c 2 t) (iblk m c 3 t) (iblk m c 4 t) (iblk m c 5 t)
/-- The block of gradients of one point. -/
abbrev bdy (c : Dev nD) (t : Fin cfg0.N) : Vec Ideal S512x1024 .f32 :=
  k0_pay8 (iblk m c 0 t) (iblk m c 1 t) (iblk m c 2 t) (iblk m c 3 t) (iblk m c 4 t) (iblk m c 5 t)
/-- The point before. -/
abbrev prev (c : Dev nD) (t : Fin cfg0.N) := outsAt0 m c (t.val - 1) (Nat.lt_of_le_of_lt (Nat.sub_le _ _) t.isLt)

/-- What the first point leaves. -/
theorem outs_A (c : Dev nD) (t : Fin cfg0.N) (h : t.val = 0) :
    (outsAt0 m c t.val t.isLt).1 = bdy m c t
      ∧ (outsAt0 m c t.val t.isLt).2.1 = k0_pay5 (iblk m c 0 t) (iblk m c 1 t)
      ∧ (outsAt0 m c t.val t.isLt).2.2.1 = k0_pay6 (iblk m c 2 t) (iblk m c 3 t)
      ∧ (outsAt0 m c t.val t.isLt).2.2.2 = k0_pay1 (F := Ideal) (berr m c t) := by
  rw [outsAt0_A m c t (by omega) (by omega)]
  frame_out
  simp only [and_self]

/-- What a later point leaves. -/
theorem outs_B (c : Dev nD) (t : Fin cfg0.N) (h : t.val ≠ 0) :
    (outsAt0 m c t.val t.isLt).1 = bdy m c t
      ∧ (outsAt0 m c t.val t.isLt).2.1 = k0_pay5 (iblk m c 0 t) (iblk m c 1 t)
      ∧ (outsAt0 m c t.val t.isLt).2.2.1 = k0_pay6 (iblk m c 2 t) (iblk m c 3 t)
      ∧ (outsAt0 m c t.val t.isLt).2.2.2 = k0_pay2 (berr m c t) (prev m c t).2.2.2 := by
  have := tlt t
  rw [outsAt0_B m c t (by omega) (by omega)]
  frame_out
  simp only [read_unread_whole, and_self]

/-- After every point the first three output blocks hold the point's own terms. -/
theorem outs_at (c : Dev nD) (t : Fin cfg0.N) :
    (outsAt0 m c t.val t.isLt).1 = bdy m c t
      ∧ (outsAt0 m c t.val t.isLt).2.1 = k0_pay5 (iblk m c 0 t) (iblk m c 1 t)
      ∧ (outsAt0 m c t.val t.isLt).2.2.1 = k0_pay6 (iblk m c 2 t) (iblk m c 3 t) := by
  by_cases h : t.val = 0
  · obtain ⟨a, b, d, _⟩ := outs_A m c t h
    exact ⟨a, b, d⟩
  · obtain ⟨a, b, d, _⟩ := outs_B m c t h
    exact ⟨a, b, d⟩

theorem p_pt (c : Dev nD) (t : Fin cfg0.N) (p : Fin 512) (q : Fin 1024) :
    k0_pay3 (iblk m c 0 t) (iblk m c 1 t) (ix2 p q) = G7 m c (ix2 (tok t p) q) := by
  rw [pay_p]
  simp only [in0, in1]
  rfl
theorem g_pt (c : Dev nD) (t : Fin cfg0.N) (p : Fin 512) (q : Fin 1024) :
    k0_pay4 (iblk m c 2 t) (iblk m c 3 t) (ix2 p q) = G8 m c (ix2 (tok t p) q) := by
  rw [pay_g]
  simp only [in2, in3]
  rfl
theorem e_pt (c : Dev nD) (t : Fin cfg0.N) (p : Fin 512) (q : Fin 1024) : berr m c t (ix2 p q) = err m c (ix2 (tok t p) q) := by
  unfold berr
  rw [pay_e, p_pt, g_pt, in4, in5]
  rfl
theorem dy_pt (c : Dev nD) (t : Fin cfg0.N) (p : Fin 512) (q : Fin 1024) : bdy m c t (ix2 p q) = G6 m c (ix2 (tok t p) q) := by
  unfold bdy
  exact (pay_dy ..).trans (congrArg (· * Ideal.ofBits FTy.f32 0x3A800000#32) (e_pt m c t p q))
theorem p16_pt (c : Dev nD) (t : Fin cfg0.N) (p : Fin 512) (q : Fin 1024) :
    k0_pay5 (iblk m c 0 t) (iblk m c 1 t) (ix2 p q) = G7 m c (ix2 (tok t p) q) := (pay_p16 ..).trans (p_pt ..)
theorem g16_pt (c : Dev nD) (t : Fin cfg0.N) (p : Fin 512) (q : Fin 1024) :
    k0_pay6 (iblk m c 2 t) (iblk m c 3 t) (ix2 p q) = G8 m c (ix2 (tok t p) q) := (pay_g16 ..).trans (g_pt ..)

/-- A run over the eight points of a cell written first and added to afterwards is a sum over all tokens. -/
theorem run_sum {β : Type} (f : (n : ℕ) → n < cfg0.N → β → EReal) (F : Fin 4096 → β → EReal)
    (h0 : ∀ t : Fin cfg0.N, t.val = 0 → ∀ i, f t.val t.isLt i = ∑ p : Fin 512, F (tok t p) i)
    (hs : ∀ t : Fin cfg0.N, t.val ≠ 0 → ∀ i, f t.val t.isLt i = f (t.val - 1) (Nat.lt_of_le_of_lt (Nat.sub_le _ _) t.isLt) i + ∑ p : Fin 512, F (tok t p) i)
    (t : Fin cfg0.N) (h7 : t.val = 7) (i : β) : f t.val t.isLt i = ∑ a : Fin 4096, F a i := by
  have key := Pipeline.eq_sum_fin_of_reset_step_apply_of_flush f 8 (fun _ => (0 : EReal))
    (fun t i => ∑ p : Fin 512, F (tok t p) i)
    (fun t h i => by rw [h0 t (by have := tlt t; omega) i, zero_add])
    (fun t h i => hs t (by omega) i) t (by omega) i
  rw [key, zero_add]
  refine Fin.sum_mul_add_congr fun s k hl => ?_
  refine congrArg (fun a => F a i) (Fin.ext ?_)
  show (8 * (t.val / 8) + s.val) * 512 + k.val = s.val * 512 + k.val
  rw [h7]; omega

theorem loss_at (c : Dev nD) (t : Fin cfg0.N) (h7 : t.val = 7) (q : Fin 1024) : (outsAt0 m c t.val t.isLt).2.2.2 (ix2 0 q) = G9 m c (ix2 0 q) := by
  refine run_sum (fun n h (q : Fin 1024) => (outsAt0 m c n h).2.2.2 (ix2 0 q))
    (fun a q => err m c (ix2 a q) * err m c (ix2 a q) * Ideal.ofBits FTy.f32 0x3A000000#32) ?_ ?_ t h7 q
  · intro t h q
    rw [(outs_A m c t h).2.2.2, pay_l_first]
    simp only [e_pt]
  · intro t h q
    rw [(outs_B m c t h).2.2.2, pay_l]
    simp only [e_pt]

/-- Result array 6. -/
theorem res6 (c : Dev nD) : (dats m 0 c).arrAt 6 cfg0.N = G6 m c := by
  refine (dats m 0 c).arrAt_eq_of_covers 6 _ (by decide +kernel) fun t hf y => ?_
  blk_simp
  rw [after0_6, (outs_at m c t).1]
  change S512x1024.Idx at y
  idx_vars y
  refine (dy_pt m c t _ _).trans (congrArg (G6 m c) (?_ : _ = ix2 (tok t y0) y1)).symm
  blk_ext [idx0 t]

/-- Result array 7. -/
theorem res7 (c : Dev nD) : (dats m 0 c).arrAt 7 cfg0.N = G7 m c := by
  refine (dats m 0 c).arrAt_eq_of_covers 7 _ (by decide +kernel) fun t hf y => ?_
  blk_simp
  rw [after0_7, (outs_at m c t).2.1]
  change S512x1024.Idx at y
  idx_vars y
  refine (p16_pt m c t _ _).trans (congrArg (G7 m c) (?_ : _ = ix2 (tok t y0) y1)).symm
  blk_ext [idx0 t]

/-- Result array 8. -/
theorem res8 (c : Dev nD) : (dats m 0 c).arrAt 8 cfg0.N = G8 m c := by
  refine (dats m 0 c).arrAt_eq_of_covers 8 _ (by decide +kernel) fun t hf y => ?_
  blk_simp
  rw [after0_8, (outs_at m c t).2.2]
  change S512x1024.Idx at y
  idx_vars y
  refine (g16_pt m c t _ _).trans (congrArg (G8 m c) (?_ : _ = ix2 (tok t y0) y1)).symm
  blk_ext [idx0 t]

/-- Result array 9. -/
theorem res9 (c : Dev nD) : (dats m 0 c).arrAt 9 cfg0.N = G9 m c := by
  refine (dats m 0 c).arrAt_eq_of_covers 9 _ (by decide +kernel) fun t hf y => ?_
  have h7 : t.val = 7 := by have := tlt t; have := (flush0_9 t).mp hf; omega
  blk_simp
  rw [after0_9]
  change S1x1024.Idx at y
  idx_vars y
  obtain rfl : y0 = 0 := Subsingleton.elim _ _
  refine (loss_at m c t h7 _).trans (congrArg (G9 m c) (?_ : _ = ix2 0 y1)).symm
  blk_ext [idx0 t]

end Cert.Kernel16Ideal.Block
-- ==== Proof.GateLossClaim.lean ====
/- The per-layer embedding's forward call with the loss and its reference end holding the same arrays. -/
module

public import proofs.«01_k».proof.Defs
public import proofs.«01_k».proof.Proof.GateLossValue
public import proofs.«01_k».proof.Proof.Gen.Reference16Ideal.Read
public import Idealize.ShloMosaic.Lib.Tactic

@[expose] public section

set_option maxRecDepth 16384

noncomputable section

namespace Cert.Proof

open Idealize.ShloMosaic Idealize.ShloMosaic.TcCoe Idealize.SL.Sem Cert.Kernel16Ideal.Block Cert.LayerNorm Cert.Reference16Ideal.Read

variable (m : (ℓ : Loc Cert.Kernel16Ideal.nD Cert.Kernel16Ideal.τ Cert.Kernel16Ideal.sig) → Buf (Elt Ideal) ℓ)

theorem loss_p (c : Dev Cert.Kernel16Ideal.nD) : val_main_v0 (F := Ideal) (aP m c) (aWp m c) = G7 m c := by
  funext i
  change Cert.Kernel16Ideal.S4096x1024.Idx at i
  idx_vars i
  unfold val_main_v0 G7
  pointwise

theorem loss_g (c : Dev Cert.Kernel16Ideal.nD) : val_main_v1 (F := Ideal) (aX m c) (aWg m c) = G8 m c := by
  funext i
  change Cert.Kernel16Ideal.S4096x1024.Idx at i
  idx_vars i
  unfold val_main_v1 G8
  pointwise

theorem lit_half : Ideal.ofBits FTy.f32 0x3F000000#32 = ((1 / 2 : ℝ) : EReal) := by
  simp [Ideal.ofBits, Ideal.ieee, -EReal.coe_mul]; norm_num
theorem lit_len : Ideal.ofBits FTy.f32 0x44800000#32 = ((1024 : ℝ) : EReal) := by
  simp [Ideal.ofBits, Ideal.ieee, -EReal.coe_mul]; norm_num
theorem lit_inv : Ideal.ofBits FTy.f32 0x3A800000#32 = ((1 / 1024 : ℝ) : EReal) := by
  simp [Ideal.ofBits, Ideal.ieee, -EReal.coe_mul]; norm_num
theorem lit_half_inv : Ideal.ofBits FTy.f32 0x3A000000#32 = ((1 / 2048 : ℝ) : EReal) := by
  simp [Ideal.ofBits, Ideal.ieee, -EReal.coe_mul]; norm_num
theorem lit_two : Ideal.ofBits FTy.f32 0x40000000#32 = ((2 : ℝ) : EReal) := by
  simp [Ideal.ofBits, Ideal.ieee, -EReal.coe_mul]; norm_num

/-- The distance from the target, first and second time the reference takes it. -/
theorem loss_err (c : Dev Cert.Kernel16Ideal.nD) : val_main_v10 (F := Ideal) (aP m c) (aWp m c) (aX m c) (aWg m c) (aT m c) = err m c := by
  funext i
  change Cert.Kernel16Ideal.S4096x1024.Idx at i
  idx_vars i
  unfold val_main_v10 val_main_v9 val_main_v8 val_main_v7 val_main_v6 val_main_cst_0 val_main_v5 val_main_v4 val_main_cst val_main_v3 val_main_v2 err
  rw [loss_p, loss_g]
  generalize G7 m c = P
  generalize G8 m c = G
  pointwise
theorem loss_err2 (c : Dev Cert.Kernel16Ideal.nD) : val_main_v27 (F := Ideal) (aP m c) (aWp m c) (aX m c) (aWg m c) (aT m c) = err m c := loss_err m c

theorem loss_dy (c : Dev Cert.Kernel16Ideal.nD) : val_main_v24 (F := Ideal) (aP m c) (aWp m c) (aX m c) (aWg m c) (aT m c) = G6 m c := by
  funext i
  change Cert.Kernel16Ideal.S4096x1024.Idx at i
  idx_vars i
  unfold val_main_v24 val_main_v23 val_main_v22 val_main_v21 val_main_cst_8 val_main_v20 val_main_v19 val_main_cst_6 val_main_cst_7 val_main_v13 val_main_v12 val_main_cst_1 G6
  rw [loss_err]
  generalize err m c = E
  pointwise
  rw [lit_half, lit_len, lit_two, lit_inv, Ideal.div_coe (by norm_num), ← mul_assoc, mul_comm]
  simp only [mul_one, ← EReal.coe_mul]
  norm_num

theorem loss_row (c : Dev Cert.Kernel16Ideal.nD) : val_main_v34 (F := Ideal) (aP m c) (aWp m c) (aX m c) (aWg m c) (aT m c) = G9 m c := by
  funext i
  change Cert.Kernel16Ideal.S1x1024.Idx at i
  idx_vars i
  obtain rfl : i0 = 0 := Subsingleton.elim _ _
  unfold val_main_v34 val_main_v33 val_main_cst_11 val_main_v32 val_main_v31 val_main_cst_10 val_main_v30 val_main_v29 val_main_cst_9 val_main_v28 G9
  rw [loss_err2]
  generalize err m c = E
  pointwise
  simp only [lit_half, lit_len, lit_half_inv, Ideal.div_coe (show (1024 : ℝ) ≠ 0 by norm_num)]
  rw [← sum_mul_nonneg _ _ fun a => sq_nonneg _, ← sum_mul_nonneg _ _ fun a => sq_nonneg _, mul_comm, mul_assoc, ← EReal.coe_mul]
  norm_num

theorem loss_p16 (c : Dev Cert.Kernel16Ideal.nD) : val_main_v25 (F := Ideal) (aP m c) (aWp m c) = G7 m c := by
  funext i
  change Cert.Kernel16Ideal.S4096x1024.Idx at i
  idx_vars i
  unfold val_main_v25
  rw [loss_p]
  generalize G7 m c = P
  pointwise

theorem loss_g16 (c : Dev Cert.Kernel16Ideal.nD) : val_main_v26 (F := Ideal) (aX m c) (aWg m c) = G8 m c := by
  funext i
  change Cert.Kernel16Ideal.S4096x1024.Idx at i
  idx_vars i
  unfold val_main_v26
  rw [loss_g]
  generalize G8 m c = P
  pointwise

/-- The value claim of the per-layer embedding's forward call with the loss. -/
theorem ple_loss : algebraic_Kernel16Ideal_Reference16Ideal := by
  intro m g m' g' _ hin
  refine ⟨fun c => G6 m c, fun c => G7 m c, fun c => G8 m c, fun c => G9 m c, ?_, ?_⟩
  · refine (θ_run Cert.Kernel16Ideal.defs _ _).mono (fun r h c => ?_) (Cert.Kernel16Ideal.Value.run_blocks m g)
    obtain ⟨h0, h1, h2, h3, hk⟩ := h c
    exact ⟨h0.trans (res6 m c), h1.trans (res7 m c), h2.trans (res8 m c), h3.trans (res9 m c), hk⟩
  refine (θ_run Cert.Reference16Ideal.defs _ _).mono (fun r h c => ?_) (Cert.Reference16Ideal.Value.run m' g')
  obtain ⟨h0, h1, h2, h3, hk⟩ := h c
  obtain ⟨e0, e1, e2, e3, e4⟩ := hin c
  refine ⟨?_, ?_, ?_, ?_, hk⟩
  · rw [h0, e0, e1, e2, e3, e4]
    exact (val_main_v24_eq ..).trans (loss_dy m c)
  · rw [h1, e0, e1]
    exact (val_main_v25_eq ..).trans (loss_p16 m c)
  · rw [h2, e2, e3]
    exact (val_main_v26_eq ..).trans (loss_g16 m c)
  · rw [h3, e0, e1, e2, e3, e4]
    exact (val_main_v34_eq ..).trans (loss_row m c)

end Cert.Proof
-- ==== Proof.lean ====
/- The claims of this certificate, assembled. -/
module

public import proofs.«01_k».proof.Defs
public import proofs.«01_k».proof.Proof.Gen.Kernel.Frame
public import proofs.«01_k».proof.Proof.PleClaim
public import proofs.«01_k».proof.Proof.Gen.Pre_finite
public import proofs.«01_k».proof.Proof.Gen.Kernel2.Frame
public import proofs.«01_k».proof.Proof.MlpClaim
public import proofs.«01_k».proof.Proof.Gen.Kernel3.Frame
public import proofs.«01_k».proof.Proof.DxClaim
public import proofs.«01_k».proof.Proof.Gen.Pre_finite3
public import proofs.«01_k».proof.Proof.Gen.Kernel4.Frame
public import proofs.«01_k».proof.Proof.UpClaim
public import proofs.«01_k».proof.Proof.Gen.Kernel5.Frame
public import proofs.«01_k».proof.Proof.DownClaim
public import proofs.«01_k».proof.Proof.Gen.Kernel6.Frame
public import proofs.«01_k».proof.Proof.ConvDsClaim
public import proofs.«01_k».proof.Proof.Gen.Pre_finite6
public import proofs.«01_k».proof.Proof.Gen.Kernel7.Frame
public import proofs.«01_k».proof.Proof.AttnDoClaim
public import proofs.«01_k».proof.Proof.Gen.Kernel8.Frame
public import proofs.«01_k».proof.Proof.WinGradClaim
public import proofs.«01_k».proof.Proof.Gen.Kernel9.Frame
public import proofs.«01_k».proof.Proof.ConvDxClaim
public import proofs.«01_k».proof.Proof.Gen.Kernel10.Frame
public import proofs.«01_k».proof.Proof.ConvOutClaim
public import proofs.«01_k».proof.Proof.Gen.Kernel11.Frame
public import proofs.«01_k».proof.Proof.AttnOutClaim
public import proofs.«01_k».proof.Proof.Gen.Kernel12.Frame
public import proofs.«01_k».proof.Proof.GateClaim
public import proofs.«01_k».proof.Proof.Gen.Kernel13.Frame
public import proofs.«01_k».proof.Proof.GluClaim
public import proofs.«01_k».proof.Proof.Gen.Kernel14.Frame
public import proofs.«01_k».proof.Proof.AttnDxClaim
public import proofs.«01_k».proof.Proof.Gen.Kernel15.Frame
public import proofs.«01_k».proof.Proof.QkvRopeClaim
public import proofs.«01_k».proof.Proof.Gen.Kernel16.Frame
public import proofs.«01_k».proof.Proof.GateLossClaim
public import Idealize.ShloMosaic.Adequacy
public import Idealize.ShloMosaic.Init

@[expose] public section

noncomputable section

namespace Cert.Proof

open Idealize.ShloMosaic Idealize.SL.Sem

/-- The ple kernel runs to the end, its arguments unchanged and every counter at zero. -/
theorem ple_frame : quiescent_Kernel := fun m ρ _ => Cert.Kernel.Gen.frame m ρ

/-- The same of its idealization. -/
theorem ple_frame_ideal : quiescent_KernelIdeal := fun m ρ _ => Cert.KernelIdeal.Gen.frame m ρ

/-- The same of its reference, which declares no semaphore. -/
theorem ple_frame_ref : quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The frame of the idealization under the precondition. -/
theorem ple_frame_ideal_pre : quiescent_KernelIdeal_pre_finite := fun m ρ _ => ple_frame_ideal m ρ trivial

/-- The frame of the reference under the precondition. -/
theorem ple_frame_ref_pre : quiescent_ReferenceIdeal_pre_finite := fun m ρ _ => ple_frame_ref m ρ trivial

/-- The mlp kernel runs to the end, its arguments unchanged and every counter at zero. -/
theorem mlp_frame : quiescent_Kernel2 := fun m ρ _ => Cert.Kernel2.Gen.frame m ρ

/-- The same of its idealization. -/
theorem mlp_frame_ideal : quiescent_Kernel2Ideal := fun m ρ _ => Cert.Kernel2Ideal.Gen.frame m ρ

/-- The same of its reference, which declares no semaphore. -/
theorem mlp_frame_ref : quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The mlp_dx kernel runs to the end, its arguments unchanged and every counter at zero. -/
theorem mlp_dx_frame : quiescent_Kernel3 := fun m ρ _ => Cert.Kernel3.Gen.frame m ρ

/-- The same of its idealization. -/
theorem mlp_dx_frame_ideal : quiescent_Kernel3Ideal := fun m ρ _ => Cert.Kernel3Ideal.Gen.frame m ρ

/-- The same of its reference, which declares no semaphore. -/
theorem mlp_dx_frame_ref : quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The frame of the idealization under the precondition. -/
theorem mlp_dx_frame_ideal_pre : quiescent_Kernel3Ideal_pre_finite3 := fun m ρ _ => mlp_dx_frame_ideal m ρ trivial

/-- The frame of the reference under the precondition. -/
theorem mlp_dx_frame_ref_pre : quiescent_Reference3Ideal_pre_finite3 := fun m ρ _ => mlp_dx_frame_ref m ρ trivial

/-- The mlp_up kernel runs to the end, its arguments unchanged and every counter at zero. -/
theorem mlp_up_frame : quiescent_Kernel4 := fun m ρ _ => Cert.Kernel4.Gen.frame m ρ

/-- The same of its idealization. -/
theorem mlp_up_frame_ideal : quiescent_Kernel4Ideal := fun m ρ _ => Cert.Kernel4Ideal.Gen.frame m ρ

/-- The same of its reference, which declares no semaphore. -/
theorem mlp_up_frame_ref : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The mlp_down kernel runs to the end, its arguments unchanged and every counter at zero. -/
theorem mlp_down_frame : quiescent_Kernel5 := fun m ρ _ => Cert.Kernel5.Gen.frame m ρ

/-- The same of its idealization. -/
theorem mlp_down_frame_ideal : quiescent_Kernel5Ideal := fun m ρ _ => Cert.Kernel5Ideal.Gen.frame m ρ

/-- The same of its reference, which declares no semaphore. -/
theorem mlp_down_frame_ref : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The conv_ds kernel runs to the end, its arguments unchanged and every counter at zero. -/
theorem conv_ds_frame : quiescent_Kernel6 := fun m ρ _ => Cert.Kernel6.Gen.frame m ρ

/-- The same of its idealization. -/
theorem conv_ds_frame_ideal : quiescent_Kernel6Ideal := fun m ρ _ => Cert.Kernel6Ideal.Gen.frame m ρ

/-- The same of its reference, which declares no semaphore. -/
theorem conv_ds_frame_ref : quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The frame of the idealization under the precondition. -/
theorem conv_ds_frame_ideal_pre : quiescent_Kernel6Ideal_pre_finite6 := fun m ρ _ => conv_ds_frame_ideal m ρ trivial

/-- The frame of the reference under the precondition. -/
theorem conv_ds_frame_ref_pre : quiescent_Reference6Ideal_pre_finite6 := fun m ρ _ => conv_ds_frame_ref m ρ trivial

/-- The attn_do kernel runs to the end, its arguments unchanged and every counter at zero. -/
theorem attn_do_frame : quiescent_Kernel7 := fun m ρ _ => Cert.Kernel7.Gen.frame m ρ

/-- The same of its idealization. -/
theorem attn_do_frame_ideal : quiescent_Kernel7Ideal := fun m ρ _ => Cert.Kernel7Ideal.Gen.frame m ρ

/-- The same of its reference, which declares no semaphore. -/
theorem attn_do_frame_ref : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The conv_dw kernel runs to the end, its arguments unchanged and every counter at zero. -/
theorem conv_dw_frame : quiescent_Kernel8 := fun m ρ _ => Cert.Kernel8.Gen.frame m ρ

/-- The same of its idealization. -/
theorem conv_dw_frame_ideal : quiescent_Kernel8Ideal := fun m ρ _ => Cert.Kernel8Ideal.Gen.frame m ρ

/-- The same of its reference, which declares no semaphore. -/
theorem conv_dw_frame_ref : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The conv_dx kernel runs to the end, its arguments unchanged and every counter at zero. -/
theorem conv_dx_frame : quiescent_Kernel9 := fun m ρ _ => Cert.Kernel9.Gen.frame m ρ

/-- The same of its idealization. -/
theorem conv_dx_frame_ideal : quiescent_Kernel9Ideal := fun m ρ _ => Cert.Kernel9Ideal.Gen.frame m ρ

/-- The same of its reference, which declares no semaphore. -/
theorem conv_dx_frame_ref : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The conv_out kernel runs to the end, its arguments unchanged and every counter at zero. -/
theorem conv_out_frame : quiescent_Kernel10 := fun m ρ _ => Cert.Kernel10.Gen.frame m ρ

/-- The same of its idealization. -/
theorem conv_out_frame_ideal : quiescent_Kernel10Ideal := fun m ρ _ => Cert.Kernel10Ideal.Gen.frame m ρ

/-- The same of its reference, which declares no semaphore. -/
theorem conv_out_frame_ref : quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The attn_out kernel runs to the end, its arguments unchanged and every counter at zero. -/
theorem attn_out_frame : quiescent_Kernel11 := fun m ρ _ => Cert.Kernel11.Gen.frame m ρ

/-- The same of its idealization. -/
theorem attn_out_frame_ideal : quiescent_Kernel11Ideal := fun m ρ _ => Cert.Kernel11Ideal.Gen.frame m ρ

/-- The same of its reference, which declares no semaphore. -/
theorem attn_out_frame_ref : quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The ple_gate kernel runs to the end, its arguments unchanged and every counter at zero. -/
theorem ple_gate_frame : quiescent_Kernel12 := fun m ρ _ => Cert.Kernel12.Gen.frame m ρ

/-- The same of its idealization. -/
theorem ple_gate_frame_ideal : quiescent_Kernel12Ideal := fun m ρ _ => Cert.Kernel12Ideal.Gen.frame m ρ

/-- The same of its reference, which declares no semaphore. -/
theorem ple_gate_frame_ref : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The conv_glu kernel runs to the end, its arguments unchanged and every counter at zero. -/
theorem conv_glu_frame : quiescent_Kernel13 := fun m ρ _ => Cert.Kernel13.Gen.frame m ρ

/-- The same of its idealization. -/
theorem conv_glu_frame_ideal : quiescent_Kernel13Ideal := fun m ρ _ => Cert.Kernel13Ideal.Gen.frame m ρ

/-- The same of its reference, which declares no semaphore. -/
theorem conv_glu_frame_ref : quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The attn_dx kernel runs to the end, its arguments unchanged and every counter at zero. -/
theorem attn_dx_frame : quiescent_Kernel14 := fun m ρ _ => Cert.Kernel14.Gen.frame m ρ

/-- The same of its idealization. -/
theorem attn_dx_frame_ideal : quiescent_Kernel14Ideal := fun m ρ _ => Cert.Kernel14Ideal.Gen.frame m ρ

/-- The same of its reference, which declares no semaphore. -/
theorem attn_dx_frame_ref : quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- The qkv_rope kernel runs to the end, its arguments unchanged and every counter at zero. -/
theorem qkv_rope_frame : quiescent_Kernel15 := fun m ρ _ => Cert.Kernel15.Gen.frame m ρ

/-- The same of its idealization. -/
theorem qkv_rope_frame_ideal : quiescent_Kernel15Ideal := fun m ρ _ => Cert.Kernel15Ideal.Gen.frame m ρ

/-- The same of its reference, which declares no semaphore. -/
theorem qkv_rope_frame_ref : quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- The ple_loss kernel runs to the end, its arguments unchanged and every counter at zero. -/
theorem ple_loss_frame : quiescent_Kernel16 := fun m ρ _ => Cert.Kernel16.Gen.frame m ρ

/-- The same of its idealization. -/
theorem ple_loss_frame_ideal : quiescent_Kernel16Ideal := fun m ρ _ => Cert.Kernel16Ideal.Gen.frame m ρ

/-- The same of its reference, which declares no semaphore. -/
theorem ple_loss_frame_ref : quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite.Gen.facts, Cert.Pre_finite3.Gen.facts, Cert.Pre_finite6.Gen.facts,
  ple_frame, ple_frame_ideal, ple_frame_ideal_pre, ple_frame_ref, ple_frame_ref_pre, mlp_frame, mlp_frame_ideal, mlp_frame_ref, mlp_dx_frame, mlp_dx_frame_ideal, mlp_dx_frame_ideal_pre, mlp_dx_frame_ref, mlp_dx_frame_ref_pre, mlp_up_frame, mlp_up_frame_ideal, mlp_up_frame_ref, mlp_down_frame, mlp_down_frame_ideal, mlp_down_frame_ref, conv_ds_frame, conv_ds_frame_ideal, conv_ds_frame_ideal_pre, conv_ds_frame_ref, conv_ds_frame_ref_pre, attn_do_frame, attn_do_frame_ideal, attn_do_frame_ref, conv_dw_frame, conv_dw_frame_ideal, conv_dw_frame_ref, conv_dx_frame, conv_dx_frame_ideal, conv_dx_frame_ref, conv_out_frame, conv_out_frame_ideal, conv_out_frame_ref, attn_out_frame, attn_out_frame_ideal, attn_out_frame_ref, ple_gate_frame, ple_gate_frame_ideal, ple_gate_frame_ref, conv_glu_frame, conv_glu_frame_ideal, conv_glu_frame_ref, attn_dx_frame, attn_dx_frame_ideal, attn_dx_frame_ref, qkv_rope_frame, qkv_rope_frame_ideal, qkv_rope_frame_ref, ple_loss_frame, ple_loss_frame_ideal, ple_loss_frame_ref, trivial, ple, trivial, mlp, trivial, mlp_dx, trivial, mlp_up, trivial, mlp_down, trivial, conv_ds, trivial, attn_do, trivial, conv_dw, trivial, conv_dx, trivial, conv_out, trivial, attn_out, trivial, ple_gate, trivial, conv_glu, trivial, attn_dx, trivial, qkv_rope, trivial, ple_loss⟩

end Cert.Proof

end
